-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_InProjT (m : (ℓ : Loc Cert.InProjT.nD Cert.InProjT.τ Cert.InProjT.sig) → Buf (Elt Bits) ℓ) : Prop :=
  True

def Pre_InProjTIdeal (m : (ℓ : Loc Cert.InProjTIdeal.nD Cert.InProjTIdeal.τ Cert.InProjTIdeal.sig) → Buf (Elt Ideal) ℓ) : Prop :=
  True

def Pre_InProjTRefIdeal (m : (ℓ : Loc Cert.InProjTRefIdeal.nD Cert.InProjTRefIdeal.τ Cert.InProjTRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjGates (m : (ℓ : Loc Cert.InProjGates.nD Cert.InProjGates.τ Cert.InProjGates.sig) → Buf (Elt Bits) ℓ) : Prop :=
  True

def Pre_InProjGatesIdeal (m : (ℓ : Loc Cert.InProjGatesIdeal.nD Cert.InProjGatesIdeal.τ Cert.InProjGatesIdeal.sig) → Buf (Elt Ideal) ℓ) : Prop :=
  True

def Pre_InProjGatesRefIdeal (m : (ℓ : Loc Cert.InProjGatesRefIdeal.nD Cert.InProjGatesRefIdeal.τ Cert.InProjGatesRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_InProjIdx (m : (ℓ : Loc Cert.InProjIdx.nD Cert.InProjIdx.τ Cert.InProjIdx.sig) → Buf (Elt Bits) ℓ) : Prop :=
  True

def Pre_InProjIdxIdeal (m : (ℓ : Loc Cert.InProjIdxIdeal.nD Cert.InProjIdxIdeal.τ Cert.InProjIdxIdeal.sig) → Buf (Elt Ideal) ℓ) : Prop :=
  True

def Pre_InProjIdxRefIdeal (m : (ℓ : Loc Cert.InProjIdxRefIdeal.nD Cert.InProjIdxRefIdeal.τ Cert.InProjIdxRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10))
      ∧ r.2.sem = fun _ => 0)

def quiescent_InProjT [hInProjT : Cert.InProjT.Facts] : Prop :=
  ∀ (m : (ℓ : Loc Cert.InProjT.nD Cert.InProjT.τ Cert.InProjT.sig) → Buf (Elt Bits) ℓ) (g : Dev Cert.InProjT.nD → PrngReg), Pre_InProjT m →
    θ_run (Cert.InProjT.defs (F := Bits)) (onTc (τ := Cert.InProjT.τ) (Cert.InProjT.main (F := Bits))) ⟨m, fun _ => 0, g⟩ (fun r => (∀ c : Dev Cert.InProjT.nD,
      r.2.mem ((c.tc : Thread Cert.InProjT.nD Cert.InProjT.τ).loc Cert.InProjT.main_arg0) = m ((c.tc : Thread Cert.InProjT.nD Cert.InProjT.τ).loc Cert.InProjT.main_arg0)
      ∧ r.2.mem ((c.tc : Thread Cert.InProjT.nD Cert.InProjT.τ).loc Cert.InProjT.main_arg1) = m ((c.tc : Thread Cert.InProjT.nD Cert.InProjT.τ).loc Cert.InProjT.main_arg1))
      ∧ r.2.sem = fun _ => 0)

def quiescent_InProjTIdeal [hInProjTIdeal : Cert.InProjTIdeal.Facts] : Prop :=
  ∀ (m : (ℓ : Loc Cert.InProjTIdeal.nD Cert.InProjTIdeal.τ Cert.InProjTIdeal.sig) → Buf (Elt Ideal) ℓ) (g : Dev Cert.InProjTIdeal.nD → PrngReg), Pre_InProjTIdeal m →
    θ_run (Cert.InProjTIdeal.defs (F := Ideal)) (onTc (τ := Cert.InProjTIdeal.τ) (Cert.InProjTIdeal.main (F := Ideal))) ⟨m, fun _ => 0, g⟩ (fun r => (∀ c : Dev Cert.InProjTIdeal.nD,
      r.2.mem ((c.tc : Thread Cert.InProjTIdeal.nD Cert.InProjTIdeal.τ).loc Cert.InProjTIdeal.main_arg0) = m ((c.tc : Thread Cert.InProjTIdeal.nD Cert.InProjTIdeal.τ).loc Cert.InProjTIdeal.main_arg0)
      ∧ r.2.mem ((c.tc : Thread Cert.InProjTIdeal.nD Cert.InProjTIdeal.τ).loc Cert.InProjTIdeal.main_arg1) = m ((c.tc : Thread Cert.InProjTIdeal.nD Cert.InProjTIdeal.τ).loc Cert.InProjTIdeal.main_arg1))
      ∧ r.2.sem = fun _ => 0)

def quiescent_InProjTRefIdeal [hInProjTRefIdeal : Cert.InProjTRefIdeal.Facts] : Prop :=
  ∀ (m : (ℓ : Loc Cert.InProjTRefIdeal.nD Cert.InProjTRefIdeal.τ Cert.InProjTRefIdeal.sig) → Buf (Elt Ideal) ℓ) (g : Dev Cert.InProjTRefIdeal.nD → PrngReg), Pre_InProjTRefIdeal m →
    θ_run (Cert.InProjTRefIdeal.defs (F := Ideal)) (onTc (τ := Cert.InProjTRefIdeal.τ) (Cert.InProjTRefIdeal.main (F := Ideal))) ⟨m, fun _ => 0, g⟩ (fun r => (∀ c : Dev Cert.InProjTRefIdeal.nD,
      r.2.mem ((c.tc : Thread Cert.InProjTRefIdeal.nD Cert.InProjTRefIdeal.τ).loc Cert.InProjTRefIdeal.main_arg0) = m ((c.tc : Thread Cert.InProjTRefIdeal.nD Cert.InProjTRefIdeal.τ).loc Cert.InProjTRefIdeal.main_arg0)
      ∧ r.2.mem ((c.tc : Thread Cert.InProjTRefIdeal.nD Cert.InProjTRefIdeal.τ).loc Cert.InProjTRefIdeal.main_arg1) = m ((c.tc : Thread Cert.InProjTRefIdeal.nD Cert.InProjTRefIdeal.τ).loc Cert.InProjTRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjGates [hInProjGates : Cert.InProjGates.Facts] : Prop :=
  ∀ (m : (ℓ : Loc Cert.InProjGates.nD Cert.InProjGates.τ Cert.InProjGates.sig) → Buf (Elt Bits) ℓ) (g : Dev Cert.InProjGates.nD → PrngReg), Pre_InProjGates m →
    θ_run (Cert.InProjGates.defs (F := Bits)) (onTc (τ := Cert.InProjGates.τ) (Cert.InProjGates.main (F := Bits))) ⟨m, fun _ => 0, g⟩ (fun r => (∀ c : Dev Cert.InProjGates.nD,
      r.2.mem ((c.tc : Thread Cert.InProjGates.nD Cert.InProjGates.τ).loc Cert.InProjGates.main_arg0) = m ((c.tc : Thread Cert.InProjGates.nD Cert.InProjGates.τ).loc Cert.InProjGates.main_arg0)
      ∧ r.2.mem ((c.tc : Thread Cert.InProjGates.nD Cert.InProjGates.τ).loc Cert.InProjGates.main_arg1) = m ((c.tc : Thread Cert.InProjGates.nD Cert.InProjGates.τ).loc Cert.InProjGates.main_arg1))
      ∧ r.2.sem = fun _ => 0)

def quiescent_InProjGatesIdeal [hInProjGatesIdeal : Cert.InProjGatesIdeal.Facts] : Prop :=
  ∀ (m : (ℓ : Loc Cert.InProjGatesIdeal.nD Cert.InProjGatesIdeal.τ Cert.InProjGatesIdeal.sig) → Buf (Elt Ideal) ℓ) (g : Dev Cert.InProjGatesIdeal.nD → PrngReg), Pre_InProjGatesIdeal m →
    θ_run (Cert.InProjGatesIdeal.defs (F := Ideal)) (onTc (τ := Cert.InProjGatesIdeal.τ) (Cert.InProjGatesIdeal.main (F := Ideal))) ⟨m, fun _ => 0, g⟩ (fun r => (∀ c : Dev Cert.InProjGatesIdeal.nD,
      r.2.mem ((c.tc : Thread Cert.InProjGatesIdeal.nD Cert.InProjGatesIdeal.τ).loc Cert.InProjGatesIdeal.main_arg0) = m ((c.tc : Thread Cert.InProjGatesIdeal.nD Cert.InProjGatesIdeal.τ).loc Cert.InProjGatesIdeal.main_arg0)
      ∧ r.2.mem ((c.tc : Thread Cert.InProjGatesIdeal.nD Cert.InProjGatesIdeal.τ).loc Cert.InProjGatesIdeal.main_arg1) = m ((c.tc : Thread Cert.InProjGatesIdeal.nD Cert.InProjGatesIdeal.τ).loc Cert.InProjGatesIdeal.main_arg1))
      ∧ r.2.sem = fun _ => 0)

def quiescent_InProjGatesRefIdeal [hInProjGatesRefIdeal : Cert.InProjGatesRefIdeal.Facts] : Prop :=
  ∀ (m : (ℓ : Loc Cert.InProjGatesRefIdeal.nD Cert.InProjGatesRefIdeal.τ Cert.InProjGatesRefIdeal.sig) → Buf (Elt Ideal) ℓ) (g : Dev Cert.InProjGatesRefIdeal.nD → PrngReg), Pre_InProjGatesRefIdeal m →
    θ_run (Cert.InProjGatesRefIdeal.defs (F := Ideal)) (onTc (τ := Cert.InProjGatesRefIdeal.τ) (Cert.InProjGatesRefIdeal.main (F := Ideal))) ⟨m, fun _ => 0, g⟩ (fun r => (∀ c : Dev Cert.InProjGatesRefIdeal.nD,
      r.2.mem ((c.tc : Thread Cert.InProjGatesRefIdeal.nD Cert.InProjGatesRefIdeal.τ).loc Cert.InProjGatesRefIdeal.main_arg0) = m ((c.tc : Thread Cert.InProjGatesRefIdeal.nD Cert.InProjGatesRefIdeal.τ).loc Cert.InProjGatesRefIdeal.main_arg0)
      ∧ r.2.mem ((c.tc : Thread Cert.InProjGatesRefIdeal.nD Cert.InProjGatesRefIdeal.τ).loc Cert.InProjGatesRefIdeal.main_arg1) = m ((c.tc : Thread Cert.InProjGatesRefIdeal.nD Cert.InProjGatesRefIdeal.τ).loc Cert.InProjGatesRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_InProjIdx [hInProjIdx : Cert.InProjIdx.Facts] : Prop :=
  ∀ (m : (ℓ : Loc Cert.InProjIdx.nD Cert.InProjIdx.τ Cert.InProjIdx.sig) → Buf (Elt Bits) ℓ) (g : Dev Cert.InProjIdx.nD → PrngReg), Pre_InProjIdx m →
    θ_run (Cert.InProjIdx.defs (F := Bits)) (onTc (τ := Cert.InProjIdx.τ) (Cert.InProjIdx.main (F := Bits))) ⟨m, fun _ => 0, g⟩ (fun r => (∀ c : Dev Cert.InProjIdx.nD,
      r.2.mem ((c.tc : Thread Cert.InProjIdx.nD Cert.InProjIdx.τ).loc Cert.InProjIdx.main_arg0) = m ((c.tc : Thread Cert.InProjIdx.nD Cert.InProjIdx.τ).loc Cert.InProjIdx.main_arg0)
      ∧ r.2.mem ((c.tc : Thread Cert.InProjIdx.nD Cert.InProjIdx.τ).loc Cert.InProjIdx.main_arg1) = m ((c.tc : Thread Cert.InProjIdx.nD Cert.InProjIdx.τ).loc Cert.InProjIdx.main_arg1))
      ∧ r.2.sem = fun _ => 0)

def quiescent_InProjIdxIdeal [hInProjIdxIdeal : Cert.InProjIdxIdeal.Facts] : Prop :=
  ∀ (m : (ℓ : Loc Cert.InProjIdxIdeal.nD Cert.InProjIdxIdeal.τ Cert.InProjIdxIdeal.sig) → Buf (Elt Ideal) ℓ) (g : Dev Cert.InProjIdxIdeal.nD → PrngReg), Pre_InProjIdxIdeal m →
    θ_run (Cert.InProjIdxIdeal.defs (F := Ideal)) (onTc (τ := Cert.InProjIdxIdeal.τ) (Cert.InProjIdxIdeal.main (F := Ideal))) ⟨m, fun _ => 0, g⟩ (fun r => (∀ c : Dev Cert.InProjIdxIdeal.nD,
      r.2.mem ((c.tc : Thread Cert.InProjIdxIdeal.nD Cert.InProjIdxIdeal.τ).loc Cert.InProjIdxIdeal.main_arg0) = m ((c.tc : Thread Cert.InProjIdxIdeal.nD Cert.InProjIdxIdeal.τ).loc Cert.InProjIdxIdeal.main_arg0)
      ∧ r.2.mem ((c.tc : Thread Cert.InProjIdxIdeal.nD Cert.InProjIdxIdeal.τ).loc Cert.InProjIdxIdeal.main_arg1) = m ((c.tc : Thread Cert.InProjIdxIdeal.nD Cert.InProjIdxIdeal.τ).loc Cert.InProjIdxIdeal.main_arg1))
      ∧ r.2.sem = fun _ => 0)

def quiescent_InProjIdxRefIdeal [hInProjIdxRefIdeal : Cert.InProjIdxRefIdeal.Facts] : Prop :=
  ∀ (m : (ℓ : Loc Cert.InProjIdxRefIdeal.nD Cert.InProjIdxRefIdeal.τ Cert.InProjIdxRefIdeal.sig) → Buf (Elt Ideal) ℓ) (g : Dev Cert.InProjIdxRefIdeal.nD → PrngReg), Pre_InProjIdxRefIdeal m →
    θ_run (Cert.InProjIdxRefIdeal.defs (F := Ideal)) (onTc (τ := Cert.InProjIdxRefIdeal.τ) (Cert.InProjIdxRefIdeal.main (F := Ideal))) ⟨m, fun _ => 0, g⟩ (fun r => (∀ c : Dev Cert.InProjIdxRefIdeal.nD,
      r.2.mem ((c.tc : Thread Cert.InProjIdxRefIdeal.nD Cert.InProjIdxRefIdeal.τ).loc Cert.InProjIdxRefIdeal.main_arg0) = m ((c.tc : Thread Cert.InProjIdxRefIdeal.nD Cert.InProjIdxRefIdeal.τ).loc Cert.InProjIdxRefIdeal.main_arg0)
      ∧ r.2.mem ((c.tc : Thread Cert.InProjIdxRefIdeal.nD Cert.InProjIdxRefIdeal.τ).loc Cert.InProjIdxRefIdeal.main_arg1) = m ((c.tc : Thread Cert.InProjIdxRefIdeal.nD Cert.InProjIdxRefIdeal.τ).loc Cert.InProjIdxRefIdeal.main_arg1))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def preserves_Kernel_KernelIdeal : Prop :=
  IdealRules.named_const.Statement Cert.KernelIdeal.κ "dead" .f32 0x42D00000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v6)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v6) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v20) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v4)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v4) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v34) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)) →
    ∃ (v0 : (c : Dev Cert.MixOutIdeal.nD) → Buf (Elt Ideal) ((c.tc : Thread Cert.MixOutIdeal.nD Cert.MixOutIdeal.τ).loc Cert.MixOutIdeal.main_v15_0)) (v1 : (c : Dev Cert.MixOutIdeal.nD) → Buf (Elt Ideal) ((c.tc : Thread Cert.MixOutIdeal.nD Cert.MixOutIdeal.τ).loc Cert.MixOutIdeal.main_v15_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v15_0) = v0 c
          ∧ r.2.mem ((c.tc : Thread Cert.MixOutIdeal.nD Cert.MixOutIdeal.τ).loc Cert.MixOutIdeal.main_v15_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v53) = v0 c
          ∧ r.2.mem ((c.tc : Thread Cert.MixOutRefIdeal.nD Cert.MixOutRefIdeal.τ).loc Cert.MixOutRefIdeal.main_v55) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10))

def preserves_InProjT_InProjTIdeal : Prop :=
  True

def algebraic_InProjTIdeal_InProjTRefIdeal [hInProjTIdeal : Cert.InProjTIdeal.Facts] [hInProjTRefIdeal : Cert.InProjTRefIdeal.Facts] : Prop :=
  ∀ (m : (ℓ : Loc Cert.InProjTIdeal.nD Cert.InProjTIdeal.τ Cert.InProjTIdeal.sig) → Buf (Elt Ideal) ℓ) (g : Dev Cert.InProjTIdeal.nD → PrngReg)
    (m' : (ℓ : Loc Cert.InProjTRefIdeal.nD Cert.InProjTRefIdeal.τ Cert.InProjTRefIdeal.sig) → Buf (Elt Ideal) ℓ) (g' : Dev Cert.InProjTRefIdeal.nD → PrngReg), Pre_InProjTIdeal m →
    (∀ c : Dev Cert.InProjTIdeal.nD,
      m' ((c.tc : Thread Cert.InProjTRefIdeal.nD Cert.InProjTRefIdeal.τ).loc Cert.InProjTRefIdeal.main_arg0) = m ((c.tc : Thread Cert.InProjTIdeal.nD Cert.InProjTIdeal.τ).loc Cert.InProjTIdeal.main_arg0)
      ∧ m' ((c.tc : Thread Cert.InProjTRefIdeal.nD Cert.InProjTRefIdeal.τ).loc Cert.InProjTRefIdeal.main_arg1) = m ((c.tc : Thread Cert.InProjTIdeal.nD Cert.InProjTIdeal.τ).loc Cert.InProjTIdeal.main_arg1)) →
    ∃ (v0 : (c : Dev Cert.InProjTIdeal.nD) → Buf (Elt Ideal) ((c.tc : Thread Cert.InProjTIdeal.nD Cert.InProjTIdeal.τ).loc Cert.InProjTIdeal.main_v3)),
      θ_run (Cert.InProjTIdeal.defs (F := Ideal)) (onTc (τ := Cert.InProjTIdeal.τ) (Cert.InProjTIdeal.main (F := Ideal))) ⟨m, fun _ => 0, g⟩ (fun r => ∀ c : Dev Cert.InProjTIdeal.nD,
          r.2.mem ((c.tc : Thread Cert.InProjTIdeal.nD Cert.InProjTIdeal.τ).loc Cert.InProjTIdeal.main_v3) = v0 c
          ∧ r.2.mem ((c.tc : Thread Cert.InProjTIdeal.nD Cert.InProjTIdeal.τ).loc Cert.InProjTIdeal.main_arg0) = m ((c.tc : Thread Cert.InProjTIdeal.nD Cert.InProjTIdeal.τ).loc Cert.InProjTIdeal.main_arg0)
          ∧ r.2.mem ((c.tc : Thread Cert.InProjTIdeal.nD Cert.InProjTIdeal.τ).loc Cert.InProjTIdeal.main_arg1) = m ((c.tc : Thread Cert.InProjTIdeal.nD Cert.InProjTIdeal.τ).loc Cert.InProjTIdeal.main_arg1))
      ∧ θ_run (Cert.InProjTRefIdeal.defs (F := Ideal)) (onTc (τ := Cert.InProjTRefIdeal.τ) (Cert.InProjTRefIdeal.main (F := Ideal))) ⟨m', fun _ => 0, g'⟩ (fun r => ∀ c : Dev Cert.InProjTRefIdeal.nD,
          r.2.mem ((c.tc : Thread Cert.InProjTRefIdeal.nD Cert.InProjTRefIdeal.τ).loc Cert.InProjTRefIdeal.main_v15) = v0 c
          ∧ r.2.mem ((c.tc : Thread Cert.InProjTRefIdeal.nD Cert.InProjTRefIdeal.τ).loc Cert.InProjTRefIdeal.main_arg0) = m' ((c.tc : Thread Cert.InProjTRefIdeal.nD Cert.InProjTRefIdeal.τ).loc Cert.InProjTRefIdeal.main_arg0)
          ∧ r.2.mem ((c.tc : Thread Cert.InProjTRefIdeal.nD Cert.InProjTRefIdeal.τ).loc Cert.InProjTRefIdeal.main_arg1) = m' ((c.tc : Thread Cert.InProjTRefIdeal.nD Cert.InProjTRefIdeal.τ).loc Cert.InProjTRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjGates_InProjGatesIdeal : Prop :=
  True

def algebraic_InProjGatesIdeal_InProjGatesRefIdeal [hInProjGatesIdeal : Cert.InProjGatesIdeal.Facts] [hInProjGatesRefIdeal : Cert.InProjGatesRefIdeal.Facts] : Prop :=
  ∀ (m : (ℓ : Loc Cert.InProjGatesIdeal.nD Cert.InProjGatesIdeal.τ Cert.InProjGatesIdeal.sig) → Buf (Elt Ideal) ℓ) (g : Dev Cert.InProjGatesIdeal.nD → PrngReg)
    (m' : (ℓ : Loc Cert.InProjGatesRefIdeal.nD Cert.InProjGatesRefIdeal.τ Cert.InProjGatesRefIdeal.sig) → Buf (Elt Ideal) ℓ) (g' : Dev Cert.InProjGatesRefIdeal.nD → PrngReg), Pre_InProjGatesIdeal m →
    (∀ c : Dev Cert.InProjGatesIdeal.nD,
      m' ((c.tc : Thread Cert.InProjGatesRefIdeal.nD Cert.InProjGatesRefIdeal.τ).loc Cert.InProjGatesRefIdeal.main_arg0) = m ((c.tc : Thread Cert.InProjGatesIdeal.nD Cert.InProjGatesIdeal.τ).loc Cert.InProjGatesIdeal.main_arg0)
      ∧ m' ((c.tc : Thread Cert.InProjGatesRefIdeal.nD Cert.InProjGatesRefIdeal.τ).loc Cert.InProjGatesRefIdeal.main_arg1) = m ((c.tc : Thread Cert.InProjGatesIdeal.nD Cert.InProjGatesIdeal.τ).loc Cert.InProjGatesIdeal.main_arg1)) →
    ∃ (v0 : (c : Dev Cert.InProjGatesIdeal.nD) → Buf (Elt Ideal) ((c.tc : Thread Cert.InProjGatesIdeal.nD Cert.InProjGatesIdeal.τ).loc Cert.InProjGatesIdeal.main_v4)),
      θ_run (Cert.InProjGatesIdeal.defs (F := Ideal)) (onTc (τ := Cert.InProjGatesIdeal.τ) (Cert.InProjGatesIdeal.main (F := Ideal))) ⟨m, fun _ => 0, g⟩ (fun r => ∀ c : Dev Cert.InProjGatesIdeal.nD,
          r.2.mem ((c.tc : Thread Cert.InProjGatesIdeal.nD Cert.InProjGatesIdeal.τ).loc Cert.InProjGatesIdeal.main_v4) = v0 c
          ∧ r.2.mem ((c.tc : Thread Cert.InProjGatesIdeal.nD Cert.InProjGatesIdeal.τ).loc Cert.InProjGatesIdeal.main_arg0) = m ((c.tc : Thread Cert.InProjGatesIdeal.nD Cert.InProjGatesIdeal.τ).loc Cert.InProjGatesIdeal.main_arg0)
          ∧ r.2.mem ((c.tc : Thread Cert.InProjGatesIdeal.nD Cert.InProjGatesIdeal.τ).loc Cert.InProjGatesIdeal.main_arg1) = m ((c.tc : Thread Cert.InProjGatesIdeal.nD Cert.InProjGatesIdeal.τ).loc Cert.InProjGatesIdeal.main_arg1))
      ∧ θ_run (Cert.InProjGatesRefIdeal.defs (F := Ideal)) (onTc (τ := Cert.InProjGatesRefIdeal.τ) (Cert.InProjGatesRefIdeal.main (F := Ideal))) ⟨m', fun _ => 0, g'⟩ (fun r => ∀ c : Dev Cert.InProjGatesRefIdeal.nD,
          r.2.mem ((c.tc : Thread Cert.InProjGatesRefIdeal.nD Cert.InProjGatesRefIdeal.τ).loc Cert.InProjGatesRefIdeal.main_v5) = v0 c
          ∧ r.2.mem ((c.tc : Thread Cert.InProjGatesRefIdeal.nD Cert.InProjGatesRefIdeal.τ).loc Cert.InProjGatesRefIdeal.main_arg0) = m' ((c.tc : Thread Cert.InProjGatesRefIdeal.nD Cert.InProjGatesRefIdeal.τ).loc Cert.InProjGatesRefIdeal.main_arg0)
          ∧ r.2.mem ((c.tc : Thread Cert.InProjGatesRefIdeal.nD Cert.InProjGatesRefIdeal.τ).loc Cert.InProjGatesRefIdeal.main_arg1) = m' ((c.tc : Thread Cert.InProjGatesRefIdeal.nD Cert.InProjGatesRefIdeal.τ).loc Cert.InProjGatesRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v5)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v5) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v23) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_InProjIdx_InProjIdxIdeal : Prop :=
  True

def algebraic_InProjIdxIdeal_InProjIdxRefIdeal [hInProjIdxIdeal : Cert.InProjIdxIdeal.Facts] [hInProjIdxRefIdeal : Cert.InProjIdxRefIdeal.Facts] : Prop :=
  ∀ (m : (ℓ : Loc Cert.InProjIdxIdeal.nD Cert.InProjIdxIdeal.τ Cert.InProjIdxIdeal.sig) → Buf (Elt Ideal) ℓ) (g : Dev Cert.InProjIdxIdeal.nD → PrngReg)
    (m' : (ℓ : Loc Cert.InProjIdxRefIdeal.nD Cert.InProjIdxRefIdeal.τ Cert.InProjIdxRefIdeal.sig) → Buf (Elt Ideal) ℓ) (g' : Dev Cert.InProjIdxRefIdeal.nD → PrngReg), Pre_InProjIdxIdeal m →
    (∀ c : Dev Cert.InProjIdxIdeal.nD,
      m' ((c.tc : Thread Cert.InProjIdxRefIdeal.nD Cert.InProjIdxRefIdeal.τ).loc Cert.InProjIdxRefIdeal.main_arg0) = m ((c.tc : Thread Cert.InProjIdxIdeal.nD Cert.InProjIdxIdeal.τ).loc Cert.InProjIdxIdeal.main_arg0)
      ∧ m' ((c.tc : Thread Cert.InProjIdxRefIdeal.nD Cert.InProjIdxRefIdeal.τ).loc Cert.InProjIdxRefIdeal.main_arg1) = m ((c.tc : Thread Cert.InProjIdxIdeal.nD Cert.InProjIdxIdeal.τ).loc Cert.InProjIdxIdeal.main_arg1)) →
    ∃ (v0 : (c : Dev Cert.InProjIdxIdeal.nD) → Buf (Elt Ideal) ((c.tc : Thread Cert.InProjIdxIdeal.nD Cert.InProjIdxIdeal.τ).loc Cert.InProjIdxIdeal.main_v7)),
      θ_run (Cert.InProjIdxIdeal.defs (F := Ideal)) (onTc (τ := Cert.InProjIdxIdeal.τ) (Cert.InProjIdxIdeal.main (F := Ideal))) ⟨m, fun _ => 0, g⟩ (fun r => ∀ c : Dev Cert.InProjIdxIdeal.nD,
          r.2.mem ((c.tc : Thread Cert.InProjIdxIdeal.nD Cert.InProjIdxIdeal.τ).loc Cert.InProjIdxIdeal.main_v7) = v0 c
          ∧ r.2.mem ((c.tc : Thread Cert.InProjIdxIdeal.nD Cert.InProjIdxIdeal.τ).loc Cert.InProjIdxIdeal.main_arg0) = m ((c.tc : Thread Cert.InProjIdxIdeal.nD Cert.InProjIdxIdeal.τ).loc Cert.InProjIdxIdeal.main_arg0)
          ∧ r.2.mem ((c.tc : Thread Cert.InProjIdxIdeal.nD Cert.InProjIdxIdeal.τ).loc Cert.InProjIdxIdeal.main_arg1) = m ((c.tc : Thread Cert.InProjIdxIdeal.nD Cert.InProjIdxIdeal.τ).loc Cert.InProjIdxIdeal.main_arg1))
      ∧ θ_run (Cert.InProjIdxRefIdeal.defs (F := Ideal)) (onTc (τ := Cert.InProjIdxRefIdeal.τ) (Cert.InProjIdxRefIdeal.main (F := Ideal))) ⟨m', fun _ => 0, g'⟩ (fun r => ∀ c : Dev Cert.InProjIdxRefIdeal.nD,
          r.2.mem ((c.tc : Thread Cert.InProjIdxRefIdeal.nD Cert.InProjIdxRefIdeal.τ).loc Cert.InProjIdxRefIdeal.main_v8) = v0 c
          ∧ r.2.mem ((c.tc : Thread Cert.InProjIdxRefIdeal.nD Cert.InProjIdxRefIdeal.τ).loc Cert.InProjIdxRefIdeal.main_arg0) = m' ((c.tc : Thread Cert.InProjIdxRefIdeal.nD Cert.InProjIdxRefIdeal.τ).loc Cert.InProjIdxRefIdeal.main_arg0)
          ∧ r.2.mem ((c.tc : Thread Cert.InProjIdxRefIdeal.nD Cert.InProjIdxRefIdeal.τ).loc Cert.InProjIdxRefIdeal.main_arg1) = m' ((c.tc : Thread Cert.InProjIdxRefIdeal.nD Cert.InProjIdxRefIdeal.τ).loc Cert.InProjIdxRefIdeal.main_arg1))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v4)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v4) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v6) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hFfnOutRefIdeal : Cert.FfnOutRefIdeal.Facts) (hFfnAct : Cert.FfnAct.Facts) (hFfnActIdeal : Cert.FfnActIdeal.Facts) (hFfnActRefIdeal : Cert.FfnActRefIdeal.Facts) (hMixOut : Cert.MixOut.Facts) (hMixOutIdeal : Cert.MixOutIdeal.Facts) (hMixOutRefIdeal : Cert.MixOutRefIdeal.Facts) (hInProjT : Cert.InProjT.Facts) (hInProjTIdeal : Cert.InProjTIdeal.Facts) (hInProjTRefIdeal : Cert.InProjTRefIdeal.Facts) (hInProj : Cert.InProj.Facts) (hInProjIdeal : Cert.InProjIdeal.Facts) (hInProjRefIdeal : Cert.InProjRefIdeal.Facts) (hInProjGates : Cert.InProjGates.Facts) (hInProjGatesIdeal : Cert.InProjGatesIdeal.Facts) (hInProjGatesRefIdeal : Cert.InProjGatesRefIdeal.Facts) (hNormMod : Cert.NormMod.Facts) (hNormModIdeal : Cert.NormModIdeal.Facts) (hNormModRefIdeal : Cert.NormModRefIdeal.Facts) (hInProjIdx : Cert.InProjIdx.Facts) (hInProjIdxIdeal : Cert.InProjIdxIdeal.Facts) (hInProjIdxRefIdeal : Cert.InProjIdxRefIdeal.Facts) (hAdaln : Cert.Adaln.Facts) (hAdalnIdeal : Cert.AdalnIdeal.Facts) (hAdalnRefIdeal : Cert.AdalnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_InProjT (hInProjT := hInProjT)
    ∧ quiescent_InProjTIdeal (hInProjTIdeal := hInProjTIdeal)
    ∧ quiescent_InProjTRefIdeal (hInProjTRefIdeal := hInProjTRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjGates (hInProjGates := hInProjGates)
    ∧ quiescent_InProjGatesIdeal (hInProjGatesIdeal := hInProjGatesIdeal)
    ∧ quiescent_InProjGatesRefIdeal (hInProjGatesRefIdeal := hInProjGatesRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_InProjIdx (hInProjIdx := hInProjIdx)
    ∧ quiescent_InProjIdxIdeal (hInProjIdxIdeal := hInProjIdxIdeal)
    ∧ quiescent_InProjIdxRefIdeal (hInProjIdxRefIdeal := hInProjIdxRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnOut_FfnOutIdeal
    ∧ algebraic_FfnOutIdeal_FfnOutRefIdeal (hFfnOutIdeal := hFfnOutIdeal) (hFfnOutRefIdeal := hFfnOutRefIdeal)
    ∧ preserves_FfnAct_FfnActIdeal
    ∧ algebraic_FfnActIdeal_FfnActRefIdeal (hFfnActIdeal := hFfnActIdeal) (hFfnActRefIdeal := hFfnActRefIdeal)
    ∧ preserves_MixOut_MixOutIdeal
    ∧ algebraic_MixOutIdeal_MixOutRefIdeal (hMixOutIdeal := hMixOutIdeal) (hMixOutRefIdeal := hMixOutRefIdeal)
    ∧ preserves_InProjT_InProjTIdeal
    ∧ algebraic_InProjTIdeal_InProjTRefIdeal (hInProjTIdeal := hInProjTIdeal) (hInProjTRefIdeal := hInProjTRefIdeal)
    ∧ preserves_InProj_InProjIdeal
    ∧ algebraic_InProjIdeal_InProjRefIdeal (hInProjIdeal := hInProjIdeal) (hInProjRefIdeal := hInProjRefIdeal)
    ∧ preserves_InProjGates_InProjGatesIdeal
    ∧ algebraic_InProjGatesIdeal_InProjGatesRefIdeal (hInProjGatesIdeal := hInProjGatesIdeal) (hInProjGatesRefIdeal := hInProjGatesRefIdeal)
    ∧ preserves_NormMod_NormModIdeal
    ∧ algebraic_NormModIdeal_NormModRefIdeal (hNormModIdeal := hNormModIdeal) (hNormModRefIdeal := hNormModRefIdeal)
    ∧ preserves_InProjIdx_InProjIdxIdeal
    ∧ algebraic_InProjIdxIdeal_InProjIdxRefIdeal (hInProjIdxIdeal := hInProjIdxIdeal) (hInProjIdxRefIdeal := hInProjIdxRefIdeal)
    ∧ preserves_Adaln_AdalnIdeal
    ∧ algebraic_AdalnIdeal_AdalnRefIdeal (hAdalnIdeal := hAdalnIdeal) (hAdalnRefIdeal := hAdalnRefIdeal)
-- ==== Pre_finite.lean ====
abbrev S2x8192x8x128 : Shape := ⟨4, ![2, 8192, 8, 128]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel

variable [Facts]

def fn {F : FTy → Type} [FloatOps F] (main_arg0 : FVec F S2x8192x8x128 .f32) (main_arg1 : FVec F S2x8192x8x128 .f32) (main_arg2 : FVec F S2x8192x8x128 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  main_v8
-- ==== Kernel.lean ====
abbrev S2x8192x8x128 : Shape := ⟨4, ![2, 8192, 8, 128]⟩
abbrev S16384x1024 : Shape := ⟨2, ![16384, 1024]⟩
abbrev S_ : Shape := ⟨0, ![]⟩
abbrev S1024x16384 : Shape := ⟨2, ![1024, 16384]⟩
abbrev S2048x16384 : Shape := ⟨2, ![2048, 16384]⟩
abbrev S512x256 : Shape := ⟨2, ![512, 256]⟩
abbrev S8192x512 : Shape := ⟨2, ![8192, 512]⟩
abbrev S512x8192 : Shape := ⟨2, ![512, 8192]⟩
abbrev S256x512 : Shape := ⟨2, ![256, 512]⟩
abbrev S4x1x256 : Shape := ⟨3, ![4, 1, 256]⟩
abbrev S4x128x256 : Shape := ⟨3, ![4, 128, 256]⟩
abbrev S256x256 : Shape := ⟨2, ![256, 256]⟩
abbrev S512x128 : Shape := ⟨2, ![512, 128]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S1 : Shape := ⟨1, ![1]⟩
abbrev S1x1x1 : Shape := ⟨3, ![1, 1, 1]⟩
abbrev S256x128 : Shape := ⟨2, ![256, 128]⟩

abbrev nBuf : Space → Nat
  | .hbm => 15
  | .vmem => 10
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x128, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1024x16384, .f32⟩
  | .hbm, ⟨10, _⟩ => ⟨S16384x1024, .f32⟩
  | .hbm, ⟨11, _⟩ => ⟨S1024x16384, .f32⟩
  | .hbm, ⟨12, _⟩ => ⟨S2048x16384, .f32⟩
  | .hbm, ⟨13, _⟩ => ⟨S2048x16384, .bf16⟩
  | .hbm, ⟨14, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S8192x512, .bf16⟩
  | .local _ .vmem, ⟨3, _⟩ => ⟨S8192x512, .bf16⟩
  | .local _ .vmem, ⟨4, _⟩ => ⟨S512x8192, .bf16⟩
  | .local _ .vmem, ⟨5, _⟩ => ⟨S512x8192, .bf16⟩
  | .local _ .vmem, ⟨6, _⟩ => ⟨S256x512, .bf16⟩
  | .local _ .vmem, ⟨7, _⟩ => ⟨S256x512, .bf16⟩
  | .local _ .vmem, ⟨8, _⟩ => ⟨S4x1x256, .f32⟩
  | .local _ .vmem, ⟨9, _⟩ => ⟨S4x128x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c1_i32 : BitVec 32 := 1#32
  let v15 : BitVec 1 := Scalar.cmpi .sge arg2 c1_i32
  let v16 : BitVec 32 := Scalar.extui v15
  let c0_i32 : BitVec 32 := 0#32
  let v17 : BitVec 1 := Scalar.cmpi .ne v16 c0_i32
  v17

def k0_mult1 (i : grid0.Coords) : BitVec 32 :=
  let arg2 : BitVec 32 := BitVec.ofNat 32 (i 2).val
  let c256_i32_21 : BitVec 32 := 256#32
  let v42 : BitVec 32 := Scalar.muli arg2 c256_i32_21
  v42
def k0_mult2 (i : grid0.Coords) : BitVec 32 :=
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  v44
def k0_off1 (i : grid0.Coords) : Fin 2 → Nat :=
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v53 : Index := Scalar.indexCast v45
  let c0_23 : Index := 0#32
  ![v53.toNat, 0]
def k0_off2 (i : grid0.Coords) : Fin 2 → Nat :=
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v59 : Index := Scalar.indexCast v45
  let c128_27 : Index := 128#32
  ![v59.toNat, 128]
def k0_off3 (i : grid0.Coords) : Fin 2 → Nat :=
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v65 : Index := Scalar.indexCast v45
  let c256_31 : Index := 256#32
  ![v65.toNat, 256]
def k0_off4 (i : grid0.Coords) : Fin 2 → Nat :=
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v71 : Index := Scalar.indexCast v45
  let c384_35 : Index := 384#32
  ![v71.toNat, 384]
def k0_off5 (i : grid0.Coords) : Fin 2 → Nat :=
  let c0_110 : Index := 0#32
  let arg2 : BitVec 32 := BitVec.ofNat 32 (i 2).val
  let c256_i32_21 : BitVec 32 := 256#32
  let v42 : BitVec 32 := Scalar.muli arg2 c256_i32_21
  let v43 : BitVec 32 := v42
  let v319 : Index := Scalar.indexCast v43
  ![0, v319.toNat]
def k0_off6 (i : grid0.Coords) : Fin 2 → Nat :=
  let c0_112 : Index := 0#32
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v324 : Index := Scalar.indexCast v45
  ![0, v324.toNat]
def k0_off7 (i : grid0.Coords) : Fin 2 → Nat :=
  let c128_124 : Index := 128#32
  let arg2 : BitVec 32 := BitVec.ofNat 32 (i 2).val
  let c256_i32_21 : BitVec 32 := 256#32
  let v42 : BitVec 32 := Scalar.muli arg2 c256_i32_21
  let v43 : BitVec 32 := v42
  let v341 : Index := Scalar.indexCast v43
  ![128, v341.toNat]
def k0_off8 (i : grid0.Coords) : Fin 2 → Nat :=
  let c128_126 : Index := 128#32
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v346 : Index := Scalar.indexCast v45
  ![128, v346.toNat]
def k0_off9 (i : grid0.Coords) : Fin 2 → Nat :=
  let c256_138 : Index := 256#32
  let arg2 : BitVec 32 := BitVec.ofNat 32 (i 2).val
  let c256_i32_21 : BitVec 32 := 256#32
  let v42 : BitVec 32 := Scalar.muli arg2 c256_i32_21
  let v43 : BitVec 32 := v42
  let v364 : Index := Scalar.indexCast v43
  ![256, v364.toNat]
def k0_off10 (i : grid0.Coords) : Fin 2 → Nat :=
  let c256_140 : Index := 256#32
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v369 : Index := Scalar.indexCast v45
  ![256, v369.toNat]
def k0_off11 (i : grid0.Coords) : Fin 2 → Nat :=
  let c384_152 : Index := 384#32
  let arg2 : BitVec 32 := BitVec.ofNat 32 (i 2).val
  let c256_i32_21 : BitVec 32 := 256#32
  let v42 : BitVec 32 := Scalar.muli arg2 c256_i32_21
  let v43 : BitVec 32 := v42
  let v387 : Index := Scalar.indexCast v43
  ![384, v387.toNat]
def k0_off12 (i : grid0.Coords) : Fin 2 → Nat :=
  let c384_154 : Index := 384#32
  let arg2 : BitVec 32 := BitVec.ofNat 32 (i 2).val
  let c1_i32_20 : BitVec 32 := 1#32
  let v41 : BitVec 32 := Scalar.subi arg2 c1_i32_20
  let c256_i32_22 : BitVec 32 := 256#32
  let v44 : BitVec 32 := Scalar.muli v41 c256_i32_22
  let v45 : BitVec 32 := v44
  let v392 : Index := Scalar.indexCast v45
  ![384, v392.toNat]
def k0_mult3 (i : grid0.Coords) : BitVec 32 :=
  let arg2 : BitVec 32 := BitVec.ofNat 32 (i 2).val
  let c256_i32_20 : BitVec 32 := 256#32
  let v41 : BitVec 32 := Scalar.muli arg2 c256_i32_20
  v41
def k0_off13 (i : grid0.Coords) : Fin 2 → Nat :=
  let arg2 : BitVec 32 := BitVec.ofNat 32 (i 2).val
  let c256_i32_20 : BitVec 32 := 256#32
  let v41 : BitVec 32 := Scalar.muli arg2 c256_i32_20
  let v42 : BitVec 32 := v41
  let v50 : Index := Scalar.indexCast v42
  let c0_21 : Index := 0#32
  ![v50.toNat, 0]
def k0_off14 (i : grid0.Coords) : Fin 2 → Nat :=
  let arg2 : BitVec 32 := BitVec.ofNat 32 (i 2).val
  let c256_i32_20 : BitVec 32 := 256#32
  let v41 : BitVec 32 := Scalar.muli arg2 c256_i32_20
  let v42 : BitVec 32 := v41
  let v56 : Index := Scalar.indexCast v42
  let c128_25 : Index := 128#32
  ![v56.toNat, 128]
def k0_off15 (i : grid0.Coords) : Fin 2 → Nat :=
  let arg2 : BitVec 32 := BitVec.ofNat 32 (i 2).val
  let c256_i32_20 : BitVec 32 := 256#32
  let v41 : BitVec 32 := Scalar.muli arg2 c256_i32_20
  let v42 : BitVec 32 := v41
  let v62 : Index := Scalar.indexCast v42
  let c256_29 : Index := 256#32
  ![v62.toNat, 256]
def k0_off16 (i : grid0.Coords) : Fin 2 → Nat :=
  let arg2 : BitVec 32 := BitVec.ofNat 32 (i 2).val
  let c256_i32_20 : BitVec 32 := 256#32
  let v41 : BitVec 32 := Scalar.muli arg2 c256_i32_20
  let v42 : BitVec 32 := v41
  let v68 : Index := Scalar.indexCast v42
  let c384_33 : Index := 384#32
  ![v68.toNat, 384]
def k0_off17 (i : grid0.Coords) : Fin 2 → Nat :=
  let c0_84 : Index := 0#32
  let arg2 : BitVec 32 := BitVec.ofNat 32 (i 2).val
  let c256_i32_20 : BitVec 32 := 256#32
  let v41 : BitVec 32 := Scalar.muli arg2 c256_i32_20
  let v42 : BitVec 32 := v41
  let v204 : Index := Scalar.indexCast v42
  ![0, v204.toNat]
def k0_off18 (i : grid0.Coords) : Fin 2 → Nat :=
  let c128_96 : Index := 128#32
  let arg2 : BitVec 32 := BitVec.ofNat 32 (i 2).val
  let c256_i32_20 : BitVec 32 := 256#32
  let v41 : BitVec 32 := Scalar.muli arg2 c256_i32_20
  let v42 : BitVec 32 := v41
  let v221 : Index := Scalar.indexCast v42
  ![128, v221.toNat]
def k0_off19 (i : grid0.Coords) : Fin 2 → Nat :=
  let c256_108 : Index := 256#32
  let arg2 : BitVec 32 := BitVec.ofNat 32 (i 2).val
  let c256_i32_20 : BitVec 32 := 256#32
  let v41 : BitVec 32 := Scalar.muli arg2 c256_i32_20
  let v42 : BitVec 32 := v41
  let v239 : Index := Scalar.indexCast v42
  ![256, v239.toNat]
def k0_off20 (i : grid0.Coords) : Fin 2 → Nat :=
  let c384_120 : Index := 384#32
  let arg2 : BitVec 32 := BitVec.ofNat 32 (i 2).val
  let c256_i32_20 : BitVec 32 := 256#32
  let v41 : BitVec 32 := Scalar.muli arg2 c256_i32_20
  let v42 : BitVec 32 := v41
  let v257 : Index := Scalar.indexCast v42
  ![384, v257.toNat]
def k0_mult4 (arg9 : BitVec 32) : BitVec 32 :=
  let c256_i32_21 : BitVec 32 := 256#32
  let v42 : BitVec 32 := Scalar.muli arg9 c256_i32_21
  v42

def k0_off21 (arg9 : BitVec 32) : Fin 2 → Nat :=
  let c256_i32_21 : BitVec 32 := 256#32
  let v42 : BitVec 32 := Scalar.muli arg9 c256_i32_21
  let v43 : BitVec 32 := v42
  let v44 : Index := Scalar.indexCast v43
  let c0_22 : Index := 0#32
  ![v44.toNat, 0]
def k0_off22 (arg9 : BitVec 32) : Fin 2 → Nat :=
  let c256_i32_21 : BitVec 32 := 256#32
  let v42 : BitVec 32 := Scalar.muli arg9 c256_i32_21
  let v43 : BitVec 32 := v42
  let v50 : Index := Scalar.indexCast v43
  let c128_26 : Index := 128#32
  ![v50.toNat, 128]
def k0_off23 (arg9 : BitVec 32) : Fin 2 → Nat :=
  let c256_i32_21 : BitVec 32 := 256#32
  let v42 : BitVec 32 := Scalar.muli arg9 c256_i32_21
  let v43 : BitVec 32 := v42
  let v56 : Index := Scalar.indexCast v43
  let c256_30 : Index := 256#32
  ![v56.toNat, 256]
def k0_off24 (arg9 : BitVec 32) : Fin 2 → Nat :=
  let c256_i32_21 : BitVec 32 := 256#32
  let v42 : BitVec 32 := Scalar.muli arg9 c256_i32_21
  let v43 : BitVec 32 := v42
  let v62 : Index := Scalar.indexCast v43
  let c384_34 : Index := 384#32
  ![v62.toNat, 384]
def k0_off25 (arg9 : BitVec 32) : Fin 2 → Nat :=
  let c0_77 : Index := 0#32
  let c256_i32_21 : BitVec 32 := 256#32
  let v42 : BitVec 32 := Scalar.muli arg9 c256_i32_21
  let v43 : BitVec 32 := v42
  let v182 : Index := Scalar.indexCast v43
  ![0, v182.toNat]
def k0_off26 (arg9 : BitVec 32) : Fin 2 → Nat :=
  let c128_89 : Index := 128#32
  let c256_i32_21 : BitVec 32 := 256#32
  let v42 : BitVec 32 := Scalar.muli arg9 c256_i32_21
  let v43 : BitVec 32 := v42
  let v199 : Index := Scalar.indexCast v43
  ![128, v199.toNat]
def k0_off27 (arg9 : BitVec 32) : Fin 2 → Nat :=
  let c256_101 : Index := 256#32
  let c256_i32_21 : BitVec 32 := 256#32
  let v42 : BitVec 32 := Scalar.muli arg9 c256_i32_21
  let v43 : BitVec 32 := v42
  let v217 : Index := Scalar.indexCast v43
  ![256, v217.toNat]
def k0_off28 (arg9 : BitVec 32) : Fin 2 → Nat :=
  let c384_113 : Index := 384#32
  let c256_i32_21 : BitVec 32 := 256#32
  let v42 : BitVec 32 := Scalar.muli arg9 c256_i32_21
  let v43 : BitVec 32 := v42
  let v235 : Index := Scalar.indexCast v43
  ![384, v235.toNat]

def k0_chk1 (arg9 : BitVec 32) : Prop :=
  (256 ∣ (k0_mult4 arg9).toNat) ∧
  (∀ a, (k0_off21 arg9) a + S256x128.size a ≤ S8192x512.size a) ∧
  (∀ a, (k0_off22 arg9) a + S256x128.size a ≤ S8192x512.size a) ∧
  (∀ a, (k0_off23 arg9) a + S256x128.size a ≤ S8192x512.size a) ∧
  (∀ a, (k0_off24 arg9) a + S256x128.size a ≤ S8192x512.size a) ∧
  (∀ a, (k0_off25 arg9) a + S128x256.size a ≤ S512x8192.size a) ∧
  (∀ a, (k0_off26 arg9) a + S128x256.size a ≤ S512x8192.size a) ∧
  (∀ a, (k0_off27 arg9) a + S128x256.size a ≤ S512x8192.size a) ∧
  (∀ a, (k0_off28 arg9) a + S128x256.size a ≤ S512x8192.size a)
theorem k0_mult4_dvd : ∀ (arg9 : BitVec 32) (k0_hw1 : k0_chk1 arg9), 256 ∣ (k0_mult4 arg9).toNat := fun arg9 k0_hw1 => k0_hw1.1
theorem k0_off21_inb : ∀ (arg9 : BitVec 32) (k0_hw1 : k0_chk1 arg9), ∀ a, (k0_off21 arg9) a + S256x128.size a ≤ S8192x512.size a := fun arg9 k0_hw1 => k0_hw1.2.1
theorem k0_off22_inb : ∀ (arg9 : BitVec 32) (k0_hw1 : k0_chk1 arg9), ∀ a, (k0_off22 arg9) a + S256x128.size a ≤ S8192x512.size a := fun arg9 k0_hw1 => k0_hw1.2.2.1
theorem k0_off23_inb : ∀ (arg9 : BitVec 32) (k0_hw1 : k0_chk1 arg9), ∀ a, (k0_off23 arg9) a + S256x128.size a ≤ S8192x512.size a := fun arg9 k0_hw1 => k0_hw1.2.2.2.1
theorem k0_off24_inb : ∀ (arg9 : BitVec 32) (k0_hw1 : k0_chk1 arg9), ∀ a, (k0_off24 arg9) a + S256x128.size a ≤ S8192x512.size a := fun arg9 k0_hw1 => k0_hw1.2.2.2.2.1
theorem k0_off25_inb : ∀ (arg9 : BitVec 32) (k0_hw1 : k0_chk1 arg9), ∀ a, (k0_off25 arg9) a + S128x256.size a ≤ S512x8192.size a := fun arg9 k0_hw1 => k0_hw1.2.2.2.2.2.1
theorem k0_off26_inb : ∀ (arg9 : BitVec 32) (k0_hw1 : k0_chk1 arg9), ∀ a, (k0_off26 arg9) a + S128x256.size a ≤ S512x8192.size a := fun arg9 k0_hw1 => k0_hw1.2.2.2.2.2.2.1
theorem k0_off27_inb : ∀ (arg9 : BitVec 32) (k0_hw1 : k0_chk1 arg9), ∀ a, (k0_off27 arg9) a + S128x256.size a ≤ S512x8192.size a := fun arg9 k0_hw1 => k0_hw1.2.2.2.2.2.2.2.1
theorem k0_off28_inb : ∀ (arg9 : BitVec 32) (k0_hw1 : k0_chk1 arg9), ∀ a, (k0_off28 arg9) a + S128x256.size a ≤ S512x8192.size a := fun arg9 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c32_i32 : BitVec 32 := 32#32
  let v1 : BitVec 32 := Scalar.muli arg0 c32_i32
  let v2 : BitVec 32 := Scalar.addi v1 arg2
  let c0_i32_0 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead" => some ⊤
  | _ => none
-- ==== ReferenceIdeal.lean ====
abbrev S2x8192x8x128 : Shape := ⟨4, ![2, 8192, 8, 128]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x128x8192 : Shape := ⟨4, ![2, 8, 128, 8192]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x128, .f32⟩
  | .hbm, ⟨3, _⟩ => ⟨S8192, .i32⟩
  | .hbm, ⟨4, _⟩ => ⟨S2x8x8192x8192, .f32⟩
  | .hbm, ⟨5, _⟩ => ⟨S_, .f32⟩
  | .hbm, ⟨6, _⟩ => ⟨S2x8x8192x8192, .f32⟩
  | .hbm, ⟨7, _⟩ => ⟨S2x8x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S2x8x8192x8192, .f32⟩
  | .hbm, ⟨14, _⟩ => ⟨S_, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .i1⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S_, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .i1⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S_, .f32⟩
  | .hbm, ⟨48, _⟩ => ⟨S2x8x8192x8192, .i1⟩
  | .hbm, ⟨49, _⟩ => ⟨S2x8x8192x8192, .f32⟩
  | .hbm, ⟨50, _⟩ => ⟨S2x8x8192x8192, .f32⟩
  | .hbm, ⟨51, _⟩ => ⟨S_, .f32⟩
  | .hbm, ⟨52, _⟩ => ⟨S_, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .i1⟩
  | .hbm, ⟨60, _⟩ => ⟨S2x8x8192x8192, .f32⟩
  | .hbm, ⟨61, _⟩ => ⟨S2x8x8192x8192, .f32⟩
  | .hbm, ⟨62, _⟩ => ⟨S2x8x128x8192, .f32⟩
  | .hbm, ⟨63, _⟩ => ⟨S2x8192x8x128, .f32⟩
  | .hbm, ⟨64, _⟩ => ⟨S16384x1024, .f32⟩
  | .hbm, ⟨65, _⟩ => ⟨S16384x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_call0_cst : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_v9 : Ref sig .tc := ⟨.hbm, 41, rfl⟩
abbrev main_call1_call0_v10 : Ref sig .tc := ⟨.hbm, 42, rfl⟩
abbrev main_call1_call0_v11 : Ref sig .tc := ⟨.hbm, 43, rfl⟩
abbrev main_call1_v1 : Ref sig .tc := ⟨.hbm, 44, rfl⟩
abbrev main_v11 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_call3_cst : Ref sig .tc := ⟨.hbm, 51, rfl⟩
abbrev main_call3_v0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== FfnOut.lean ====
abbrev S2x8192x5632 : Shape := ⟨3, ![2, 8192, 5632]⟩
abbrev S2x8192x2048 : Shape := ⟨3, ![2, 8192, 2048]⟩
abbrev S1x5632x2048 : Shape := ⟨3, ![1, 5632, 2048]⟩
abbrev S2x2048 : Shape := ⟨2, ![2, 2048]⟩
abbrev S2048 : Shape := ⟨1, ![2048]⟩
abbrev S16384x5632 : Shape := ⟨2, ![16384, 5632]⟩
abbrev S16384x2048 : Shape := ⟨2, ![16384, 2048]⟩
abbrev S5632x2048 : Shape := ⟨2, ![5632, 2048]⟩
abbrev S2x1x2048 : Shape := ⟨3, ![2, 1, 2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S1x5632x2048, .f32⟩
  | .hbm, ⟨3, _⟩ => ⟨S2x2048, .f32⟩
  | .hbm, ⟨4, _⟩ => ⟨S2048, .f32⟩
  | .hbm, ⟨5, _⟩ => ⟨S16384x5632, .bf16⟩
  | .hbm, ⟨6, _⟩ => ⟨S16384x2048, .f32⟩
  | .hbm, ⟨7, _⟩ => ⟨S5632x2048, .f32⟩
  | .hbm, ⟨8, _⟩ => ⟨S5632x2048, .bf16⟩
  | .hbm, ⟨9, _⟩ => ⟨S2x1x2048, .f32⟩
  | .hbm, ⟨10, _⟩ => ⟨S1x2048, .f32⟩
  | .hbm, ⟨11, _⟩ => ⟨S16384x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnOutRefIdeal.lean ====
abbrev S2x8192x5632 : Shape := ⟨3, ![2, 8192, 5632]⟩
abbrev S2x8192x2048 : Shape := ⟨3, ![2, 8192, 2048]⟩
abbrev S1x5632x2048 : Shape := ⟨3, ![1, 5632, 2048]⟩
abbrev S2x2048 : Shape := ⟨2, ![2, 2048]⟩
abbrev S2048 : Shape := ⟨1, ![2048]⟩
abbrev S5632x2048 : Shape := ⟨2, ![5632, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S1x5632x2048, .f32⟩
  | .hbm, ⟨3, _⟩ => ⟨S2x2048, .f32⟩
  | .hbm, ⟨4, _⟩ => ⟨S2048, .f32⟩
  | .hbm, ⟨5, _⟩ => ⟨S2x8192x5632, .f32⟩
  | .hbm, ⟨6, _⟩ => ⟨S5632x2048, .f32⟩
  | .hbm, ⟨7, _⟩ => ⟨S2x8192x2048, .f32⟩
  | .hbm, ⟨8, _⟩ => ⟨S2x1x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S1x1x2048, .f32⟩
  | .hbm, ⟨26, _⟩ => ⟨S2x8192x2048, .f32⟩
  | .hbm, ⟨27, _⟩ => ⟨S2x8192x2048, .f32⟩
  | .hbm, ⟨28, _⟩ => ⟨S16384x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnAct.lean ====
abbrev S2x8192x2048 : Shape := ⟨3, ![2, 8192, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S16384x2048 : Shape := ⟨2, ![16384, 2048]⟩
abbrev S3x5632 : Shape := ⟨2, ![3, 5632]⟩
abbrev S5632 : Shape := ⟨1, ![5632]⟩
abbrev S16384x5632 : Shape := ⟨2, ![16384, 5632]⟩
abbrev S1024x2048 : Shape := ⟨2, ![1024, 2048]⟩
abbrev S16x2048 : Shape := ⟨2, ![16, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S2048x512 : Shape := ⟨2, ![2048, 512]⟩
abbrev S16x512 : Shape := ⟨2, ![16, 512]⟩

abbrev nBuf : Space → Nat
  | .hbm => 10
  | .vmem => 16
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S16384x2048, .bf16⟩
  | .hbm, ⟨6, _⟩ => ⟨S3x5632, .f32⟩
  | .hbm, ⟨7, _⟩ => ⟨S5632, .f32⟩
  | .hbm, ⟨8, _⟩ => ⟨S1x5632, .f32⟩
  | .hbm, ⟨9, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActRefIdeal.lean ====
abbrev S2x8192x2048 : Shape := ⟨3, ![2, 8192, 2048]⟩
abbrev S1x2048x5632 : Shape := ⟨3, ![1, 2048, 5632]⟩
abbrev S1x3x5632 : Shape := ⟨3, ![1, 3, 5632]⟩
abbrev S1x5632 : Shape := ⟨2, ![1, 5632]⟩
abbrev S2048x5632 : Shape := ⟨2, ![2048, 5632]⟩
abbrev S2x8192x5632 : Shape := ⟨3, ![2, 8192, 5632]⟩
abbrev S3x5632 : Shape := ⟨2, ![3, 5632]⟩
abbrev S5632 : Shape := ⟨1, ![5632]⟩
abbrev S_ : Shape := ⟨0, ![]⟩
abbrev S2x8194x5632 : Shape := ⟨3, ![2, 8194, 5632]⟩
abbrev S1x1x5632 : Shape := ⟨3, ![1, 1, 5632]⟩
abbrev S16384x5632 : Shape := ⟨2, ![16384, 5632]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x5632, .f32⟩
  | .hbm, ⟨2, _⟩ => ⟨S1x2048x5632, .f32⟩
  | .hbm, ⟨3, _⟩ => ⟨S1x3x5632, .f32⟩
  | .hbm, ⟨4, _⟩ => ⟨S1x5632, .f32⟩
  | .hbm, ⟨5, _⟩ => ⟨S2x8192x2048, .f32⟩
  | .hbm, ⟨6, _⟩ => ⟨S2048x5632, .f32⟩
  | .hbm, ⟨7, _⟩ => ⟨S2x8192x5632, .f32⟩
  | .hbm, ⟨8, _⟩ => ⟨S3x5632, .f32⟩
  | .hbm, ⟨9, _⟩ => ⟨S5632, .f32⟩
  | .hbm, ⟨10, _⟩ => ⟨S_, .i32⟩
  | .hbm, ⟨11, _⟩ => ⟨S_, .f32⟩
  | .hbm, ⟨12, _⟩ => ⟨S2x8194x5632, .f32⟩
  | .hbm, ⟨13, _⟩ => ⟨S2x8192x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S2x8192x5632, .f32⟩
  | .hbm, ⟨18, _⟩ => ⟨S2x8192x5632, .f32⟩
  | .hbm, ⟨19, _⟩ => ⟨S1x1x5632, .f32⟩
  | .hbm, ⟨20, _⟩ => ⟨S2x8192x5632, .f32⟩
  | .hbm, ⟨21, _⟩ => ⟨S2x8192x5632, .f32⟩
  | .hbm, ⟨22, _⟩ => ⟨S2x8192x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S2x8192x5632, .f32⟩
  | .hbm, ⟨38, _⟩ => ⟨S_, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2048x5632, .f32⟩
  | .hbm, ⟨46, _⟩ => ⟨S2x8192x5632, .f32⟩
  | .hbm, ⟨47, _⟩ => ⟨S2x8192x5632, .f32⟩
  | .hbm, ⟨48, _⟩ => ⟨S16384x5632, .f32⟩
  | .hbm, ⟨49, _⟩ => ⟨S16384x5632, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== MixOut.lean ====
abbrev S2x8192x1024 : Shape := ⟨3, ![2, 8192, 1024]⟩
abbrev S2x8192x4096 : Shape := ⟨3, ![2, 8192, 4096]⟩
abbrev S2x8192x2048 : Shape := ⟨3, ![2, 8192, 2048]⟩
abbrev S1x1024x2048 : Shape := ⟨3, ![1, 1024, 2048]⟩
abbrev S1x2048x2048 : Shape := ⟨3, ![1, 2048, 2048]⟩
abbrev S2x2048 : Shape := ⟨2, ![2, 2048]⟩
abbrev S1x2048 : Shape := ⟨2, ![1, 2048]⟩
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S2048 : Shape := ⟨1, ![2048]⟩
abbrev S2x1x2048 : Shape := ⟨3, ![2, 1, 2048]⟩
abbrev S512x1024 : Shape := ⟨2, ![512, 1024]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 28
  | .vmem => 24
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x4096, .bf16⟩
  | .hbm, ⟨3, _⟩ => ⟨S2x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2x2048, .f32⟩
  | .hbm, ⟨8, _⟩ => ⟨S1x2048, .f32⟩
  | .hbm, ⟨9, _⟩ => ⟨S2x2048, .f32⟩
  | .hbm, ⟨10, _⟩ => ⟨S2x2048, .f32⟩
  | .hbm, ⟨11, _⟩ => ⟨S16384x1024, .bf16⟩
  | .hbm, ⟨12, _⟩ => ⟨S16384x1024, .bf16⟩
  | .hbm, ⟨13, _⟩ => ⟨S16384x4096, .bf16⟩
  | .hbm, ⟨14, _⟩ => ⟨S16384x2048, .f32⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S1024x2048, .bf16⟩
  | .hbm, ⟨19, _⟩ => ⟨S2048x2048, .f32⟩
  | .hbm, ⟨20, _⟩ => ⟨S2048x2048, .bf16⟩
  | .hbm, ⟨21, _⟩ => ⟨S2048, .f32⟩
  | .hbm, ⟨22, _⟩ => ⟨S2x1x2048, .f32⟩
  | .hbm, ⟨23, _⟩ => ⟨S1x2048, .f32⟩
  | .hbm, ⟨24, _⟩ => ⟨S2x1x2048, .f32⟩
  | .hbm, ⟨25, _⟩ => ⟨S2x1x2048, .f32⟩
  | .hbm, ⟨26, _⟩ => ⟨S16384x2048, .f32⟩
  | .hbm, ⟨27, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutRefIdeal.lean ====
abbrev S2x8192x1024 : Shape := ⟨3, ![2, 8192, 1024]⟩
abbrev S2x8192x4096 : Shape := ⟨3, ![2, 8192, 4096]⟩
abbrev S2x8192x2048 : Shape := ⟨3, ![2, 8192, 2048]⟩
abbrev S1x1024x2048 : Shape := ⟨3, ![1, 1024, 2048]⟩
abbrev S1x2048x2048 : Shape := ⟨3, ![1, 2048, 2048]⟩
abbrev S2x2048 : Shape := ⟨2, ![2, 2048]⟩
abbrev S1x2048 : Shape := ⟨2, ![1, 2048]⟩
abbrev S_ : Shape := ⟨0, ![]⟩
abbrev S1024x2048 : Shape := ⟨2, ![1024, 2048]⟩
abbrev S2x1x2048 : Shape := ⟨3, ![2, 1, 2048]⟩
abbrev S2048x2048 : Shape := ⟨2, ![2048, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x4096, .bf16⟩
  | .hbm, ⟨3, _⟩ => ⟨S2x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2x2048, .f32⟩
  | .hbm, ⟨8, _⟩ => ⟨S1x2048, .f32⟩
  | .hbm, ⟨9, _⟩ => ⟨S2x2048, .f32⟩
  | .hbm, ⟨10, _⟩ => ⟨S2x2048, .f32⟩
  | .hbm, ⟨11, _⟩ => ⟨S2x8192x2048, .bf16⟩
  | .hbm, ⟨12, _⟩ => ⟨S2x8192x2048, .f32⟩
  | .hbm, ⟨13, _⟩ => ⟨S2x8192x2048, .bf16⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192x2048, .f32⟩
  | .hbm, ⟨22, _⟩ => ⟨S2x8192x2048, .f32⟩
  | .hbm, ⟨23, _⟩ => ⟨S2x8192x1024, .f32⟩
  | .hbm, ⟨24, _⟩ => ⟨S1024x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S_, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x8192x2048, .f32⟩
  | .hbm, ⟨34, _⟩ => ⟨S2x8192x2048, .f32⟩
  | .hbm, ⟨35, _⟩ => ⟨S2x8192x1024, .f32⟩
  | .hbm, ⟨36, _⟩ => ⟨S1024x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x1x2048, .f32⟩
  | .hbm, ⟨41, _⟩ => ⟨S2048x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2048, .f32⟩
  | .hbm, ⟨47, _⟩ => ⟨S2x8192x2048, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x2048, .f32⟩
  | .hbm, ⟨59, _⟩ => ⟨S2x8192x2048, .f32⟩
  | .hbm, ⟨60, _⟩ => ⟨S1x1x2048, .f32⟩
  | .hbm, ⟨61, _⟩ => ⟨S2x8192x2048, .f32⟩
  | .hbm, ⟨62, _⟩ => ⟨S2x8192x2048, .f32⟩
  | .hbm, ⟨63, _⟩ => ⟨S2x1x2048, .f32⟩
  | .hbm, ⟨64, _⟩ => ⟨S_, .f32⟩
  | .hbm, ⟨65, _⟩ => ⟨S2x1x2048, .f32⟩
  | .hbm, ⟨66, _⟩ => ⟨S2x1x2048, .f32⟩
  | .hbm, ⟨67, _⟩ => ⟨S2x8192x2048, .f32⟩
  | .hbm, ⟨68, _⟩ => ⟨S2x8192x2048, .f32⟩
  | .hbm, ⟨69, _⟩ => ⟨S2x1x2048, .f32⟩
  | .hbm, ⟨70, _⟩ => ⟨S2x8192x2048, .f32⟩
  | .hbm, ⟨71, _⟩ => ⟨S2x8192x2048, .f32⟩
  | .hbm, ⟨72, _⟩ => ⟨S16384x2048, .f32⟩
  | .hbm, ⟨73, _⟩ => ⟨S16384x2048, .f32⟩
  | .hbm, ⟨74, _⟩ => ⟨S16384x2048, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== InProjT.lean ====
abbrev S2x8192x2048 : Shape := ⟨3, ![2, 8192, 2048]⟩
abbrev S1x2048x11344 : Shape := ⟨3, ![1, 2048, 11344]⟩
abbrev S16384x2048 : Shape := ⟨2, ![16384, 2048]⟩
abbrev S2048x11344 : Shape := ⟨2, ![2048, 11344]⟩
abbrev S11344x2048 : Shape := ⟨2, ![11344, 2048]⟩
abbrev S5120x16384 : Shape := ⟨2, ![5120, 16384]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S16384x2048, .bf16⟩
  | .hbm, ⟨3, _⟩ => ⟨S2048x11344, .f32⟩
  | .hbm, ⟨4, _⟩ => ⟨S11344x2048, .f32⟩
  | .hbm, ⟨5, _⟩ => ⟨S5120x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi c0_i32_1 v1
  let c3_i32 : BitVec 32 := 3#32
  let v3 : BitVec 1 := Scalar.cmpi .sge arg0 c3_i32
  let c1_i32_2 : BitVec 32 := 1#32
  let c0_i32_3 : BitVec 32 := 0#32
  let v4 : BitVec 32 := Scalar.select v3 c1_i32_2 c0_i32_3
  let v5 : BitVec 32 := Scalar.addi v2 v4
  let v6 : BitVec 32 := Scalar.addi arg0 v5
  let c0_i32_4 : BitVec 32 := 0#32
  let c0_i32_5 : BitVec 32 := 0#32
  ![v6.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjTRefIdeal.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S2x8192x11344 : Shape := ⟨3, ![2, 8192, 11344]⟩
abbrev S16384x11344 : Shape := ⟨2, ![16384, 11344]⟩
abbrev S16384x1024 : Shape := ⟨2, ![16384, 1024]⟩
abbrev S_ : Shape := ⟨0, ![]⟩
abbrev S16384x5120 : Shape := ⟨2, ![16384, 5120]⟩
abbrev S5120x16384 : Shape := ⟨2, ![5120, 16384]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2x8192x2048, .f32⟩
  | .hbm, ⟨3, _⟩ => ⟨S2048x11344, .f32⟩
  | .hbm, ⟨4, _⟩ => ⟨S2x8192x11344, .f32⟩
  | .hbm, ⟨5, _⟩ => ⟨S16384x11344, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x5120, .f32⟩
  | .hbm, ⟨18, _⟩ => ⟨S5120x16384, .f32⟩
  | .hbm, ⟨19, _⟩ => ⟨S5120x16384, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== InProj.lean ====
abbrev S2x8192x2048 : Shape := ⟨3, ![2, 8192, 2048]⟩
abbrev S1x2048x11344 : Shape := ⟨3, ![1, 2048, 11344]⟩
abbrev S16384x2048 : Shape := ⟨2, ![16384, 2048]⟩
abbrev S2048x11344 : Shape := ⟨2, ![2048, 11344]⟩
abbrev S11344x2048 : Shape := ⟨2, ![11344, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S16384x2048, .bf16⟩
  | .hbm, ⟨3, _⟩ => ⟨S2048x11344, .f32⟩
  | .hbm, ⟨4, _⟩ => ⟨S11344x2048, .f32⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi c0_i32_1 v1
  let c1_i32_2 : BitVec 32 := 1#32
  let v3 : BitVec 1 := Scalar.cmpi .sge arg0 c1_i32_2
  let c1_i32_3 : BitVec 32 := 1#32
  let c0_i32_4 : BitVec 32 := 0#32
  let v4 : BitVec 32 := Scalar.select v3 c1_i32_3 c0_i32_4
  let v5 : BitVec 32 := Scalar.addi v2 v4
  let c1_i32_5 : BitVec 32 := 1#32
  let v6 : BitVec 1 := Scalar.cmpi .sge arg0 c1_i32_5
  let c1_i32_6 : BitVec 32 := 1#32
  let c0_i32_7 : BitVec 32 := 0#32
  let v7 : BitVec 32 := Scalar.select v6 c1_i32_6 c0_i32_7
  let v8 : BitVec 32 := Scalar.addi v5 v7
  let v9 : BitVec 32 := Scalar.addi arg0 v8
  let c0_i32_8 : BitVec 32 := 0#32
  let c0_i32_9 : BitVec 32 := 0#32
  ![v9.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S2x8192x11344 : Shape := ⟨3, ![2, 8192, 11344]⟩
abbrev S16384x11344 : Shape := ⟨2, ![16384, 11344]⟩
abbrev S16384x1024 : Shape := ⟨2, ![16384, 1024]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2x8192x2048, .f32⟩
  | .hbm, ⟨3, _⟩ => ⟨S2048x11344, .f32⟩
  | .hbm, ⟨4, _⟩ => ⟨S2x8192x11344, .f32⟩
  | .hbm, ⟨5, _⟩ => ⟨S16384x11344, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S16384x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== InProjGates.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S11344x2048 : Shape := ⟨2, ![11344, 2048]⟩
abbrev S16384x2048 : Shape := ⟨2, ![16384, 2048]⟩
abbrev S4096x2048 : Shape := ⟨2, ![4096, 2048]⟩
abbrev S16384x4096 : Shape := ⟨2, ![16384, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2048x11344, .f32⟩
  | .hbm, ⟨3, _⟩ => ⟨S11344x2048, .f32⟩
  | .hbm, ⟨4, _⟩ => ⟨S16384x2048, .bf16⟩
  | .hbm, ⟨5, _⟩ => ⟨S4096x2048, .f32⟩
  | .hbm, ⟨6, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjGatesRefIdeal.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S2x8192x11344 : Shape := ⟨3, ![2, 8192, 11344]⟩
abbrev S16384x11344 : Shape := ⟨2, ![16384, 11344]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2x8192x2048, .f32⟩
  | .hbm, ⟨3, _⟩ => ⟨S2048x11344, .f32⟩
  | .hbm, ⟨4, _⟩ => ⟨S2x8192x11344, .f32⟩
  | .hbm, ⟨5, _⟩ => ⟨S16384x11344, .f32⟩
  | .hbm, ⟨6, _⟩ => ⟨S16384x4096, .f32⟩
  | .hbm, ⟨7, _⟩ => ⟨S16384x4096, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NormMod.lean ====
abbrev S2x8192x2048 : Shape := ⟨3, ![2, 8192, 2048]⟩
abbrev S1x2048 : Shape := ⟨2, ![1, 2048]⟩
abbrev S2x2048 : Shape := ⟨2, ![2, 2048]⟩
abbrev S16384x2048 : Shape := ⟨2, ![16384, 2048]⟩
abbrev S2048 : Shape := ⟨1, ![2048]⟩
abbrev S2x1x2048 : Shape := ⟨3, ![2, 1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S2x8192x2048 : Shape := ⟨3, ![2, 8192, 2048]⟩
abbrev S1x2048 : Shape := ⟨2, ![1, 2048]⟩
abbrev S2x2048 : Shape := ⟨2, ![2, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S16384x2048, .f32⟩
  | .hbm, ⟨31, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== InProjIdx.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S11344x2048 : Shape := ⟨2, ![11344, 2048]⟩
abbrev S64x2048 : Shape := ⟨2, ![64, 2048]⟩
abbrev S16x2048 : Shape := ⟨2, ![16, 2048]⟩
abbrev S_ : Shape := ⟨0, ![]⟩
abbrev S112x2048 : Shape := ⟨2, ![112, 2048]⟩
abbrev S256x2048 : Shape := ⟨2, ![256, 2048]⟩
abbrev S16384x2048 : Shape := ⟨2, ![16384, 2048]⟩
abbrev S16384x256 : Shape := ⟨2, ![16384, 256]⟩
abbrev S1024x2048 : Shape := ⟨2, ![1024, 2048]⟩
abbrev S1024x256 : Shape := ⟨2, ![1024, 256]⟩
abbrev S2048x256 : Shape := ⟨2, ![2048, 256]⟩

abbrev nBuf : Space → Nat
  | .hbm => 11
  | .vmem => 6
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2048x11344, .f32⟩
  | .hbm, ⟨3, _⟩ => ⟨S11344x2048, .f32⟩
  | .hbm, ⟨4, _⟩ => ⟨S64x2048, .f32⟩
  | .hbm, ⟨5, _⟩ => ⟨S16x2048, .f32⟩
  | .hbm, ⟨6, _⟩ => ⟨S_, .f32⟩
  | .hbm, ⟨7, _⟩ => ⟨S112x2048, .f32⟩
  | .hbm, ⟨8, _⟩ => ⟨S256x2048, .f32⟩
  | .hbm, ⟨9, _⟩ => ⟨S16384x2048, .bf16⟩
  | .hbm, ⟨10, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .f32⟩
  | .local _ .vmem, ⟨3, _⟩ => ⟨S1024x256, .bf16⟩
  | .local _ .vmem, ⟨4, _⟩ => ⟨S1024x256, .bf16⟩
  | .local _ .vmem, ⟨5, _⟩ => ⟨S2048x256, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdxRefIdeal.lean ====
abbrev S2x8192x2048 : Shape := ⟨3, ![2, 8192, 2048]⟩
abbrev S1x2048x11344 : Shape := ⟨3, ![1, 2048, 11344]⟩
abbrev S2048x11344 : Shape := ⟨2, ![2048, 11344]⟩
abbrev S2x8192x11344 : Shape := ⟨3, ![2, 8192, 11344]⟩
abbrev S16384x11344 : Shape := ⟨2, ![16384, 11344]⟩
abbrev S16384x64 : Shape := ⟨2, ![16384, 64]⟩
abbrev S16384x16 : Shape := ⟨2, ![16384, 16]⟩
abbrev S_ : Shape := ⟨0, ![]⟩
abbrev S16384x112 : Shape := ⟨2, ![16384, 112]⟩
abbrev S16384x256 : Shape := ⟨2, ![16384, 256]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x11344, .f32⟩
  | .hbm, ⟨2, _⟩ => ⟨S2x8192x2048, .f32⟩
  | .hbm, ⟨3, _⟩ => ⟨S2048x11344, .f32⟩
  | .hbm, ⟨4, _⟩ => ⟨S2x8192x11344, .f32⟩
  | .hbm, ⟨5, _⟩ => ⟨S16384x11344, .f32⟩
  | .hbm, ⟨6, _⟩ => ⟨S16384x64, .f32⟩
  | .hbm, ⟨7, _⟩ => ⟨S16384x16, .f32⟩
  | .hbm, ⟨8, _⟩ => ⟨S_, .f32⟩
  | .hbm, ⟨9, _⟩ => ⟨S16384x112, .f32⟩
  | .hbm, ⟨10, _⟩ => ⟨S16384x256, .f32⟩
  | .hbm, ⟨11, _⟩ => ⟨S16384x256, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Adaln.lean ====
abbrev S2x2048 : Shape := ⟨2, ![2, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S2048x2 : Shape := ⟨2, ![2048, 2]⟩
abbrev S2x12288 : Shape := ⟨2, ![2, 12288]⟩
abbrev S2048x1024 : Shape := ⟨2, ![2048, 1024]⟩
abbrev S1x1024 : Shape := ⟨2, ![1, 1024]⟩
abbrev S2x1024 : Shape := ⟨2, ![2, 1024]⟩
abbrev S2048x1 : Shape := ⟨2, ![2048, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S2048x2, .f32⟩
  | .hbm, ⟨6, _⟩ => ⟨S1x12288, .f32⟩
  | .hbm, ⟨7, _⟩ => ⟨S2x12288, .f32⟩
  | .local _ .vmem, ⟨0, _⟩ => ⟨S2048x2, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x12288, .f32⟩
  | .hbm, ⟨13, _⟩ => ⟨S2x12288, .f32⟩
  | .hbm, ⟨14, _⟩ => ⟨S12288, .f32⟩
  | .hbm, ⟨15, _⟩ => ⟨S1x12288, .f32⟩
  | .hbm, ⟨16, _⟩ => ⟨S2x12288, .f32⟩
  | .hbm, ⟨17, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Sb.Kit.lean ====
/-
  What the stick-breaking attention's run is stated over: the arrays as the region finds them, the windows' blocks,
  the memrefs the body is called with, and the frame read off a run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The host operations before the region leave this argument as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region leave this argument as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region leave this argument as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The window's current staging buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The window's current staging buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The window's current staging buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the three argument arrays. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩) h

/-! ## The memrefs the body is called with -/

/-- One staging buffer of the output window, through which its contents are stated. -/
abbrev VO0_3 : View sig .tc .vmem S256x512 .bf16 := (Memref.whole cc0_stg3_0 : Memref sig .tc .vmem S256x512 .bf16).view
/-- Each window's current staging memref at point `t`, spelled as the pipeline passes it (`bodyAt0`), and its wholeness. -/
abbrev ms0_0 (t : Fin (cfg0 (F := F)).N) : Memref sig .tc .vmem S512x256 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x512 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S512x8192 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x512 .bf16 := win0_3.stage ((cfg0 (F := F)).slots t 3)
abbrev hs0_3 (t : Fin (cfg0 (F := F)).N) : (ms0_3 t).IsWhole := hstage0_3 (((cfg0 (F := F)).slots t 3).cast nbuf0_3)
/-- The scratch operands: whole scoped buffers of the kernel's own, passed beside the windows. -/
abbrev scM0_0 : Memref sig .tc .vmem S4x1x256 .f32 := Memref.whole cc0_scratch0
abbrev scM0_1 : Memref sig .tc .vmem S4x128x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Sb

end
-- ==== Proof.Sb.Trip.lean ====
/-
  One trip of the block loop, run symbolically.
-/
module

public import proofs.«01_k».proof.Proof.Sb.Kit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- One trip of the block loop up to its next call: the contents its stores leave and the flag it passes on. -/
def tripRun (c : Dev nD) (i : grid0.Coords) (arg4 : Memref sig .tc .vmem S8192x512 .bf16) (harg4 : arg4.IsWhole) (arg3 : Memref sig .tc .vmem S512x256 .bf16) (harg3 : arg3.IsWhole) (v14 : FVec F S256x256 .bf16) (arg7 : Memref sig .tc .vmem S4x1x256 .f32) (harg7 : arg7.IsWhole) (arg8 : Memref sig .tc .vmem S4x128x256 .f32) (harg8 : arg8.IsWhole) (arg5 : Memref sig .tc .vmem S512x8192 .bf16) (harg5 : arg5.IsWhole)
    (kb : BitVec 32) (hkb : k0_chk1 kb)
    (x0 : Vec F S512x256 .bf16) (x1 : Vec F S8192x512 .bf16) (x2 : Vec F S512x8192 .bf16) (y0 : Vec F S4x1x256 .f32) (y1 : Vec F S4x128x256 .f32) :
    Σ' (L7 : List (View.Piece (Elt F) S4x1x256 .f32)) (L8 : List (View.Piece (Elt F) S4x128x256 .f32)), { D : BitVec 1 //
      ∀ (dead : BitVec 1) (hc : Scalar.andi (Scalar.cmpi .sge kb 0#32) (Scalar.xori dead 1#1) = 1#1) (bd : Option Variants.nat.V) (E : Set ℕ) (K : BitVec 32 × BitVec 1 → sProp 𝕄),
        iprop(owns (c : Thread nD τ) arg3 fullShare x0 ∗ owns (c : Thread nD τ) arg4 fullShare x1 ∗ owns (c : Thread nD τ) arg5 fullShare x2 ∗ owns (c : Thread nD τ) arg7 fullShare y0 ∗ owns (c : Thread nD τ) arg8 fullShare y1
            ∗ (∀ (w : BitVec 32) (d : BitVec 1), iprop(owns (c : Thread nD τ) arg3 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ ⌜w = Scalar.subi kb 1#32⌝ ∗ ⌜d = D⌝)
              -∗ wp frame (wpE (defs₀ (F := F)) Variants.nat c bd) E (.op (.call (1 : (Λ₀ F).Label) ⟨i, arg4, harg4, arg3, harg3, v14, arg7, harg7, arg8, harg8, arg5, harg5, w, d⟩) .ret) K))
          ⊢ wp frame (wpE (defs₀ (F := F)) Variants.nat c bd) E (cc0_while1 i arg4 harg4 arg3 harg3 v14 arg7 harg7 arg8 harg8 arg5 harg5 kb dead) K } := by
  refine ⟨?_, ?_, ?_, fun dead hc bd E K => ?run⟩
  case run =>
    simp only [cc0_while1_eq_skeleton]; unfold cc0_while1_skel
    simp only [k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg7.eq_unread hf3; obtain rfl := harg8.eq_unread hf4
    sl_exec
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitr; · ipureintro; rfl
    ipureintro; rfl

end Cert.KernelIdeal.Sb

end
-- ==== Proof.Sb.Loop.lean ====
/-
  The block loop: what its trips leave, one after another, and its label's specification met by induction on the trips to go.
-/
module

public import proofs.«01_k».proof.Proof.Sb.Trip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two scratch buffers through which the carried contents are stated. -/
abbrev VR : View sig .tc .vmem S4x1x256 .f32 := (Memref.whole cc0_scratch0 : Memref sig .tc .vmem S4x1x256 .f32).view
abbrev VA : View sig .tc .vmem S4x128x256 .f32 := (Memref.whole cc0_scratch1 : Memref sig .tc .vmem S4x128x256 .f32).view

/-- A memref whose stores cover it holds their pieces read back, whatever it held before. -/
theorem owns_writes {s : Shape} {e : EltTy} (c : Dev nD) (mm : Memref sig .tc .vmem s e) (v : View sig .tc .vmem s e)
    (L : List (View.Piece (Elt F) s e)) (hcov : ∀ y, ∃ pc ∈ L, y ∈ pc.1.set) (f : Buf (Elt F) (mm.view.loc (c : Thread nD τ))) :
    (mm.view.loc (c : Thread nD τ) ↦[mm.view.set]{fullShare} mm.view.writes (Elt F) f L : sProp 𝕄)
      ⊢ owns (c : Thread nD τ) mm fullShare (v.read (Elt F) (v.writes (Elt F) v.junk L)) := by
  unfold owns
  iintro H; iexists _; isplitr
  swap; · iexact H
  ipureintro; exact View.read_writes_of_cover _ _ _ _ _ hcov

/-- The counter at a trip lies inside the arrays, -/
theorem chk_lt : ∀ n < 32, k0_chk1 (BitVec.ofNat 32 n) := by decide +kernel

/-- a live counter passes the test, -/
theorem test_pos : ∀ n < 32, Scalar.andi (Scalar.cmpi .sge (BitVec.ofNat 32 n) 0#32) (Scalar.xori 0#1 1#1) = 1#1 := by decide +kernel
/-- a dead flag fails it, -/
theorem test_dead (w : BitVec 32) : ¬ Scalar.andi (Scalar.cmpi .sge w 0#32) (Scalar.xori 1#1 1#1) = 1#1 := by
  simp [Scalar.andi, Scalar.xori, IntOp.andi, IntOp.xori]
/-- the step takes the counter down by one. -/
theorem step_word : ∀ n < 32, Scalar.subi (BitVec.ofNat 32 (n + 1)) 1#32 = BitVec.ofNat 32 n := by decide +kernel

section Loop

variable (c : Dev nD) (i : grid0.Coords) (arg4 : Memref sig .tc .vmem S8192x512 .bf16) (harg4 : arg4.IsWhole) (arg3 : Memref sig .tc .vmem S512x256 .bf16) (harg3 : arg3.IsWhole) (v14 : FVec F S256x256 .bf16) (arg7 : Memref sig .tc .vmem S4x1x256 .f32) (harg7 : arg7.IsWhole) (arg8 : Memref sig .tc .vmem S4x128x256 .f32) (harg8 : arg8.IsWhole) (arg5 : Memref sig .tc .vmem S512x8192 .bf16) (harg5 : arg5.IsWhole)
  (x0 : Vec F S512x256 .bf16) (x1 : Vec F S8192x512 .bf16) (x2 : Vec F S512x8192 .bf16)

/-- What trip `n` leaves in the running sum, -/
def tripR (n : ℕ) (hn : n < 32) (y0 : Vec F S4x1x256 .f32) (y1 : Vec F S4x128x256 .f32) : Vec F S4x1x256 .f32 :=
  VR.read (Elt F) (VR.writes (Elt F) VR.junk (tripRun c i arg4 harg4 arg3 harg3 v14 arg7 harg7 arg8 harg8 arg5 harg5 (BitVec.ofNat 32 n) (chk_lt n hn) x0 x1 x2 y0 y1).1)
/-- in the accumulator, -/
def tripA (n : ℕ) (hn : n < 32) (y0 : Vec F S4x1x256 .f32) (y1 : Vec F S4x128x256 .f32) : Vec F S4x128x256 .f32 :=
  VA.read (Elt F) (VA.writes (Elt F) VA.junk (tripRun c i arg4 harg4 arg3 harg3 v14 arg7 harg7 arg8 harg8 arg5 harg5 (BitVec.ofNat 32 n) (chk_lt n hn) x0 x1 x2 y0 y1).2.1)
/-- and in the flag. -/
def tripD (n : ℕ) (hn : n < 32) (y0 : Vec F S4x1x256 .f32) (y1 : Vec F S4x128x256 .f32) : BitVec 1 :=
  (tripRun c i arg4 harg4 arg3 harg3 v14 arg7 harg7 arg8 harg8 arg5 harg5 (BitVec.ofNat 32 n) (chk_lt n hn) x0 x1 x2 y0 y1).2.2.1

/-- The trips' stores tile the running sum, -/
theorem cover_R (n : ℕ) (hn : n < 32) (y0 : Vec F S4x1x256 .f32) (y1 : Vec F S4x128x256 .f32) (y : S4x1x256.Idx) :
    ∃ pc ∈ (tripRun c i arg4 harg4 arg3 harg3 v14 arg7 harg7 arg8 harg8 arg5 harg5 (BitVec.ofNat 32 n) (chk_lt n hn) x0 x1 x2 y0 y1).1, y ∈ pc.1.set :=
  View.cover_of_tiledL (tripRun c i arg4 harg4 arg3 harg3 v14 arg7 harg7 arg8 harg8 arg5 harg5 (BitVec.ofNat 32 n) (chk_lt n hn) x0 x1 x2 y0 y1).1 S1x1x256.size (by sl_kernel_rfl) y
/-- and the accumulator. -/
theorem cover_A (n : ℕ) (hn : n < 32) (y0 : Vec F S4x1x256 .f32) (y1 : Vec F S4x128x256 .f32) (y : S4x128x256.Idx) :
    ∃ pc ∈ (tripRun c i arg4 harg4 arg3 harg3 v14 arg7 harg7 arg8 harg8 arg5 harg5 (BitVec.ofNat 32 n) (chk_lt n hn) x0 x1 x2 y0 y1).2.1, y ∈ pc.1.set :=
  View.cover_of_tiledL (tripRun c i arg4 harg4 arg3 harg3 v14 arg7 harg7 arg8 harg8 arg5 harg5 (BitVec.ofNat 32 n) (chk_lt n hn) x0 x1 x2 y0 y1).2.1 S1x128x256.size (by sl_kernel_rfl) y

/-- What the loop leaves in the accumulator with `n` trips at most to go: trips `n - 1, …, 0`, until the flag is set. -/
def loopA : ℕ → BitVec 1 → Vec F S4x1x256 .f32 → Vec F S4x128x256 .f32 → Vec F S4x128x256 .f32
  | 0, _, _, y1 => y1
  | n + 1, d, y0, y1 =>
    if d = 1#1 then y1
    else if hn : n < 32 then
      loopA n (tripD c i arg4 harg4 arg3 harg3 v14 arg7 harg7 arg8 harg8 arg5 harg5 x0 x1 x2 n hn y0 y1) (tripR c i arg4 harg4 arg3 harg3 v14 arg7 harg7 arg8 harg8 arg5 harg5 x0 x1 x2 n hn y0 y1) (tripA c i arg4 harg4 arg3 harg3 v14 arg7 harg7 arg8 harg8 arg5 harg5 x0 x1 x2 n hn y0 y1)
    else y1

/-- The buffers the loop reads and writes. -/
def held (y0 : Vec F S4x1x256 .f32) (y1 : Vec F S4x128x256 .f32) : sProp 𝕄 :=
  iprop(owns (c : Thread nD τ) arg3 fullShare x0 ∗ owns (c : Thread nD τ) arg4 fullShare x1 ∗ owns (c : Thread nD τ) arg5 fullShare x2 ∗ owns (c : Thread nD τ) arg7 fullShare y0 ∗ owns (c : Thread nD τ) arg8 fullShare y1)

/-- The label's specification with `n` trips at most to go. -/
def spec (n : ℕ) (d : BitVec 1) (y0 : Vec F S4x1x256 .f32) (y1 : Vec F S4x128x256 .f32) : sWPT 𝕄 (BitVec 32 × BitVec 1) := do
  sWPT.consume (held c arg4 arg3 arg7 arg8 arg5 x0 x1 x2 y0 y1)
  let r ← sWPT.arbitrary
  sWPT.produce (iprop(∃ y, held c arg4 arg3 arg7 arg8 arg5 x0 x1 x2 y (loopA c i arg4 harg4 arg3 harg3 v14 arg7 harg7 arg8 harg8 arg5 harg5 x0 x1 x2 n d y0 y1)))
  pure r

theorem spec_apply (n : ℕ) (d : BitVec 1) (y0 : Vec F S4x1x256 .f32) (y1 : Vec F S4x128x256 .f32) (K : BitVec 32 × BitVec 1 → sProp 𝕄) :
    spec c i arg4 harg4 arg3 harg3 v14 arg7 harg7 arg8 harg8 arg5 harg5 x0 x1 x2 n d y0 y1 K
      = iprop(held c arg4 arg3 arg7 arg8 arg5 x0 x1 x2 y0 y1 ∗ ∀ r : BitVec 32 × BitVec 1,
          (∃ y, held c arg4 arg3 arg7 arg8 arg5 x0 x1 x2 y (loopA c i arg4 harg4 arg3 harg3 v14 arg7 harg7 arg8 harg8 arg5 harg5 x0 x1 x2 n d y0 y1)) -∗ K r) := rfl

/-- A counter whose test fails leaves everything as it is. -/
theorem exit_le (E : Set ℕ) (bd : Option Variants.nat.V) (w : BitVec 32) (d : BitVec 1) (hc : ¬ Scalar.andi (Scalar.cmpi .sge w 0#32) (Scalar.xori d 1#1) = 1#1)
    (y0 : Vec F S4x1x256 .f32) (y1 : Vec F S4x128x256 .f32) (K : BitVec 32 × BitVec 1 → sProp 𝕄) :
    iprop(held c arg4 arg3 arg7 arg8 arg5 x0 x1 x2 y0 y1 ∗ ∀ r : BitVec 32 × BitVec 1,
          (∃ y, held c arg4 arg3 arg7 arg8 arg5 x0 x1 x2 y y1) -∗ K r)
      ⊢ wp frame (wpE (defs₀ (F := F)) Variants.nat (c : Thread nD τ) bd) E
          (cc0_while1 i arg4 harg4 arg3 harg3 v14 arg7 harg7 arg8 harg8 arg5 harg5 w d) K := by
  unfold cc0_while1
  simp only [hc, ↓reduceIte, Prog.pure_eq_ret]
  iintro ⟨H, Hk⟩
  rw [wp_ret]; imodintro
  iapply Hk
  iexists _; iexact H

/-- The specification is met by the label's body entered with `n` trips to go. -/
theorem spec_le (E : Set ℕ) :
    ∀ n, n ≤ 32 → ∀ (w : BitVec 32), (n = 0 → ∀ d, ¬ Scalar.andi (Scalar.cmpi .sge w 0#32) (Scalar.xori d 1#1) = 1#1) → (∀ k, n = k + 1 → w = BitVec.ofNat 32 k) →
      ∀ d y0 y1 K, spec c i arg4 harg4 arg3 harg3 v14 arg7 harg7 arg8 harg8 arg5 harg5 x0 x1 x2 n d y0 y1 K
      ⊢ wp frame (wpE (defs₀ (F := F)) Variants.nat (c : Thread nD τ) (some n)) E
          (defs₀ (F := F) .tc 1 ⟨i, arg4, harg4, arg3, harg3, v14, arg7, harg7, arg8, harg8, arg5, harg5, w, d⟩) K := by
  intro n
  induction n with
  | zero =>
    intro _ w h0 _ d y0 y1 K
    rw [spec_apply]
    exact exit_le c i arg4 harg4 arg3 harg3 v14 arg7 harg7 arg8 harg8 arg5 harg5 x0 x1 x2 E (some 0) w d (h0 rfl d) y0 y1 K
  | succ n ih =>
    intro hn w _ hw d y0 y1 K
    have hn' : n < 32 := by omega
    obtain rfl := hw n rfl
    rw [spec_apply]
    by_cases hd : d = 1#1
    · subst hd
      rw [loopA, if_pos rfl]
      exact exit_le c i arg4 harg4 arg3 harg3 v14 arg7 harg7 arg8 harg8 arg5 harg5 x0 x1 x2 E (some (n + 1)) _ _ (test_dead _) y0 y1 K
    · have hd0 : d = 0#1 := by revert hd; revert d; decide
      rw [loopA, if_neg hd, dif_pos hn']
      subst hd0
      refine BIBase.Entails.trans ?_ ((tripRun c i arg4 harg4 arg3 harg3 v14 arg7 harg7 arg8 harg8 arg5 harg5 (BitVec.ofNat 32 n) (chk_lt n hn') x0 x1 x2 y0 y1).2.2.2 0#1 (test_pos n hn') (some (n + 1)) E K)
      unfold held
      iintro ⟨⟨H0, H1, H2, H3, H4⟩, Hk⟩
      isplitl [H0]; · iexact H0
      isplitl [H1]; · iexact H1
      isplitl [H2]; · iexact H2
      isplitl [H3]; · iexact H3
      isplitl [H4]; · iexact H4
      iintro %w %d ⟨H0, H1, H2, ⟨%g3, H3⟩, ⟨%g4, H4⟩, %hw, %hd⟩
      icases (owns_writes c arg7 VR _ (cover_R c i arg4 harg4 arg3 harg3 v14 arg7 harg7 arg8 harg8 arg5 harg5 x0 x1 x2 n hn' y0 y1) g3) $$ H3 with H3
      icases (owns_writes c arg8 VA _ (cover_A c i arg4 harg4 arg3 harg3 v14 arg7 harg7 arg8 harg8 arg5 harg5 x0 x1 x2 n hn' y0 y1) g4) $$ H4 with H4
      subst hd
      iapply (wp_call_spec Variants.nat (c : Thread nD τ) (some (n + 1)) E
        (spec c i arg4 harg4 arg3 harg3 v14 arg7 harg7 arg8 harg8 arg5 harg5 x0 x1 x2 n (tripD c i arg4 harg4 arg3 harg3 v14 arg7 harg7 arg8 harg8 arg5 harg5 x0 x1 x2 n hn' y0 y1)
          (tripR c i arg4 harg4 arg3 harg3 v14 arg7 harg7 arg8 harg8 arg5 harg5 x0 x1 x2 n hn' y0 y1) (tripA c i arg4 harg4 arg3 harg3 v14 arg7 harg7 arg8 harg8 arg5 harg5 x0 x1 x2 n hn' y0 y1)) n
        (fun u hu => by cases hu; exact Nat.lt_succ_self n)
        (ih (by omega) w (fun h0 d => by subst hw; subst h0; revert d; decide +kernel) (fun k hk => by subst hw; subst hk; exact step_word k (by omega)) _ _ _))
      rw [spec_apply]; unfold held
      isplitl [H0 H1 H2 H3 H4]
      · isplitl [H0]; · iexact H0
        isplitl [H1]; · iexact H1
        isplitl [H2]; · iexact H2
        isplitl [H3]; · iexact H3
        iexact H4
      iintro %r H
      rw [wp_ret]; imodintro
      iapply Hk; iexact H

end Loop

end Cert.KernelIdeal.Sb

end
-- ==== Proof.Sb.EntryFar.lean ====
/-
  The body at a point past the first of its row, run symbolically.
-/
module

public import proofs.«01_k».proof.Proof.Sb.Loop

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Four pieces of one size tile the shape, whatever was stored before them. -/
theorem cover_head4 {s : Shape} {e : EltTy} (L : List (View.Piece (Elt F) s e)) (size : Fin s.rank → ℕ) (h : View.Piece.tiledL (L.take 4) size = true) (y : s.Idx) :
    ∃ pc ∈ L, y ∈ pc.1.set := by
  obtain ⟨pc, hpc, hy⟩ := View.cover_of_tiledL (L.take 4) size h y
  exact ⟨pc, List.mem_of_mem_take hpc, hy⟩

set_option maxHeartbeats 4000000 in
/-- The body at a point past the first: the two blocks on and before the diagonal, the loop, and the write-out. The block loop is a
    function `Z` of what it finds (`hloop`). -/
def entryFar (c : Dev nD) (i : grid0.Coords) (arg3 : Memref sig .tc .vmem S512x256 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S256x512 .bf16) (harg6 : arg6.IsWhole) (arg7 : Memref sig .tc .vmem S4x1x256 .f32) (harg7 : arg7.IsWhole) (arg8 : Memref sig .tc .vmem S4x128x256 .f32) (harg8 : arg8.IsWhole)
    (x0 : Vec F S512x256 .bf16) (x1 : Vec F S8192x512 .bf16) (x2 : Vec F S512x8192 .bf16) (h : k0_cond1 i = 1#1) (Z : BitVec 1 → Vec F S4x1x256 .f32 → Vec F S4x128x256 .f32 → Vec F S4x128x256 .f32) :
    { L6 : List (View.Piece (Elt F) S256x512 .bf16) //
      ∀ (hloop : ∀ (w : BitVec 32) (d : BitVec 1) (y0 : Vec F S4x1x256 .f32) (y1 : Vec F S4x128x256 .f32) (hw : w = Scalar.subi (BitVec.ofNat 32 (i 2).val) 2#32)
          (E : Set ℕ) (kk : BitVec 32 × BitVec 1 → Prog (TpuEff nD τ sig (Elt F) (Λ₀ F) .tc) PUnit) (K : PUnit → sProp 𝕄),
          iprop(held c arg4 arg3 arg7 arg8 arg5 x0 x1 x2 y0 y1 ∗ ∀ r : BitVec 32 × BitVec 1, (∃ y, held c arg4 arg3 arg7 arg8 arg5 x0 x1 x2 y (Z d y0 y1)) -∗ wp frame (wpE (defs₀ (F := F)) Variants.nat c none) E (kk r) K)
            ⊢ wp frame (wpE (defs₀ (F := F)) Variants.nat c none) E (.op (.call (1 : (Λ₀ F).Label) ⟨i, arg4, harg4, arg3, harg3, k0_pay124 (F := F), arg7, harg7, arg8, harg8, arg5, harg5, w, d⟩) kk) K)
        (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6) ∗ (∃ d, owns (c : Thread nD τ) arg7 fullShare d) ∗ (∃ d, owns (c : Thread nD τ) arg8 fullShare d)) -∗ K ⟨⟩))
          ⊢ wp frame (wpE (defs₀ (F := F)) Variants.nat c none) E (cc0_sb_attn i arg3 harg3 arg4 harg4 arg5 harg5 arg6 harg6 arg7 harg7 arg8 harg8) K } := by
  refine ⟨?_, fun hloop E K => ?run⟩
  case run =>
    simp only [cc0_sb_attn_eq_skeleton]; unfold cc0_sb_attn_skel
    simp only [k0_part14_eq_skeleton]; unfold k0_part14_skel
    simp only [h, ↓reduceDIte]
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d5, %f5, -, H5⟩, ⟨%d3, %f3, -, H3⟩, ⟨%d4, %f4, -, H4⟩, Hk⟩
    obtain rfl := harg3.eq_unread hf0; obtain rfl := harg4.eq_unread hf1; obtain rfl := harg5.eq_unread hf2
    sl_exec
    icases (owns_writes c arg7 VR _ (cover_head4 _ S1x1x256.size (by sl_kernel_rfl)) f3) $$ H3 with H3
    icases (owns_writes c arg8 VA _ (cover_head4 _ S1x128x256.size (by sl_kernel_rfl)) f4) $$ H4 with H4
    iapply (hloop _ _ _ _ rfl E _ K)
    unfold held
    unfold owns
    isplitl [H0 H1 H2 H3 H4]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]; · iexact H3
      iexact H4
    iintro %r ⟨%y, ⟨%g0, %hg0, H0⟩, ⟨%g1, %hg1, H1⟩, ⟨%g2, %hg2, H2⟩, ⟨%g3, %hg3, H3⟩, ⟨%g4, %hg4, H4⟩⟩
    obtain rfl := harg3.eq_unread hg0; obtain rfl := harg4.eq_unread hg1; obtain rfl := harg5.eq_unread hg2
    obtain rfl := harg7.eq_unread hg3; obtain rfl := harg8.eq_unread hg4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]; · iexists _; iexact H5
    isplitl [H3]
    · iexists y; iexists (harg7.unread y); isplitr; · ipureintro; exact harg7.read_unread _
      iexact H3
    iexists _; iexists _; isplitr
    swap; · iexact H4
    ipureintro; rfl

end Cert.KernelIdeal.Sb

end
-- ==== Proof.Sb.EntryDiag.lean ====
/-
  The body at the first point of its row, run symbolically.
-/
module

public import proofs.«01_k».proof.Proof.Sb.EntryFar

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first point: the diagonal block, the loop, and the write-out. The block loop is a
    function `Z` of what it finds (`hloop`). -/
def entryDiag (c : Dev nD) (i : grid0.Coords) (arg3 : Memref sig .tc .vmem S512x256 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S256x512 .bf16) (harg6 : arg6.IsWhole) (arg7 : Memref sig .tc .vmem S4x1x256 .f32) (harg7 : arg7.IsWhole) (arg8 : Memref sig .tc .vmem S4x128x256 .f32) (harg8 : arg8.IsWhole)
    (x0 : Vec F S512x256 .bf16) (x1 : Vec F S8192x512 .bf16) (x2 : Vec F S512x8192 .bf16) (h : ¬ k0_cond1 i = 1#1) (Z : BitVec 1 → Vec F S4x1x256 .f32 → Vec F S4x128x256 .f32 → Vec F S4x128x256 .f32) :
    { L6 : List (View.Piece (Elt F) S256x512 .bf16) //
      ∀ (hloop : ∀ (w : BitVec 32) (d : BitVec 1) (y0 : Vec F S4x1x256 .f32) (y1 : Vec F S4x128x256 .f32) (hw : w = Scalar.subi (BitVec.ofNat 32 (i 2).val) 2#32)
          (E : Set ℕ) (kk : BitVec 32 × BitVec 1 → Prog (TpuEff nD τ sig (Elt F) (Λ₀ F) .tc) PUnit) (K : PUnit → sProp 𝕄),
          iprop(held c arg4 arg3 arg7 arg8 arg5 x0 x1 x2 y0 y1 ∗ ∀ r : BitVec 32 × BitVec 1, (∃ y, held c arg4 arg3 arg7 arg8 arg5 x0 x1 x2 y (Z d y0 y1)) -∗ wp frame (wpE (defs₀ (F := F)) Variants.nat c none) E (kk r) K)
            ⊢ wp frame (wpE (defs₀ (F := F)) Variants.nat c none) E (.op (.call (1 : (Λ₀ F).Label) ⟨i, arg4, harg4, arg3, harg3, k0_pay124 (F := F), arg7, harg7, arg8, harg8, arg5, harg5, w, d⟩) kk) K)
        (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6) ∗ (∃ d, owns (c : Thread nD τ) arg7 fullShare d) ∗ (∃ d, owns (c : Thread nD τ) arg8 fullShare d)) -∗ K ⟨⟩))
          ⊢ wp frame (wpE (defs₀ (F := F)) Variants.nat c none) E (cc0_sb_attn i arg3 harg3 arg4 harg4 arg5 harg5 arg6 harg6 arg7 harg7 arg8 harg8) K } := by
  refine ⟨?_, fun hloop E K => ?run⟩
  case run =>
    simp only [cc0_sb_attn_eq_skeleton]; unfold cc0_sb_attn_skel
    simp only [k0_part14_eq_skeleton]; unfold k0_part14_skel
    simp only [h, ↓reduceDIte]
    simp only [k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d5, %f5, -, H5⟩, ⟨%d3, %f3, -, H3⟩, ⟨%d4, %f4, -, H4⟩, Hk⟩
    obtain rfl := harg3.eq_unread hf0; obtain rfl := harg4.eq_unread hf1; obtain rfl := harg5.eq_unread hf2
    sl_exec
    icases (owns_writes c arg7 VR _ (cover_head4 _ S1x1x256.size (by sl_kernel_rfl)) f3) $$ H3 with H3
    icases (owns_writes c arg8 VA _ (cover_head4 _ S1x128x256.size (by sl_kernel_rfl)) f4) $$ H4 with H4
    iapply (hloop _ _ _ _ rfl E _ K)
    unfold held
    unfold owns
    isplitl [H0 H1 H2 H3 H4]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]; · iexact H3
      iexact H4
    iintro %r ⟨%y, ⟨%g0, %hg0, H0⟩, ⟨%g1, %hg1, H1⟩, ⟨%g2, %hg2, H2⟩, ⟨%g3, %hg3, H3⟩, ⟨%g4, %hg4, H4⟩⟩
    obtain rfl := harg3.eq_unread hg0; obtain rfl := harg4.eq_unread hg1; obtain rfl := harg5.eq_unread hg2
    obtain rfl := harg7.eq_unread hg3; obtain rfl := harg8.eq_unread hg4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]; · iexists _; iexact H5
    isplitl [H3]
    · iexists y; iexists (harg7.unread y); isplitr; · ipureintro; exact harg7.read_unread _
      iexact H3
    iexists _; iexists _; isplitr
    swap; · iexact H4
    ipureintro; rfl

end Cert.KernelIdeal.Sb

end
-- ==== Proof.Sb.Run.lean ====
/-
  The run of the stick-breaking attention: what every grid point leaves in the output's buffer, the proof data of the
  pipeline, the body at a point, and the run of @main with its frame.
-/
module

public import proofs.«01_k».proof.Proof.Sb.EntryDiag
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Point

variable (c : Dev nD) (i : grid0.Coords) (arg3 : Memref sig .tc .vmem S512x256 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S256x512 .bf16) (harg6 : arg6.IsWhole) (arg7 : Memref sig .tc .vmem S4x1x256 .f32) (harg7 : arg7.IsWhole) (arg8 : Memref sig .tc .vmem S4x128x256 .f32) (harg8 : arg8.IsWhole)
  (x0 : Vec F S512x256 .bf16) (x1 : Vec F S8192x512 .bf16) (x2 : Vec F S512x8192 .bf16)

/-- The loop's counter starts two below the point's own block: no trip at the first two points, -/
theorem start_none : ∀ q < 2, ∀ d : BitVec 1, ¬ Scalar.andi (Scalar.cmpi .sge (Scalar.subi (BitVec.ofNat 32 q) 2#32) 0#32) (Scalar.xori d 1#1) = 1#1 := by decide +kernel
/-- and the blocks below it past them. -/
theorem start_word : ∀ k < 30, Scalar.subi (BitVec.ofNat 32 (k + 2)) 2#32 = BitVec.ofNat 32 k := by decide +kernel

/-- What the block loop of a point leaves in the accumulator. -/
def loopZ (d : BitVec 1) (y0 : Vec F S4x1x256 .f32) (y1 : Vec F S4x128x256 .f32) : Vec F S4x128x256 .f32 :=
  loopA c i arg4 harg4 arg3 harg3 (k0_pay124 (F := F)) arg7 harg7 arg8 harg8 arg5 harg5 x0 x1 x2 ((i 2).val - 1) d y0 y1

/-- The block loop, called from the body. -/
theorem loop_holds (w : BitVec 32) (d : BitVec 1) (y0 : Vec F S4x1x256 .f32) (y1 : Vec F S4x128x256 .f32) (hw : w = Scalar.subi (BitVec.ofNat 32 (i 2).val) 2#32)
    (E : Set ℕ) (kk : BitVec 32 × BitVec 1 → Prog (TpuEff nD τ sig (Elt F) (Λ₀ F) .tc) PUnit) (K : PUnit → sProp 𝕄) :
    iprop(held c arg4 arg3 arg7 arg8 arg5 x0 x1 x2 y0 y1 ∗ ∀ r : BitVec 32 × BitVec 1, (∃ y, held c arg4 arg3 arg7 arg8 arg5 x0 x1 x2 y (loopZ c i arg3 harg3 arg4 harg4 arg5 harg5 arg7 harg7 arg8 harg8 x0 x1 x2 d y0 y1)) -∗ wp frame (wpE (defs₀ (F := F)) Variants.nat c none) E (kk r) K)
      ⊢ wp frame (wpE (defs₀ (F := F)) Variants.nat c none) E (.op (.call (1 : (Λ₀ F).Label) ⟨i, arg4, harg4, arg3, harg3, k0_pay124 (F := F), arg7, harg7, arg8, harg8, arg5, harg5, w, d⟩) kk) K := by
  have hi : (i 2).val < 32 := (i 2).isLt
  have hs := spec_le c i arg4 harg4 arg3 harg3 (k0_pay124 (F := F)) arg7 harg7 arg8 harg8 arg5 harg5 x0 x1 x2 E ((i 2).val - 1) (by omega) w
    (fun h0 d => by subst hw; exact start_none _ (by omega) d)
    (fun k hk => by
      subst hw
      rw [show (i 2).val = k + 2 by omega]
      exact start_word k (by omega)) d y0 y1
  iintro H
  iapply (wp_call_spec Variants.nat (c : Thread nD τ) none E
    (spec c i arg4 harg4 arg3 harg3 (k0_pay124 (F := F)) arg7 harg7 arg8 harg8 arg5 harg5 x0 x1 x2 ((i 2).val - 1) d y0 y1) ((i 2).val - 1) (fun u hu => nomatch hu) hs)
  rw [spec_apply]
  unfold loopZ
  iexact H

/-- The stores of the body's write-out past the first point. -/
def farL (h : k0_cond1 i = 1#1) : List (View.Piece (Elt F) S256x512 .bf16) :=
  (entryFar c i arg3 harg3 arg4 harg4 arg5 harg5 arg6 harg6 arg7 harg7 arg8 harg8 x0 x1 x2 h (loopZ c i arg3 harg3 arg4 harg4 arg5 harg5 arg7 harg7 arg8 harg8 x0 x1 x2)).1
/-- The stores of the body's write-out at the first point. -/
def diagL (h : ¬ k0_cond1 i = 1#1) : List (View.Piece (Elt F) S256x512 .bf16) :=
  (entryDiag c i arg3 harg3 arg4 harg4 arg5 harg5 arg6 harg6 arg7 harg7 arg8 harg8 x0 x1 x2 h (loopZ c i arg3 harg3 arg4 harg4 arg5 harg5 arg7 harg7 arg8 harg8 x0 x1 x2)).1

/-- They tile the output's block, -/
theorem cover_far (h : k0_cond1 i = 1#1) (y : S256x512.Idx) : ∃ pc ∈ farL c i arg3 harg3 arg4 harg4 arg5 harg5 arg6 harg6 arg7 harg7 arg8 harg8 x0 x1 x2 h, y ∈ pc.1.set :=
  View.cover_of_tiledL (farL c i arg3 harg3 arg4 harg4 arg5 harg5 arg6 harg6 arg7 harg7 arg8 harg8 x0 x1 x2 h) ![256, 128] (by sl_kernel_rfl) y
/-- in both cases. -/
theorem cover_diag (h : ¬ k0_cond1 i = 1#1) (y : S256x512.Idx) : ∃ pc ∈ diagL c i arg3 harg3 arg4 harg4 arg5 harg5 arg6 harg6 arg7 harg7 arg8 harg8 x0 x1 x2 h, y ∈ pc.1.set :=
  View.cover_of_tiledL (diagL c i arg3 harg3 arg4 harg4 arg5 harg5 arg6 harg6 arg7 harg7 arg8 harg8 x0 x1 x2 h) ![256, 128] (by sl_kernel_rfl) y

/-- The body's stores at a point. -/
def outL : List (View.Piece (Elt F) S256x512 .bf16) :=
  if h : k0_cond1 i = 1#1 then farL c i arg3 harg3 arg4 harg4 arg5 harg5 arg6 harg6 arg7 harg7 arg8 harg8 x0 x1 x2 h else diagL c i arg3 harg3 arg4 harg4 arg5 harg5 arg6 harg6 arg7 harg7 arg8 harg8 x0 x1 x2 h

theorem cover_out (y : S256x512.Idx) : ∃ pc ∈ outL c i arg3 harg3 arg4 harg4 arg5 harg5 arg6 harg6 arg7 harg7 arg8 harg8 x0 x1 x2, y ∈ pc.1.set := by
  unfold outL
  by_cases h : k0_cond1 i = 1#1
  · rw [dif_pos h]; exact cover_far c i arg3 harg3 arg4 harg4 arg5 harg5 arg6 harg6 arg7 harg7 arg8 harg8 x0 x1 x2 h y
  · rw [dif_neg h]; exact cover_diag c i arg3 harg3 arg4 harg4 arg5 harg5 arg6 harg6 arg7 harg7 arg8 harg8 x0 x1 x2 h y

/-- The body at a point. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ (∃ f, arg6.view.loc (c : Thread nD τ) ↦[arg6.view.set]{fullShare} arg6.view.writes (Elt F) f (outL c i arg3 harg3 arg4 harg4 arg5 harg5 arg6 harg6 arg7 harg7 arg8 harg8 x0 x1 x2)) ∗ (∃ d, owns (c : Thread nD τ) arg7 fullShare d) ∗ (∃ d, owns (c : Thread nD τ) arg8 fullShare d)) -∗ K ⟨⟩))
      ⊢ wp frame (wpE (defs₀ (F := F)) Variants.nat c none) E (cc0_sb_attn i arg3 harg3 arg4 harg4 arg5 harg5 arg6 harg6 arg7 harg7 arg8 harg8) K := by
  unfold outL
  by_cases h : k0_cond1 i = 1#1
  · rw [dif_pos h]
    exact (entryFar c i arg3 harg3 arg4 harg4 arg5 harg5 arg6 harg6 arg7 harg7 arg8 harg8 x0 x1 x2 h (loopZ c i arg3 harg3 arg4 harg4 arg5 harg5 arg7 harg7 arg8 harg8 x0 x1 x2)).2
      (fun w d y0 y1 hw E kk K => loop_holds c i arg3 harg3 arg4 harg4 arg5 harg5 arg7 harg7 arg8 harg8 x0 x1 x2 w d y0 y1 hw E kk K) E K
  · rw [dif_neg h]
    exact (entryDiag c i arg3 harg3 arg4 harg4 arg5 harg5 arg6 harg6 arg7 harg7 arg8 harg8 x0 x1 x2 h (loopZ c i arg3 harg3 arg4 harg4 arg5 harg5 arg7 harg7 arg8 harg8 x0 x1 x2)).2
      (fun w d y0 y1 hw E kk K => loop_holds c i arg3 harg3 arg4 harg4 arg5 harg5 arg7 harg7 arg8 harg8 x0 x1 x2 w d y0 y1 hw E kk K) E K

end Point

variable (m : (ℓ : Loc nD τ sig) → Buf (Elt F) ℓ) (ρ : Dev nD → PrngReg)

/-- The stores of the body at point `t`. -/
abbrev ptL (c : Dev nD) (t : Fin (cfg0 (F := F)).N) : List (View.Piece (Elt F) S256x512 .bf16) :=
  outL c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)

/-- What the output's buffer holds after the body at point `t`. -/
def outsAt0 (c : Dev nD) (t : Fin (cfg0 (F := F)).N) : Vec F S256x512 .bf16 :=
  VO0_3.read (Elt F) (VO0_3.writes (Elt F) VO0_3.junk (ptL m c t))

/-- The pipeline's proof data on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = (outsAt0 m c t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out c _ _ _ _ _ _ _ _ _ _ _ _ _ _ _ _)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The run of @main: every final state has the arrays at what the proof data say, and every counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and the machine ends quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Sb

end
-- ==== Proof.Sb.Math.lean ====
/-
  The mathematics of one query: the softplus, the running sum over later keys, a key's weight and the weighted sum, block by block.
-/
module

public import Idealize.ShloMosaic.PureOps.Ideal
public import Mathlib.Analysis.SpecialFunctions.Log.Basic
public import Mathlib.Algebra.BigOperators.Intervals

@[expose] public section

noncomputable section

namespace Cert.KernelIdeal.Sb

open Idealize.ShloMosaic

/-- A softplus. -/
def spf (x : ℝ) : ℝ := max x 0 + Real.log (1 + Real.exp (-|x|))

theorem sum_coe {ι : Type*} [Fintype ι] (f : ι → ℝ) : ∑ i, ((f i : ℝ) : EReal) = ((∑ i, f i : ℝ) : EReal) := by
  induction (Finset.univ : Finset ι) using Finset.cons_induction with
  | empty => simp
  | cons a s ha ih => rw [Finset.sum_cons, Finset.sum_cons, ih, EReal.coe_add]

theorem max_coe (x y : ℝ) : max (x : EReal) (y : EReal) = ((max x y : ℝ) : EReal) :=
  (EReal.coe_strictMono.monotone.map_max (a := x) (b := y)).symm

/-- The softplus as the kernel spells it. -/
theorem spE_coe (r : ℝ) : max (r : EReal) 0 + Ideal.log (1 + Ideal.exp (0 - FloatOps.absf (F := Ideal) (φ := .f32) (r : EReal))) = ((spf r : ℝ) : EReal) := by
  have h1 : FloatOps.absf (F := Ideal) (φ := .f32) (r : EReal) = ((|r| : ℝ) : EReal) := by
    show max (r : EReal) (-(r : EReal)) = _
    rw [← EReal.coe_neg, max_coe]; rfl
  have hp : ¬ (1 + Real.exp (-|r|)) ≤ 0 := not_le.mpr (by positivity)
  rw [h1, ← EReal.coe_zero, ← EReal.coe_sub, Ideal.exp_coe, ← EReal.coe_one, ← EReal.coe_add, zero_sub, Ideal.log_coe, if_neg hp, max_coe, ← EReal.coe_add]
  rfl

section
variable (vv : ℕ → EReal) (z : ℕ → ℝ) (T : ℕ)

/-- A key's share of the running sum: only keys before the query count. -/
def G (j : ℕ) : ℝ := if j < T then spf (z j) else 0
/-- The running sum over the keys from `lo` on. -/
def RUN (lo : ℕ) : ℝ := ∑ j ∈ Finset.Ico lo 8192, G z T j
/-- A key's weight. -/
def Wt (s : ℕ) : ℝ := if s < T then Real.exp (z s - spf (z s) - RUN z T (s + 1)) else 0
/-- The weighted sum over the keys from `lo` on. -/
def ACC (lo : ℕ) : EReal := ∑ s ∈ Finset.Ico lo 8192, vv s * ((Wt z T s : ℝ) : EReal)

theorem sum_Ico_fin {M : Type*} [AddCommMonoid M] (f : ℕ → M) (a : ℕ) : ∑ s : Fin 256, f (a + s) = ∑ j ∈ Finset.Ico a (a + 256), f j := by
  rw [Finset.sum_Ico_eq_sum_range, Nat.add_sub_cancel_left, Finset.sum_range]

theorem RUN_step (n : ℕ) (hn : n < 32) : RUN z T (256 * (n + 1)) + ∑ s : Fin 256, G z T (256 * n + s) = RUN z T (256 * n) := by
  unfold RUN
  rw [sum_Ico_fin, add_comm, show 256 * (n + 1) = 256 * n + 256 from by ring]
  exact Finset.sum_Ico_consecutive _ (by omega) (by omega)

theorem Wt_step (n : ℕ) (hn : n < 32) (s : Fin 256) (hT : 256 * n + s < T) :
    Real.exp (z (256 * n + s) - spf (z (256 * n + s)) - (∑ j : Fin 256, if s < j then G z T (256 * n + j) else 0) - RUN z T (256 * (n + 1))) = Wt z T (256 * n + s) := by
  have hs : (∑ j : Fin 256, if s < j then G z T (256 * n + j) else 0) + RUN z T (256 * (n + 1)) = RUN z T (256 * n + s + 1) := by
    have e1 : (∑ j : Fin 256, if s < j then G z T (256 * n + j) else 0) = ∑ j ∈ Finset.Ico (256 * n) (256 * n + 256), if 256 * n + s < j then G z T j else 0 := by
      rw [← sum_Ico_fin (fun j => if 256 * n + s < j then G z T j else 0)]
      refine Finset.sum_congr rfl fun j _ => ?_
      by_cases h : s < j
      · rw [if_pos h, if_pos (by omega)]
      · rw [if_neg h, if_neg (by omega)]
    have hlt := s.isLt
    rw [e1, ← Finset.sum_Ico_consecutive _ (show 256 * n ≤ 256 * n + s + 1 by omega) (show 256 * n + s + 1 ≤ 256 * n + 256 by omega)]
    rw [Finset.sum_eq_zero (s := Finset.Ico (256 * n) (256 * n + s + 1)) (fun j hj => if_neg (by have := (Finset.mem_Ico.mp hj).2; omega)), zero_add]
    rw [Finset.sum_congr rfl (fun j hj => if_pos (by have := (Finset.mem_Ico.mp hj).1; omega))]
    unfold RUN
    rw [show 256 * (n + 1) = 256 * n + 256 from by ring]
    exact Finset.sum_Ico_consecutive _ (by omega) (by omega)
  unfold Wt
  rw [if_pos hT, ← hs]
  congr 1; ring

theorem ACC_step (n : ℕ) (hn : n < 32) : ACC vv z T (256 * (n + 1)) + ∑ s : Fin 256, vv (256 * n + s) * ((Wt z T (256 * n + s) : ℝ) : EReal) = ACC vv z T (256 * n) := by
  unfold ACC
  rw [sum_Ico_fin (fun s => vv s * ((Wt z T s : ℝ) : EReal)), add_comm, show 256 * (n + 1) = 256 * n + 256 from by ring]
  exact Finset.sum_Ico_consecutive _ (by omega) (by omega)

/-- Past the query nothing counts. -/
theorem RUN_past (lo : ℕ) (h : T ≤ lo) : RUN z T lo = 0 :=
  Finset.sum_eq_zero fun j hj => if_neg (by have := (Finset.mem_Ico.mp hj).1; omega)
theorem ACC_past (lo : ℕ) (h : T ≤ lo) : ACC vv z T lo = 0 :=
  Finset.sum_eq_zero fun j hj => by
    have := (Finset.mem_Ico.mp hj).1
    rw [Wt, if_neg (by omega), EReal.coe_zero, mul_zero]

end

end Cert.KernelIdeal.Sb

end
-- ==== Proof.Sb.Vec.lean ====
/-
  The vector arithmetic of one head's block step, named once, and its value at an index.
-/
module

public import proofs.«01_k».proof.Proof.Sb.Run
public import proofs.«01_k».proof.Proof.Sb.Math
public import Idealize.ShloMosaic.Lib.Pointwise
public import Idealize.ShloMosaic.Lib.WordCmp

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

section Vec

variable {F : FTy → Type} [FloatOps F] [Named F]

/-- The scores of one block, keys down the rows. -/
def zV (k : Vec F S256x128 .bf16) (q : Vec F S128x256 .bf16) : FVec F S256x256 .f32 :=
  matmul dot_S256x128_S128x256_S256x256_1_0_0_1_n_n none (shapeCast S256x128 k shapeCasts_S256x128_S256x128) (shapeCast S128x256 q shapeCasts_S128x256_S128x256) (constant S256x256 .f32 0x00000000#32)
/-- The softplus of the scores. -/
def spV (z : FVec F S256x256 .f32) : FVec F S256x256 .f32 :=
  addf (maximumf z (broadcast S256x256 (Scalar.ofBits .f32 0x00000000#32)))
    (log (addf (broadcast S256x256 (Scalar.ofBits .f32 0x3F800000#32)) (exp (subf (broadcast S256x256 (Scalar.ofBits .f32 0x00000000#32)) (absf z)))))
/-- An array under the causal mask, zero outside it. -/
def mkV (m : IVec S256x256 1) (x : FVec F S256x256 .f32) : FVec F S256x256 .f32 := select m x (broadcast S256x256 (Scalar.ofBits .f32 0x00000000#32))
/-- The sum over the later keys of the block, from a high and a low part. -/
def sufV (later : FVec F S256x256 .bf16) (sp : FVec F S256x256 .f32) : FVec F S256x256 .f32 :=
  addf (matmul dot_S256x256_S256x256_S256x256_1_0_0_1_n_n none later (truncf .bf16 sp bitsLt_bf16_f32) (constant S256x256 .f32 0x00000000#32))
    (matmul dot_S256x256_S256x256_S256x256_1_0_0_1_n_n none later
      (truncf .bf16 (subf sp (extf .f32 (truncf .bf16 sp bitsLt_bf16_f32) bitsLt_bf16_f32)) bitsLt_bf16_f32) (constant S256x256 .f32 0x00000000#32))
/-- The weights, before rounding. -/
def wV (z sp suf : FVec F S256x256 .f32) (run : FVec F S1x256 .f32) : FVec F S256x256 .f32 :=
  exp (subf (subf (subf z sp) suf) (broadcastTo S256x256 run broadcasts_S1x256_S256x256))
/-- The running sum after a block. -/
def runV (run : FVec F S1x256 .f32) (sp : FVec F S256x256 .f32) : FVec F S1x256 .f32 :=
  addf run (shapeCast S1x256 (multiReduction .add [0] S256 sp 0x00000000#32 reduces_S256x256_S256 (.inl rfl) rfl) shapeCasts_S256_S1x256)
/-- The accumulator after a block. -/
def accV (acc : FVec F S128x256 .f32) (v : Vec F S128x256 .bf16) (w : FVec F S256x256 .f32) : FVec F S128x256 .f32 :=
  addf acc (matmul dot_S128x256_S256x256_S128x256_1_0_0_1_n_n none (shapeCast S128x256 v shapeCasts_S128x256_S128x256) (truncf .bf16 w bitsLt_bf16_f32) (constant S128x256 .f32 0x00000000#32))

/-- A head's running sum and accumulator taken out of the scratch and put back. -/
abbrev inR (y : Vec F S1x1x256 .f32) : FVec F S1x256 .f32 := shapeCast S1x256 y shapeCasts_S1x1x256_S1x256
abbrev inA (y : Vec F S1x128x256 .f32) : FVec F S128x256 .f32 := shapeCast S128x256 y shapeCasts_S1x128x256_S128x256
abbrev backR (y : FVec F S1x256 .f32) : FVec F S1x1x256 .f32 := shapeCast S1x1x256 y shapeCasts_S1x256_S1x1x256
abbrev backA (y : FVec F S128x256 .f32) : FVec F S1x128x256 .f32 := shapeCast S1x128x256 y shapeCasts_S128x256_S1x128x256

end Vec

/-- The values at an index, over the extended reals. -/
theorem zV_apply (k : Vec Ideal S256x128 .bf16) (q : Vec Ideal S128x256 .bf16) (s t : Fin 256) :
    zV k q (ix2 s t) = ∑ d : Fin 128, (k (ix2 s d) : EReal) * q (ix2 d t) := by
  unfold zV
  pointwise

theorem spV_apply (z : FVec Ideal S256x256 .f32) (s t : Fin 256) {r : ℝ} (h : z (ix2 s t) = (r : EReal)) :
    spV z (ix2 s t) = ((spf r : ℝ) : EReal) := by
  unfold spV
  pointwise
  rw [h]
  exact spE_coe r

theorem mkV_apply (m : IVec S256x256 1) (z : FVec Ideal S256x256 .f32) (s t : Fin 256) :
    mkV m z (ix2 s t) = if m (ix2 s t) = 1#1 then z (ix2 s t) else (0 : EReal) := by
  unfold mkV
  pointwise
  rfl

theorem later_apply (s t : Fin 256) :
    k0_pay124 (F := Ideal) (ix2 s t) = ((if s < t then 1 else 0 : ℝ) : EReal) := by
  unfold k0_pay124
  pointwise
  rw [WordCmp.cmpi_sgt_ofNat (w := 32) (by omega) (by omega)]
  show (((BitVec.setWidth 32 (BitVec.ofBool (decide ((s : ℕ) < (t : ℕ)))) : BitVec 32).toInt : ℝ) : EReal) = _
  by_cases h : s < t
  · have h' : (s : ℕ) < (t : ℕ) := h
    simp [h, h']
  · have h' : ¬ (s : ℕ) < (t : ℕ) := h
    simp [h, h']

theorem sufV_apply (z : FVec Ideal S256x256 .f32) (g : Fin 256 → ℝ) (s t : Fin 256) (hz : ∀ j, z (ix2 j t) = (g j : EReal)) :
    sufV (k0_pay124 (F := Ideal)) z (ix2 s t) = ((∑ j, if s < j then g j else 0 : ℝ) : EReal) := by
  unfold sufV
  pointwise
  simp only [hz, later_apply, ← EReal.coe_sub, ← EReal.coe_mul, sub_self, mul_zero, Finset.sum_const_zero, ite_mul, one_mul, zero_mul]
  simp only [EReal.coe_zero, Finset.sum_const_zero, add_zero]
  exact sum_coe _

theorem wV_apply (z sp spm : FVec Ideal S256x256 .f32) (run : FVec Ideal S1x256 .f32) (s t : Fin 256) (x y ρ : ℝ) (g : Fin 256 → ℝ)
    (hz : z (ix2 s t) = (x : EReal)) (hs : sp (ix2 s t) = (y : EReal)) (hr : run (ix2 0 t) = (ρ : EReal)) (hg : ∀ j, spm (ix2 j t) = (g j : EReal)) :
    wV z sp (sufV (k0_pay124 (F := Ideal)) spm) run (ix2 s t) = ((Real.exp (x - y - (∑ j, if s < j then g j else 0) - ρ) : ℝ) : EReal) := by
  have h := sufV_apply spm g s t hg
  unfold wV
  pointwise
  rw [hz, hs, hr, h, ← EReal.coe_sub, ← EReal.coe_sub, ← EReal.coe_sub]
  rfl

theorem runV_apply (sp : FVec Ideal S256x256 .f32) (run : FVec Ideal S1x256 .f32) (t : Fin 256) :
    runV run sp (ix2 0 t) = run (ix2 0 t) + ∑ s, sp (ix2 s t) := by
  unfold runV
  pointwise

theorem accV_apply (acc : FVec Ideal S128x256 .f32) (v : Vec Ideal S128x256 .bf16) (w : FVec Ideal S256x256 .f32) (d : Fin 128) (t : Fin 256) :
    accV acc v w (ix2 d t) = acc (ix2 d t) + ∑ s, (v (ix2 d s) : EReal) * w (ix2 s t) := by
  unfold accV
  pointwise

theorem backR_apply (y : FVec Ideal S1x256 .f32) (t : Fin 256) : backR y (ix3 0 0 t) = y (ix2 0 t) := by
  unfold backR
  pointwise
theorem inR_apply (y : Vec Ideal S1x1x256 .f32) (t : Fin 256) : inR y (ix2 0 t) = y (ix3 0 0 t) := by
  unfold inR
  pointwise
theorem inA_apply (y : Vec Ideal S1x128x256 .f32) (d : Fin 128) (t : Fin 256) : inA y (ix2 d t) = y (ix3 0 d t) := by
  unfold inA
  pointwise
theorem backA_apply (y : FVec Ideal S128x256 .f32) (d : Fin 128) (t : Fin 256) : backA y (ix3 0 d t) = y (ix2 d t) := by
  unfold backA
  pointwise

/-- One block of one column: the running sum, -/
theorem blk_run (z : ℕ → ℝ) (T n : ℕ) (hn : n < 32) (spm : FVec Ideal S256x256 .f32) (run : FVec Ideal S1x256 .f32) (t : Fin 256)
    (hr : run (ix2 0 t) = ((RUN z T (256 * (n + 1)) : ℝ) : EReal)) (hg : ∀ j : Fin 256, spm (ix2 j t) = ((G z T (256 * n + j) : ℝ) : EReal)) :
    runV run spm (ix2 0 t) = ((RUN z T (256 * n) : ℝ) : EReal) := by
  rw [runV_apply, hr]; simp only [hg]
  rw [sum_coe, ← EReal.coe_add, RUN_step z T n hn]

/-- the weights, -/
theorem blk_w (z : ℕ → ℝ) (T n : ℕ) (hn : n < 32) (zv sp spm : FVec Ideal S256x256 .f32) (run : FVec Ideal S1x256 .f32) (s t : Fin 256) (hT : 256 * n + s < T)
    (hz : zv (ix2 s t) = ((z (256 * n + s) : ℝ) : EReal)) (hs : sp (ix2 s t) = ((spf (z (256 * n + s)) : ℝ) : EReal))
    (hr : run (ix2 0 t) = ((RUN z T (256 * (n + 1)) : ℝ) : EReal)) (hg : ∀ j : Fin 256, spm (ix2 j t) = ((G z T (256 * n + j) : ℝ) : EReal)) :
    wV zv sp (sufV (k0_pay124 (F := Ideal)) spm) run (ix2 s t) = ((Wt z T (256 * n + s) : ℝ) : EReal) := by
  rw [wV_apply zv sp spm run s t _ _ _ _ hz hs hr hg, Wt_step z T n hn s hT]

/-- and the accumulator. -/
theorem blk_acc (z : ℕ → ℝ) (vv : ℕ → EReal) (T n : ℕ) (hn : n < 32) (acc : FVec Ideal S128x256 .f32) (v : Vec Ideal S128x256 .bf16) (w : FVec Ideal S256x256 .f32) (d : Fin 128) (t : Fin 256)
    (ha : acc (ix2 d t) = ACC vv z T (256 * (n + 1))) (hv : ∀ s : Fin 256, v (ix2 d s) = vv (256 * n + s)) (hw : ∀ s : Fin 256, w (ix2 s t) = ((Wt z T (256 * n + s) : ℝ) : EReal)) :
    accV acc v w (ix2 d t) = ACC vv z T (256 * n) := by
  rw [accV_apply, ha]; simp only [hv, hw]
  exact ACC_step vv z T n hn

end Cert.KernelIdeal.Sb

end
-- ==== Proof.Sb.Head.lean ====
/-
  One head of a block step: what it leaves in the running sum and the accumulator, in terms of the three windows.
-/
module

public import proofs.«01_k».proof.Proof.Sb.Vec

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

/-- The row of a window that holds a head's coordinate. -/
def h128 (h : Fin 4) (d : Fin 128) : Fin 512 := ⟨128 * h + d, by omega⟩

/-- Real entries only. -/
def Fi {s : Shape} (x : s.Idx → EReal) : Prop := ∀ i, x i = ((x i).toReal : EReal)

/-- The score of key `s` for the query in column `t`. -/
def zK (x0 : Vec Ideal S512x256 .bf16) (x1 : Vec Ideal S8192x512 .bf16) (h : Fin 4) (t : Fin 256) (s : ℕ) : ℝ :=
  if hs : s < 8192 then ∑ d : Fin 128, (x1 (ix2 ⟨s, hs⟩ (h128 h d)) : EReal).toReal * (x0 (ix2 (h128 h d) t) : EReal).toReal else 0
/-- The value of key `s` at coordinate `d`. -/
def vK (x2 : Vec Ideal S512x8192 .bf16) (h : Fin 4) (d : Fin 128) (s : ℕ) : EReal :=
  if hs : s < 8192 then x2 (ix2 (h128 h d) ⟨s, hs⟩) else 0

section
variable (x0 : Vec Ideal S512x256 .bf16) (x1 : Vec Ideal S8192x512 .bf16) (x2 : Vec Ideal S512x8192 .bf16) (h0 : Fi x0) (h1 : Fi x1)
  (h : Fin 4) (t : Fin 256) (T n : ℕ) (hn : n < 32)

include h0 h1 in
theorem score_eq (s : Fin 256) : (∑ d : Fin 128, (x1 (ix2 ⟨256 * n + s, by omega⟩ (h128 h d)) : EReal) * x0 (ix2 (h128 h d) t)) = ((zK x0 x1 h t (256 * n + s) : ℝ) : EReal) := by
  rw [zK, dif_pos (by omega), ← sum_coe]
  refine Finset.sum_congr rfl fun d _ => ?_
  rw [EReal.coe_mul, ← h1 (ix2 _ _), ← h0 (ix2 _ _)]

include h0 h1 in
/-- The scores of block `n`. -/
theorem z_blk (k : Vec Ideal S256x128 .bf16) (q : Vec Ideal S128x256 .bf16)
    (hk : ∀ (s : Fin 256) (d : Fin 128), k (ix2 s d) = x1 (ix2 ⟨256 * n + s, by omega⟩ (h128 h d))) (hq : ∀ d : Fin 128, q (ix2 d t) = x0 (ix2 (h128 h d) t)) (s : Fin 256) :
    zV k q (ix2 s t) = ((zK x0 x1 h t (256 * n + s) : ℝ) : EReal) := by
  rw [zV_apply, ← score_eq x0 x1 h0 h1 h t n hn s]
  exact Finset.sum_congr rfl fun d _ => by rw [hk, hq]

/-- The shares of a block all of whose keys come before the query, -/
theorem G_unm (hT : 256 * n + 256 ≤ T) (z : FVec Ideal S256x256 .f32) (hz : ∀ s : Fin 256, z (ix2 s t) = ((zK x0 x1 h t (256 * n + s) : ℝ) : EReal)) (s : Fin 256) :
    spV z (ix2 s t) = ((G (zK x0 x1 h t) T (256 * n + s) : ℝ) : EReal) := by
  rw [spV_apply z s t (hz s), G, if_pos (by omega)]

/-- and of one under the mask. -/
theorem G_msk (m : IVec S256x256 1) (hm : ∀ s : Fin 256, m (ix2 s t) = 1#1 ↔ 256 * n + s < T) (z : FVec Ideal S256x256 .f32)
    (hz : ∀ s : Fin 256, z (ix2 s t) = ((zK x0 x1 h t (256 * n + s) : ℝ) : EReal)) (s : Fin 256) :
    mkV m (spV z) (ix2 s t) = ((G (zK x0 x1 h t) T (256 * n + s) : ℝ) : EReal) := by
  rw [mkV_apply, spV_apply z s t (hz s), G]
  by_cases hs : 256 * n + s < T
  · rw [if_pos ((hm s).mpr hs), if_pos hs]
  · rw [if_neg (fun e => hs ((hm s).mp e)), if_neg hs, EReal.coe_zero]

include hn in
/-- The weights of a block all of whose keys come before the query, -/
theorem W_unm (hT : 256 * n + 256 ≤ T) (z : FVec Ideal S256x256 .f32) (run : FVec Ideal S1x256 .f32)
    (hz : ∀ s : Fin 256, z (ix2 s t) = ((zK x0 x1 h t (256 * n + s) : ℝ) : EReal)) (hr : run (ix2 0 t) = ((RUN (zK x0 x1 h t) T (256 * (n + 1)) : ℝ) : EReal)) (s : Fin 256) :
    wV z (spV z) (sufV (k0_pay124 (F := Ideal)) (spV z)) run (ix2 s t) = ((Wt (zK x0 x1 h t) T (256 * n + s) : ℝ) : EReal) :=
  blk_w _ T n hn z _ _ run s t (by omega) (hz s) (spV_apply z s t (hz s)) hr (G_unm x0 x1 h t T n hT z hz)

include hn in
/-- and of one under the mask. -/
theorem W_msk (m : IVec S256x256 1) (hm : ∀ s : Fin 256, m (ix2 s t) = 1#1 ↔ 256 * n + s < T) (z : FVec Ideal S256x256 .f32) (run : FVec Ideal S1x256 .f32)
    (hz : ∀ s : Fin 256, z (ix2 s t) = ((zK x0 x1 h t (256 * n + s) : ℝ) : EReal)) (hr : run (ix2 0 t) = ((RUN (zK x0 x1 h t) T (256 * (n + 1)) : ℝ) : EReal)) (s : Fin 256) :
    mkV m (wV z (spV z) (sufV (k0_pay124 (F := Ideal)) (mkV m (spV z))) run) (ix2 s t) = ((Wt (zK x0 x1 h t) T (256 * n + s) : ℝ) : EReal) := by
  rw [mkV_apply]
  by_cases hs : 256 * n + s < T
  · rw [if_pos ((hm s).mpr hs)]
    exact blk_w _ T n hn z _ _ run s t hs (hz s) (spV_apply z s t (hz s)) hr (G_msk x0 x1 h t T n m hm z hz)
  · rw [if_neg (fun e => hs ((hm s).mp e)), Wt, if_neg hs, EReal.coe_zero]

end

end Cert.KernelIdeal.Sb

end
-- ==== Proof.Sb.TripVal.lean ====
/-
  What a trip of the block loop leaves, in terms of the three windows.
-/
module

public import proofs.«01_k».proof.Proof.Sb.Head
public import Idealize.ShloMosaic.Lib.WritesUnit
public import Idealize.ShloMosaic.Lib.Pipeline.ValueKit.Tiles

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

/-- A load of a whole buffer read at an index. -/
theorem rd {s : Shape} {e : EltTy} (mm : Memref sig .tc .vmem s e) (hm : mm.IsWhole) (X : s.Idx → Elt Ideal e) (off size : Fin s.rank → ℕ) (inb) (off' : Fin s.rank → ℕ) (ho : off = off') (x : (Rect.unit (s := s) off size inb).shape.Idx)
    (i : s.Idx) (hi : ∀ a, (i a : ℕ) = off' a + x a) : View.readAt (Elt Ideal) mm.view (Rect.unit off size inb).toLoadRect (hm.unread X) x = X i := by
  subst ho
  rw [View.readAt_eq_ld, hm.read_unread]
  exact View.ld_unit_apply_of X off size inb x i hi

theorem hitR (f) (o : ℕ) (b) (w : Vec Ideal S1x1x256 .f32) (L : List (View.Piece (Elt Ideal) S4x1x256 .f32)) (h : Fin 4) (t : Fin 256) (ho : h.val = o) :
    VR.read (Elt Ideal) (VR.writes (Elt Ideal) f (⟨Rect.unit (s := S4x1x256) ![o, 0, 0] S1x1x256.size b, w⟩ :: L)) (ix3 h 0 t) = w (ix3 0 0 t) :=
  View.read_writes_cons_unit_of_mem (s := S4x1x256) VR f b w L (ix3 h 0 t) (ix3 0 0 t : S1x1x256.Idx) rfl (fun a => by subst ho; fin_cases a <;> simp [ix3])

/-- Four stores, one a head, read back. -/
theorem read4R (f) (p0 p1 p2 p3 : Vec Ideal S1x1x256 .f32) (L : List (View.Piece (Elt Ideal) S4x1x256 .f32)) (h : Fin 4) (t : Fin 256) (b3 b2 b1 b0) :
    VR.read (Elt Ideal) (VR.writes (Elt Ideal) f (⟨Rect.unit (s := S4x1x256) ![3, 0, 0] S1x1x256.size b3, p3⟩ :: ⟨Rect.unit (s := S4x1x256) ![2, 0, 0] S1x1x256.size b2, p2⟩
      :: ⟨Rect.unit (s := S4x1x256) ![1, 0, 0] S1x1x256.size b1, p1⟩ :: ⟨Rect.unit (s := S4x1x256) ![0, 0, 0] S1x1x256.size b0, p0⟩ :: L)) (ix3 h 0 t)
      = (![p0, p1, p2, p3] h) (ix3 0 0 t) := by
  fin_cases h
  · refine (View.read_writes_cons_unit_of_not_mem _ _ _ _ _ _ rfl (0 : Fin 3) (Or.inl (by show (0 : ℕ) < 3; decide))).trans ?_
    refine (View.read_writes_cons_unit_of_not_mem _ _ _ _ _ _ rfl (0 : Fin 3) (Or.inl (by show (0 : ℕ) < 2; decide))).trans ?_
    refine (View.read_writes_cons_unit_of_not_mem _ _ _ _ _ _ rfl (0 : Fin 3) (Or.inl (by show (0 : ℕ) < 1; decide))).trans ?_
    exact hitR _ _ _ _ _ _ t rfl
  · refine (View.read_writes_cons_unit_of_not_mem _ _ _ _ _ _ rfl (0 : Fin 3) (Or.inl (by show (1 : ℕ) < 3; decide))).trans ?_
    refine (View.read_writes_cons_unit_of_not_mem _ _ _ _ _ _ rfl (0 : Fin 3) (Or.inl (by show (1 : ℕ) < 2; decide))).trans ?_
    exact hitR _ _ _ _ _ _ t rfl
  · refine (View.read_writes_cons_unit_of_not_mem _ _ _ _ _ _ rfl (0 : Fin 3) (Or.inl (by show (2 : ℕ) < 3; decide))).trans ?_
    exact hitR _ _ _ _ _ _ t rfl
  · exact hitR _ _ _ _ _ _ t rfl

theorem hitA (f) (o : ℕ) (b) (w : Vec Ideal S1x128x256 .f32) (L : List (View.Piece (Elt Ideal) S4x128x256 .f32)) (h : Fin 4) (d : Fin 128) (t : Fin 256) (ho : h.val = o) :
    VA.read (Elt Ideal) (VA.writes (Elt Ideal) f (⟨Rect.unit (s := S4x128x256) ![o, 0, 0] S1x128x256.size b, w⟩ :: L)) (ix3 h d t) = w (ix3 0 d t) :=
  View.read_writes_cons_unit_of_mem (s := S4x128x256) VA f b w L (ix3 h d t) (ix3 0 d t : S1x128x256.Idx) rfl (fun a => by subst ho; fin_cases a <;> simp [ix3])

theorem read4A (f) (p0 p1 p2 p3 : Vec Ideal S1x128x256 .f32) (L : List (View.Piece (Elt Ideal) S4x128x256 .f32)) (h : Fin 4) (d : Fin 128) (t : Fin 256) (b3 b2 b1 b0) :
    VA.read (Elt Ideal) (VA.writes (Elt Ideal) f (⟨Rect.unit (s := S4x128x256) ![3, 0, 0] S1x128x256.size b3, p3⟩ :: ⟨Rect.unit (s := S4x128x256) ![2, 0, 0] S1x128x256.size b2, p2⟩
      :: ⟨Rect.unit (s := S4x128x256) ![1, 0, 0] S1x128x256.size b1, p1⟩ :: ⟨Rect.unit (s := S4x128x256) ![0, 0, 0] S1x128x256.size b0, p0⟩ :: L)) (ix3 h d t)
      = (![p0, p1, p2, p3] h) (ix3 0 d t) := by
  fin_cases h
  · refine (View.read_writes_cons_unit_of_not_mem _ _ _ _ _ _ rfl (0 : Fin 3) (Or.inl (by show (0 : ℕ) < 3; decide))).trans ?_
    refine (View.read_writes_cons_unit_of_not_mem _ _ _ _ _ _ rfl (0 : Fin 3) (Or.inl (by show (0 : ℕ) < 2; decide))).trans ?_
    refine (View.read_writes_cons_unit_of_not_mem _ _ _ _ _ _ rfl (0 : Fin 3) (Or.inl (by show (0 : ℕ) < 1; decide))).trans ?_
    exact hitA _ _ _ _ _ _ d t rfl
  · refine (View.read_writes_cons_unit_of_not_mem _ _ _ _ _ _ rfl (0 : Fin 3) (Or.inl (by show (1 : ℕ) < 3; decide))).trans ?_
    refine (View.read_writes_cons_unit_of_not_mem _ _ _ _ _ _ rfl (0 : Fin 3) (Or.inl (by show (1 : ℕ) < 2; decide))).trans ?_
    exact hitA _ _ _ _ _ _ d t rfl
  · refine (View.read_writes_cons_unit_of_not_mem _ _ _ _ _ _ rfl (0 : Fin 3) (Or.inl (by show (2 : ℕ) < 3; decide))).trans ?_
    exact hitA _ _ _ _ _ _ d t rfl
  · exact hitA _ _ _ _ _ _ d t rfl

theorem off21 : ∀ n < 32, k0_off21 (BitVec.ofNat 32 n) = ![256 * n, 0] := by decide +kernel
theorem off22 : ∀ n < 32, k0_off22 (BitVec.ofNat 32 n) = ![256 * n, 128] := by decide +kernel
theorem off23 : ∀ n < 32, k0_off23 (BitVec.ofNat 32 n) = ![256 * n, 256] := by decide +kernel
theorem off24 : ∀ n < 32, k0_off24 (BitVec.ofNat 32 n) = ![256 * n, 384] := by decide +kernel
theorem off25 : ∀ n < 32, k0_off25 (BitVec.ofNat 32 n) = ![0, 256 * n] := by decide +kernel
theorem off26 : ∀ n < 32, k0_off26 (BitVec.ofNat 32 n) = ![128, 256 * n] := by decide +kernel
theorem off27 : ∀ n < 32, k0_off27 (BitVec.ofNat 32 n) = ![256, 256 * n] := by decide +kernel
theorem off28 : ∀ n < 32, k0_off28 (BitVec.ofNat 32 n) = ![384, 256 * n] := by decide +kernel

/-- Nothing exceeds the top. -/
theorem cmpf_top (x : Ideal .f32) : Scalar.cmpf (F := Ideal) .ogt x (⊤ : EReal) = 0#1 := by
  show BitVec.ofBool (decide ((⊤ : EReal) < x)) = 0#1
  simp

/-- One head of a trip: the running sum, -/
theorem unm_run (x0 : Vec Ideal S512x256 .bf16) (x1 : Vec Ideal S8192x512 .bf16) (h0 : Fi x0) (h1 : Fi x1) (h : Fin 4) (t : Fin 256) (T n : ℕ) (hn : n < 32) (hT : 256 * n + 256 ≤ T)
    (k : Vec Ideal S256x128 .bf16) (q : Vec Ideal S128x256 .bf16) (y : Vec Ideal S1x1x256 .f32)
    (hk : ∀ (s : Fin 256) (d : Fin 128), k (ix2 s d) = x1 (ix2 ⟨256 * n + s, by omega⟩ (h128 h d))) (hq : ∀ d : Fin 128, q (ix2 d t) = x0 (ix2 (h128 h d) t))
    (hy : y (ix3 0 0 t) = ((RUN (zK x0 x1 h t) T (256 * (n + 1)) : ℝ) : EReal)) :
    backR (runV (inR y) (spV (zV k q))) (ix3 0 0 t) = ((RUN (zK x0 x1 h t) T (256 * n) : ℝ) : EReal) := by
  rw [backR_apply]
  exact blk_run _ T n hn _ _ t (by rw [inR_apply, hy]) (G_unm x0 x1 h t T n hT _ (z_blk x0 x1 h0 h1 h t n hn k q hk hq))

/-- and the accumulator. -/
theorem unm_acc (x0 : Vec Ideal S512x256 .bf16) (x1 : Vec Ideal S8192x512 .bf16) (x2 : Vec Ideal S512x8192 .bf16) (h0 : Fi x0) (h1 : Fi x1) (h : Fin 4) (t : Fin 256) (T n : ℕ) (hn : n < 32) (hT : 256 * n + 256 ≤ T)
    (k : Vec Ideal S256x128 .bf16) (q : Vec Ideal S128x256 .bf16) (v : Vec Ideal S128x256 .bf16) (y : Vec Ideal S1x1x256 .f32) (a : Vec Ideal S1x128x256 .f32) (d : Fin 128)
    (hk : ∀ (s : Fin 256) (d : Fin 128), k (ix2 s d) = x1 (ix2 ⟨256 * n + s, by omega⟩ (h128 h d))) (hq : ∀ d : Fin 128, q (ix2 d t) = x0 (ix2 (h128 h d) t))
    (hv : ∀ s : Fin 256, v (ix2 d s) = x2 (ix2 (h128 h d) ⟨256 * n + s, by omega⟩))
    (hy : y (ix3 0 0 t) = ((RUN (zK x0 x1 h t) T (256 * (n + 1)) : ℝ) : EReal)) (ha : a (ix3 0 d t) = ACC (vK x2 h d) (zK x0 x1 h t) T (256 * (n + 1))) :
    backA (accV (inA a) v (wV (zV k q) (spV (zV k q)) (sufV (k0_pay124 (F := Ideal)) (spV (zV k q))) (inR y))) (ix3 0 d t) = ACC (vK x2 h d) (zK x0 x1 h t) T (256 * n) := by
  rw [backA_apply]
  refine blk_acc _ _ T n hn _ _ _ d t (by rw [inA_apply, ha]) (fun s => by rw [hv, vK, dif_pos (by omega)]) ?_
  exact W_unm x0 x1 h t T n hn hT _ _ (z_blk x0 x1 h0 h1 h t n hn k q hk hq) (by rw [inR_apply, hy])

/-- The stores of a trip, head by head. -/
theorem payR0 (k q y) : k0_pay164 (k0_pay153 (F := Ideal) (k0_pay139 k q) y) = backR (runV (inR y) (spV (zV k q))) := rfl
theorem payR1 (k q y) : k0_pay168 (k0_pay156 (F := Ideal) (k0_pay140 (k0_pay136 k q) (FloatOps.ofBits FTy.f32 0#32)) y) = backR (runV (inR y) (spV (zV k q))) := rfl
theorem payR2 (k q y) : k0_pay170 (k0_pay159 (F := Ideal) (k0_pay141 (k0_pay137 k q)) y) = backR (runV (inR y) (spV (zV k q))) := rfl
theorem payR3 (k q y) : k0_pay4 (k0_pay162 (F := Ideal) (k0_pay142 (k0_pay138 k q)) y) = backR (runV (inR y) (spV (zV k q))) := rfl
/-- The same for the accumulator. -/
theorem payA0 (k q v y a) : k0_pay163 (k0_pay152 (F := Ideal) (k0_pay135 k q) (k0_pay139 k q) (k0_pay149 k0_pay124 (k0_pay139 k q)) y) a v
    = backA (accV (inA a) v (wV (zV k q) (spV (zV k q)) (sufV k0_pay124 (spV (zV k q))) (inR y))) := rfl
theorem payA1 (k q v y a) : k0_pay167 (k0_pay166 (F := Ideal) (k0_pay155 k0_pay124 (k0_pay136 k q) (k0_pay140 (k0_pay136 k q) (FloatOps.ofBits FTy.f32 0#32)) (k0_pay143 (k0_pay136 k q) (FloatOps.ofBits FTy.f32 0#32)) (k0_pay146 (k0_pay136 k q) (FloatOps.ofBits FTy.f32 0#32)) (constant S256x256 FTy.f32 0#32) y) a v)
    = backA (accV (inA a) v (wV (zV k q) (spV (zV k q)) (sufV k0_pay124 (spV (zV k q))) (inR y))) := rfl
theorem payA2 (k q v y a) : k0_pay169 (k0_pay158 (F := Ideal) k0_pay124 (k0_pay137 k q) (k0_pay141 (k0_pay137 k q)) (k0_pay144 (k0_pay137 k q)) (k0_pay147 (k0_pay137 k q)) y) a v
    = backA (accV (inA a) v (wV (zV k q) (spV (zV k q)) (sufV k0_pay124 (spV (zV k q))) (inR y))) := rfl
theorem payA3 (k q v y a) : k0_pay3 (F := Ideal) (k0_pay172 a) (k0_pay173 (k0_pay161 (k0_pay138 k q) (k0_pay142 (k0_pay138 k q)) (k0_pay150 k0_pay124 (k0_pay145 (k0_pay138 k q)) (k0_pay148 (k0_pay138 k q))) y) v)
    = backA (accV (inA a) v (wV (zV k q) (spV (zV k q)) (sufV k0_pay124 (spV (zV k q))) (inR y))) := rfl

section
variable (c : Dev nD) (i : grid0.Coords) (arg4 : Memref sig .tc .vmem S8192x512 .bf16) (harg4 : arg4.IsWhole) (arg3 : Memref sig .tc .vmem S512x256 .bf16) (harg3 : arg3.IsWhole) (arg7 : Memref sig .tc .vmem S4x1x256 .f32) (harg7 : arg7.IsWhole) (arg8 : Memref sig .tc .vmem S4x128x256 .f32) (harg8 : arg8.IsWhole) (arg5 : Memref sig .tc .vmem S512x8192 .bf16) (harg5 : arg5.IsWhole)
  (x0 : Vec Ideal S512x256 .bf16) (x1 : Vec Ideal S8192x512 .bf16) (x2 : Vec Ideal S512x8192 .bf16) (h0 : Fi x0) (h1 : Fi x1)

include h0 h1

/-- A trip takes the running sum one block down, -/
theorem tripR_val (t : Fin 256) (T n : ℕ) (hn : n < 32) (hT : 256 * n + 256 ≤ T) (y0 : Vec Ideal S4x1x256 .f32) (y1 : Vec Ideal S4x128x256 .f32)
    (hy : ∀ h : Fin 4, y0 (ix3 h 0 t) = ((RUN (zK x0 x1 h t) T (256 * (n + 1)) : ℝ) : EReal)) (h : Fin 4) :
    tripR c i arg4 harg4 arg3 harg3 (k0_pay124 (F := Ideal)) arg7 harg7 arg8 harg8 arg5 harg5 x0 x1 x2 n hn y0 y1 (ix3 h 0 t) = ((RUN (zK x0 x1 h t) T (256 * n) : ℝ) : EReal) := by
  unfold tripR tripRun
  dsimp only
  sl_unfold_run_names
  refine (read4R _ _ _ _ _ [] h t _ _ _ _).trans ?_
  match h with
  | 0 =>
    refine (congrFun (payR0 _ _ _) (ix3 0 0 t)).trans ?_
    refine unm_run x0 x1 h0 h1 0 t T n hn hT _ _ _ (fun s d => ?_) (fun d => ?_) ?_
    · exact rd arg4 harg4 x1 _ _ _ _ (off21 n hn) _ _ (fun a => by fin_cases a <;> simp [ix2, h128])
    · exact rd arg3 harg3 x0 _ _ _ _ rfl _ _ (fun a => by fin_cases a <;> simp [ix2, h128])
    · exact (rd arg7 harg7 y0 _ _ _ _ rfl _ (ix3 0 0 t) (fun a => by fin_cases a <;> simp [ix3])).trans (hy 0)
  | 1 =>
    refine (congrFun (payR1 _ _ _) (ix3 0 0 t)).trans ?_
    refine unm_run x0 x1 h0 h1 1 t T n hn hT _ _ _ (fun s d => ?_) (fun d => ?_) ?_
    · exact rd arg4 harg4 x1 _ _ _ _ (off22 n hn) _ _ (fun a => by fin_cases a <;> simp [ix2, h128])
    · exact rd arg3 harg3 x0 _ _ _ _ rfl _ _ (fun a => by fin_cases a <;> simp [ix2, h128])
    · exact (rd arg7 harg7 y0 _ _ _ _ rfl _ (ix3 1 0 t) (fun a => by fin_cases a <;> simp [ix3])).trans (hy 1)
  | 2 =>
    refine (congrFun (payR2 _ _ _) (ix3 0 0 t)).trans ?_
    refine unm_run x0 x1 h0 h1 2 t T n hn hT _ _ _ (fun s d => ?_) (fun d => ?_) ?_
    · exact rd arg4 harg4 x1 _ _ _ _ (off23 n hn) _ _ (fun a => by fin_cases a <;> simp [ix2, h128])
    · exact rd arg3 harg3 x0 _ _ _ _ rfl _ _ (fun a => by fin_cases a <;> simp [ix2, h128])
    · exact (rd arg7 harg7 y0 _ _ _ _ rfl _ (ix3 2 0 t) (fun a => by fin_cases a <;> simp [ix3])).trans (hy 2)
  | 3 =>
    refine (congrFun (payR3 _ _ _) (ix3 0 0 t)).trans ?_
    refine unm_run x0 x1 h0 h1 3 t T n hn hT _ _ _ (fun s d => ?_) (fun d => ?_) ?_
    · exact rd arg4 harg4 x1 _ _ _ _ (off24 n hn) _ _ (fun a => by fin_cases a <;> simp [ix2, h128])
    · exact rd arg3 harg3 x0 _ _ _ _ rfl _ _ (fun a => by fin_cases a <;> simp [ix2, h128])
    · exact (rd arg7 harg7 y0 _ _ _ _ rfl _ (ix3 3 0 t) (fun a => by fin_cases a <;> simp [ix3])).trans (hy 3)

/-- the accumulator too, -/
theorem tripA_val (t : Fin 256) (T n : ℕ) (hn : n < 32) (hT : 256 * n + 256 ≤ T) (y0 : Vec Ideal S4x1x256 .f32) (y1 : Vec Ideal S4x128x256 .f32)
    (hy : ∀ h : Fin 4, y0 (ix3 h 0 t) = ((RUN (zK x0 x1 h t) T (256 * (n + 1)) : ℝ) : EReal))
    (ha : ∀ (h : Fin 4) (d : Fin 128), y1 (ix3 h d t) = ACC (vK x2 h d) (zK x0 x1 h t) T (256 * (n + 1))) (h : Fin 4) (d : Fin 128) :
    tripA c i arg4 harg4 arg3 harg3 (k0_pay124 (F := Ideal)) arg7 harg7 arg8 harg8 arg5 harg5 x0 x1 x2 n hn y0 y1 (ix3 h d t) = ACC (vK x2 h d) (zK x0 x1 h t) T (256 * n) := by
  unfold tripA tripRun
  dsimp only
  sl_unfold_run_names
  refine (read4A _ _ _ _ _ [] h d t _ _ _ _).trans ?_
  match h with
  | 0 =>
    refine (congrFun (payA0 _ _ _ _ _) (ix3 0 d t)).trans ?_
    refine unm_acc x0 x1 x2 h0 h1 0 t T n hn hT _ _ _ _ _ d (fun s d => ?_) (fun d => ?_) (fun s => ?_) ?_ ?_
    · exact rd arg4 harg4 x1 _ _ _ _ (off21 n hn) _ _ (fun a => by fin_cases a <;> simp [ix2, h128])
    · exact rd arg3 harg3 x0 _ _ _ _ rfl _ _ (fun a => by fin_cases a <;> simp [ix2, h128])
    · exact rd arg5 harg5 x2 _ _ _ _ (off25 n hn) _ _ (fun a => by fin_cases a <;> simp [ix2, h128])
    · exact (rd arg7 harg7 y0 _ _ _ _ rfl _ (ix3 0 0 t) (fun a => by fin_cases a <;> simp [ix3])).trans (hy 0)
    · exact (rd arg8 harg8 y1 _ _ _ _ rfl _ (ix3 0 d t) (fun a => by fin_cases a <;> simp [ix3])).trans (ha 0 d)
  | 1 =>
    refine (congrFun (payA1 _ _ _ _ _) (ix3 0 d t)).trans ?_
    refine unm_acc x0 x1 x2 h0 h1 1 t T n hn hT _ _ _ _ _ d (fun s d => ?_) (fun d => ?_) (fun s => ?_) ?_ ?_
    · exact rd arg4 harg4 x1 _ _ _ _ (off22 n hn) _ _ (fun a => by fin_cases a <;> simp [ix2, h128])
    · exact rd arg3 harg3 x0 _ _ _ _ rfl _ _ (fun a => by fin_cases a <;> simp [ix2, h128])
    · exact rd arg5 harg5 x2 _ _ _ _ (off26 n hn) _ _ (fun a => by fin_cases a <;> simp [ix2, h128])
    · exact (rd arg7 harg7 y0 _ _ _ _ rfl _ (ix3 1 0 t) (fun a => by fin_cases a <;> simp [ix3])).trans (hy 1)
    · exact (rd arg8 harg8 y1 _ _ _ _ rfl _ (ix3 1 d t) (fun a => by fin_cases a <;> simp [ix3])).trans (ha 1 d)
  | 2 =>
    refine (congrFun (payA2 _ _ _ _ _) (ix3 0 d t)).trans ?_
    refine unm_acc x0 x1 x2 h0 h1 2 t T n hn hT _ _ _ _ _ d (fun s d => ?_) (fun d => ?_) (fun s => ?_) ?_ ?_
    · exact rd arg4 harg4 x1 _ _ _ _ (off23 n hn) _ _ (fun a => by fin_cases a <;> simp [ix2, h128])
    · exact rd arg3 harg3 x0 _ _ _ _ rfl _ _ (fun a => by fin_cases a <;> simp [ix2, h128])
    · exact rd arg5 harg5 x2 _ _ _ _ (off27 n hn) _ _ (fun a => by fin_cases a <;> simp [ix2, h128])
    · exact (rd arg7 harg7 y0 _ _ _ _ rfl _ (ix3 2 0 t) (fun a => by fin_cases a <;> simp [ix3])).trans (hy 2)
    · exact (rd arg8 harg8 y1 _ _ _ _ rfl _ (ix3 2 d t) (fun a => by fin_cases a <;> simp [ix3])).trans (ha 2 d)
  | 3 =>
    refine (congrFun (payA3 _ _ _ _ _) (ix3 0 d t)).trans ?_
    refine unm_acc x0 x1 x2 h0 h1 3 t T n hn hT _ _ _ _ _ d (fun s d => ?_) (fun d => ?_) (fun s => ?_) ?_ ?_
    · exact rd arg4 harg4 x1 _ _ _ _ (off24 n hn) _ _ (fun a => by fin_cases a <;> simp [ix2, h128])
    · exact rd arg3 harg3 x0 _ _ _ _ rfl _ _ (fun a => by fin_cases a <;> simp [ix2, h128])
    · exact rd arg5 harg5 x2 _ _ _ _ (off28 n hn) _ _ (fun a => by fin_cases a <;> simp [ix2, h128])
    · exact (rd arg7 harg7 y0 _ _ _ _ rfl _ (ix3 3 0 t) (fun a => by fin_cases a <;> simp [ix3])).trans (hy 3)
    · exact (rd arg8 harg8 y1 _ _ _ _ rfl _ (ix3 3 d t) (fun a => by fin_cases a <;> simp [ix3])).trans (ha 3 d)

/-- and the flag stays down: nothing exceeds the bound. -/
theorem tripD_val (n : ℕ) (hn : n < 32) (y0 : Vec Ideal S4x1x256 .f32) (y1 : Vec Ideal S4x128x256 .f32) :
    tripD c i arg4 harg4 arg3 harg3 (k0_pay124 (F := Ideal)) arg7 harg7 arg8 harg8 arg5 harg5 x0 x1 x2 n hn y0 y1 = 0#1 := by
  unfold tripD tripRun
  dsimp only
  sl_unfold_run_names
  rw [IdealRules.named_const.ideal_named_scalar _ _ _ _ rfl]
  exact cmpf_top _

include h0 h1

/-- The loop takes the accumulator down to the first key. -/
theorem loopA_val (t : Fin 256) (T : ℕ) : ∀ n, n ≤ 32 → 256 * n ≤ T → ∀ (y0 : Vec Ideal S4x1x256 .f32) (y1 : Vec Ideal S4x128x256 .f32),
    (∀ h : Fin 4, y0 (ix3 h 0 t) = ((RUN (zK x0 x1 h t) T (256 * n) : ℝ) : EReal)) →
    (∀ (h : Fin 4) (d : Fin 128), y1 (ix3 h d t) = ACC (vK x2 h d) (zK x0 x1 h t) T (256 * n)) → ∀ (h : Fin 4) (d : Fin 128),
    loopA c i arg4 harg4 arg3 harg3 (k0_pay124 (F := Ideal)) arg7 harg7 arg8 harg8 arg5 harg5 x0 x1 x2 n 0#1 y0 y1 (ix3 h d t) = ACC (vK x2 h d) (zK x0 x1 h t) T 0 := by
  intro n
  induction n with
  | zero => intro _ _ y0 y1 _ ha h d; rw [loopA]; exact ha h d
  | succ n ih =>
    intro hn hT y0 y1 hy ha h d
    have hn' : n < 32 := by omega
    rw [loopA, if_neg (by decide), dif_pos hn', tripD_val (h0 := h0) (h1 := h1)]
    exact ih (by omega) (by omega) _ _ (tripR_val c i arg4 harg4 arg3 harg3 arg7 harg7 arg8 harg8 arg5 harg5 x0 x1 x2 h0 h1 t T n hn' (by omega) y0 y1 hy)
      (tripA_val c i arg4 harg4 arg3 harg3 arg7 harg7 arg8 harg8 arg5 harg5 x0 x1 x2 h0 h1 t T n hn' (by omega) y0 y1 hy ha) h d

end

end Cert.KernelIdeal.Sb

end
-- ==== Proof.Sb.DiagVal.lean ====
/-
  What the first point of a row of points writes out: its only block stands under the causal mask.
-/
module

public import proofs.«01_k».proof.Proof.Sb.TripVal
public import Idealize.ShloMosaic.Lib.Pipeline.ReadBack

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

theorem times256 : ∀ n < 32, Scalar.muli (BitVec.ofNat 32 n) 256#32 = BitVec.ofNat 32 (256 * n) := by decide +kernel

/-- The causal mask of a point's own block, at an index: -/
theorem msk79 (n : ℕ) (hn : n < 32) (s t : Fin 256) : k0_pay79 (BitVec.ofNat 32 n) (Scalar.muli (BitVec.ofNat 32 n) 256#32) (ix2 s t) = 1#1 ↔ 256 * n + s < 256 * n + t := by
  unfold k0_pay79
  pointwise
  rw [times256 n hn, show IntOp.addi (BitVec.ofNat 32 (256 * n)) (BitVec.ofNat 32 s.val) = BitVec.ofNat 32 (256 * n + s.val) from (BitVec.ofNat_add ..).symm,
    show IntOp.addi (BitVec.ofNat 32 (256 * n)) (BitVec.ofNat 32 t.val) = BitVec.ofNat 32 (256 * n + t.val) from (BitVec.ofNat_add ..).symm,
    WordCmp.cmpi_slt_ofNat (w := 32) (by omega) (by omega), WordCmp.ofBool_decide_eq_one_iff]

/-- it is made by the same lines in the two bodies. -/
theorem msk6 (n : ℕ) (hn : n < 32) (s t : Fin 256) : k0_pay6 (BitVec.ofNat 32 n) (Scalar.muli (BitVec.ofNat 32 n) 256#32) (ix2 s t) = 1#1 ↔ 256 * n + s < 256 * n + t :=
  msk79 n hn s t

/-- The scratch starts at zero: the running sum, -/
theorem zR (v : View sig .tc .vmem S4x1x256 .f32) (off : Fin 3 → ℕ) (b) (r : Rect S4x1x256) (x) (h : ∀ a, off a = 0) :
    View.readCov (Val := Elt Ideal) v [⟨Rect.unit (s := S4x1x256) off S4x1x256.size b, (k0_pay122 (F := Ideal))⟩] r.toLoadRect x = (0 : EReal) := by
  rw [View.readCov_fill (Val := Elt Ideal) v b (k0_pay122 (F := Ideal)) [] r h]
  exact Ideal.ofBits_zero .f32

/-- and the accumulator. -/
theorem zA (v : View sig .tc .vmem S4x128x256 .f32) (off : Fin 3 → ℕ) (b) (r : Rect S4x128x256) (x) (h : ∀ a, off a = 0) :
    View.readCov (Val := Elt Ideal) v [⟨Rect.unit (s := S4x128x256) off S4x128x256.size b, (k0_pay123 (F := Ideal))⟩] r.toLoadRect x = (0 : EReal) := by
  rw [View.readCov_fill (Val := Elt Ideal) v b (k0_pay123 (F := Ideal)) [] r h]
  exact Ideal.ofBits_zero .f32

/-- Four stores of the output's block, one a head, read back. -/
theorem read4O (v : View sig .tc .vmem S256x512 .bf16) (f) (p0 p1 p2 p3 : Vec Ideal S256x128 .bf16) (L : List (View.Piece (Elt Ideal) S256x512 .bf16)) (h : Fin 4) (t : Fin 256) (d : Fin 128) (b3 b2 b1 b0) :
    v.read (Elt Ideal) (v.writes (Elt Ideal) f (⟨Rect.unit (s := S256x512) ![0, 384] S256x128.size b3, p3⟩ :: ⟨Rect.unit (s := S256x512) ![0, 256] S256x128.size b2, p2⟩
      :: ⟨Rect.unit (s := S256x512) ![0, 128] S256x128.size b1, p1⟩ :: ⟨Rect.unit (s := S256x512) ![0, 0] S256x128.size b0, p0⟩ :: L)) (ix2 t (h128 h d))
      = (![p0, p1, p2, p3] h) (ix2 t d) := by
  have hit (o : ℕ) (b) (w : Vec Ideal S256x128 .bf16) (L : List (View.Piece (Elt Ideal) S256x512 .bf16)) (ho : 128 * h.val = o) :
      v.read (Elt Ideal) (v.writes (Elt Ideal) f (⟨Rect.unit (s := S256x512) ![0, o] S256x128.size b, w⟩ :: L)) (ix2 t (h128 h d)) = w (ix2 t d) :=
    View.read_writes_cons_unit_of_mem (s := S256x512) v f b w L (ix2 t (h128 h d)) (ix2 t d : S256x128.Idx) rfl (fun a => by subst ho; fin_cases a <;> simp [ix2, h128])
  fin_cases h
  · refine (View.read_writes_cons_unit_of_not_mem _ _ _ _ _ _ rfl (1 : Fin 2) (Or.inl (by show (128 * 0 + d.val : ℕ) < 384; omega))).trans ?_
    refine (View.read_writes_cons_unit_of_not_mem _ _ _ _ _ _ rfl (1 : Fin 2) (Or.inl (by show (128 * 0 + d.val : ℕ) < 256; omega))).trans ?_
    refine (View.read_writes_cons_unit_of_not_mem _ _ _ _ _ _ rfl (1 : Fin 2) (Or.inl (by show (128 * 0 + d.val : ℕ) < 128; omega))).trans ?_
    exact hit _ _ _ _ rfl
  · refine (View.read_writes_cons_unit_of_not_mem _ _ _ _ _ _ rfl (1 : Fin 2) (Or.inl (by show (128 * 1 + d.val : ℕ) < 384; omega))).trans ?_
    refine (View.read_writes_cons_unit_of_not_mem _ _ _ _ _ _ rfl (1 : Fin 2) (Or.inl (by show (128 * 1 + d.val : ℕ) < 256; omega))).trans ?_
    exact hit _ _ _ _ rfl
  · refine (View.read_writes_cons_unit_of_not_mem _ _ _ _ _ _ rfl (1 : Fin 2) (Or.inl (by show (128 * 2 + d.val : ℕ) < 384; omega))).trans ?_
    exact hit _ _ _ _ rfl
  · exact hit _ _ _ _ rfl

/-- A head's part of the write-out: the accumulator, transposed. -/
theorem out_apply (y : Vec Ideal S1x128x256 .f32) (t : Fin 256) (d : Fin 128) : k0_pay133 y (ix2 t d) = y (ix3 0 d t) := by
  unfold k0_pay133
  pointwise
theorem out1 (y : Vec Ideal S1x128x256 .f32) : k0_pay134 y = k0_pay133 y := rfl
theorem out2 (y : Vec Ideal S1x128x256 .f32) : k0_pay1 y = k0_pay133 y := rfl
theorem out3 (y : Vec Ideal S1x128x256 .f32) : k0_pay2 y = k0_pay133 y := rfl

theorem off13 (i : grid0.Coords) : k0_off13 i = ![256 * (i 2).val, 0] := k0_off13_eq i
theorem off14 (i : grid0.Coords) : k0_off14 i = ![256 * (i 2).val, 128] := k0_off14_eq i
theorem off15 (i : grid0.Coords) : k0_off15 i = ![256 * (i 2).val, 256] := k0_off15_eq i
theorem off16 (i : grid0.Coords) : k0_off16 i = ![256 * (i 2).val, 384] := k0_off16_eq i
theorem off17 (i : grid0.Coords) : k0_off17 i = ![0, 256 * (i 2).val] := k0_off17_eq i
theorem off18 (i : grid0.Coords) : k0_off18 i = ![128, 256 * (i 2).val] := k0_off18_eq i
theorem off19 (i : grid0.Coords) : k0_off19 i = ![256, 256 * (i 2).val] := k0_off19_eq i
theorem off20 (i : grid0.Coords) : k0_off20 i = ![384, 256 * (i 2).val] := k0_off20_eq i

/-- One head of the masked block: the running sum, -/
theorem msk_run (x0 : Vec Ideal S512x256 .bf16) (x1 : Vec Ideal S8192x512 .bf16) (h0 : Fi x0) (h1 : Fi x1) (h : Fin 4) (t : Fin 256) (T n : ℕ) (hn : n < 32)
    (m : IVec S256x256 1) (hm : ∀ s : Fin 256, m (ix2 s t) = 1#1 ↔ 256 * n + s < T) (z : FVec Ideal S256x256 .f32) (run : FVec Ideal S1x256 .f32)
    (hz : ∀ s : Fin 256, z (ix2 s t) = ((zK x0 x1 h t (256 * n + s) : ℝ) : EReal)) (hy : run (ix2 0 t) = ((RUN (zK x0 x1 h t) T (256 * (n + 1)) : ℝ) : EReal)) :
    runV run (mkV m (spV z)) (ix2 0 t) = ((RUN (zK x0 x1 h t) T (256 * n) : ℝ) : EReal) :=
  blk_run _ T n hn _ _ t hy (G_msk x0 x1 h t T n m hm z hz)

/-- and the accumulator. -/
theorem msk_acc (x0 : Vec Ideal S512x256 .bf16) (x1 : Vec Ideal S8192x512 .bf16) (x2 : Vec Ideal S512x8192 .bf16) (h0 : Fi x0) (h1 : Fi x1) (h : Fin 4) (t : Fin 256) (T n : ℕ) (hn : n < 32)
    (m : IVec S256x256 1) (hm : ∀ s : Fin 256, m (ix2 s t) = 1#1 ↔ 256 * n + s < T) (z : FVec Ideal S256x256 .f32) (run : FVec Ideal S1x256 .f32) (acc : FVec Ideal S128x256 .f32)
    (v : Vec Ideal S128x256 .bf16) (d : Fin 128)
    (hz : ∀ s : Fin 256, z (ix2 s t) = ((zK x0 x1 h t (256 * n + s) : ℝ) : EReal)) (hv : ∀ s : Fin 256, v (ix2 d s) = x2 (ix2 (h128 h d) ⟨256 * n + s, by omega⟩))
    (hy : run (ix2 0 t) = ((RUN (zK x0 x1 h t) T (256 * (n + 1)) : ℝ) : EReal)) (ha : acc (ix2 d t) = ACC (vK x2 h d) (zK x0 x1 h t) T (256 * (n + 1))) :
    accV acc v (mkV m (wV z (spV z) (sufV (k0_pay124 (F := Ideal)) (mkV m (spV z))) run)) (ix2 d t) = ACC (vK x2 h d) (zK x0 x1 h t) T (256 * n) :=
  blk_acc _ _ T n hn _ _ _ d t ha (fun s => by rw [hv, vK, dif_pos (by omega)]) (W_msk x0 x1 h t T n hn m hm z run hz hy)

/-- The masked block's stores, head by head. -/
theorem payDA0 (m : IVec S256x256 1) (k q v y a) : k0_pay116 (k0_pay103 (F := Ideal) k0_pay124 m (k0_pay80 k q) (k0_pay87 (k0_pay84 k q) (k0_pay85 k q) k0_pay86) (k0_pay95 m (k0_pay84 k q) (k0_pay85 k q) k0_pay86) (k0_pay99 m (k0_pay84 k q) (k0_pay85 k q) k0_pay86) y) a v
    = backA (accV (inA a) v (mkV m (wV (zV k q) (spV (zV k q)) (sufV k0_pay124 (mkV m (spV (zV k q)))) (inR y)))) := rfl
theorem payDA1 (m : IVec S256x256 1) (k q v y a) : k0_pay118 (k0_pay108 m (k0_pay106 (F := Ideal) k0_pay124 (k0_pay81 k q) (k0_pay88 (k0_pay81 k q)) (k0_pay92 m (k0_pay81 k q)) (k0_pay96 m (k0_pay81 k q)) y) k0_pay107) a v
    = backA (accV (inA a) v (mkV m (wV (zV k q) (spV (zV k q)) (sufV k0_pay124 (mkV m (spV (zV k q)))) (inR y)))) := rfl
theorem payDA2 (m : IVec S256x256 1) (k q v y a) : k0_pay128 (k0_pay121 (k0_pay111 (F := Ideal) m (k0_pay82 k q) (k0_pay89 (k0_pay82 k q)) (k0_pay100 k0_pay124 (k0_pay93 m (k0_pay82 k q)) (k0_pay97 m (k0_pay82 k q))) y) a v)
    = backA (accV (inA a) v (mkV m (wV (zV k q) (spV (zV k q)) (sufV k0_pay124 (mkV m (spV (zV k q)))) (inR y)))) := rfl
theorem payDA3 (m : IVec S256x256 1) (k q v y a) : k0_pay130 (k0_pay114 (F := Ideal) m (k0_pay83 k q) (k0_pay90 (k0_pay83 k q)) (k0_pay101 k0_pay124 (k0_pay94 m (k0_pay83 k q)) (k0_pay98 m (k0_pay83 k q))) y) a v
    = backA (accV (inA a) v (mkV m (wV (zV k q) (spV (zV k q)) (sufV k0_pay124 (mkV m (spV (zV k q)))) (inR y)))) := rfl

section
variable (c : Dev nD) (i : grid0.Coords) (arg3 : Memref sig .tc .vmem S512x256 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S256x512 .bf16) (harg6 : arg6.IsWhole) (arg7 : Memref sig .tc .vmem S4x1x256 .f32) (harg7 : arg7.IsWhole) (arg8 : Memref sig .tc .vmem S4x128x256 .f32) (harg8 : arg8.IsWhole)
  (x0 : Vec Ideal S512x256 .bf16) (x1 : Vec Ideal S8192x512 .bf16) (x2 : Vec Ideal S512x8192 .bf16) (h0 : Fi x0) (h1 : Fi x1)

include h0 h1

set_option maxHeartbeats 4000000 in
/-- The write-out of a point whose only block is its own. -/
theorem diag_val (hc : ¬ k0_cond1 i = 1#1) (Z : BitVec 1 → Vec Ideal S4x1x256 .f32 → Vec Ideal S4x128x256 .f32 → Vec Ideal S4x128x256 .f32)
    (v : View sig .tc .vmem S256x512 .bf16) (f) (t : Fin 256) (R : Fin 4 → Fin 128 → EReal)
    (hZ : ∀ y0 y1, (∀ (h : Fin 4) (d : Fin 128), y1 (ix3 h d t) = ACC (vK x2 h d) (zK x0 x1 h t) (256 * (i 2).val + t) (256 * (i 2).val)) →
      ∀ h d, Z 0#1 y0 y1 (ix3 h d t) = R h d) (h : Fin 4) (d : Fin 128) :
    v.read (Elt Ideal) (v.writes (Elt Ideal) f (entryDiag c i arg3 harg3 arg4 harg4 arg5 harg5 arg6 harg6 arg7 harg7 arg8 harg8 x0 x1 x2 hc Z).1) (ix2 t (h128 h d)) = R h d := by
  have hn : (i 2).val < 32 := (i 2).isLt
  unfold entryDiag
  dsimp only
  sl_unfold_run_names
  rw [IdealRules.named_const.ideal_named_scalar _ _ _ _ rfl, cmpf_top]
  refine (read4O v f _ _ _ _ [] h t d _ _ _ _).trans ?_
  generalize hW : Z 0#1 _ _ = W
  have hm : ∀ s : Fin 256, k0_pay79 (BitVec.ofNat 32 (i 2).val) (Scalar.muli (BitVec.ofNat 32 (i 2).val) 256#32) (ix2 s t) = 1#1 ↔ 256 * (i 2).val + s < 256 * (i 2).val + t :=
    fun s => msk79 _ hn s t
  have key : ∀ (h : Fin 4) (d : Fin 128), W (ix3 h d t) = R h d := by
    rw [← hW]
    refine hZ _ _ fun h d => ?_
    clear hW W
    refine (read4A _ _ _ _ _ [_] h d t _ _ _ _).trans ?_
    match h with
    | 0 =>
      refine (congrFun (payDA0 _ _ _ _ _ _) (ix3 0 d t)).trans ((backA_apply _ d t).trans ?_)
      refine msk_acc x0 x1 x2 h0 h1 0 t _ _ hn _ hm _ _ _ _ d (z_blk x0 x1 h0 h1 0 t _ hn _ _ (fun s d => ?_) (fun d => ?_)) (fun s => ?_) ?_ ?_
      · exact rd arg4 harg4 x1 _ _ _ _ (off13 i) _ _ (fun a => by fin_cases a <;> simp [ix2, h128])
      · exact rd arg3 harg3 x0 _ _ _ _ rfl _ _ (fun a => by fin_cases a <;> simp [ix2, h128])
      · exact rd arg5 harg5 x2 _ _ _ _ (off17 i) _ _ (fun a => by fin_cases a <;> simp [ix2, h128])
      · rw [inR_apply, RUN_past _ _ _ (by omega), EReal.coe_zero]
        repeat refine (congrFun (View.readCov_skip _ _ _ _ _ (by decide)) _).trans ?_
        exact zR _ _ _ _ _ (fun a => by fin_cases a <;> rfl)
      · rw [inA_apply, ACC_past _ _ _ _ (by omega)]
        repeat refine (congrFun (View.readCov_skip _ _ _ _ _ (by decide)) _).trans ?_
        exact zA _ _ _ _ _ (fun a => by fin_cases a <;> rfl)
    | 1 =>
      refine (congrFun (payDA1 _ _ _ _ _ _) (ix3 0 d t)).trans ((backA_apply _ d t).trans ?_)
      refine msk_acc x0 x1 x2 h0 h1 1 t _ _ hn _ hm _ _ _ _ d (z_blk x0 x1 h0 h1 1 t _ hn _ _ (fun s d => ?_) (fun d => ?_)) (fun s => ?_) ?_ ?_
      · exact rd arg4 harg4 x1 _ _ _ _ (off14 i) _ _ (fun a => by fin_cases a <;> simp [ix2, h128])
      · exact rd arg3 harg3 x0 _ _ _ _ rfl _ _ (fun a => by fin_cases a <;> simp [ix2, h128])
      · exact rd arg5 harg5 x2 _ _ _ _ (off18 i) _ _ (fun a => by fin_cases a <;> simp [ix2, h128])
      · rw [inR_apply, RUN_past _ _ _ (by omega), EReal.coe_zero]
        repeat refine (congrFun (View.readCov_skip _ _ _ _ _ (by decide)) _).trans ?_
        exact zR _ _ _ _ _ (fun a => by fin_cases a <;> rfl)
      · rw [inA_apply, ACC_past _ _ _ _ (by omega)]
        repeat refine (congrFun (View.readCov_skip _ _ _ _ _ (by decide)) _).trans ?_
        exact zA _ _ _ _ _ (fun a => by fin_cases a <;> rfl)
    | 2 =>
      refine (congrFun (payDA2 _ _ _ _ _ _) (ix3 0 d t)).trans ((backA_apply _ d t).trans ?_)
      refine msk_acc x0 x1 x2 h0 h1 2 t _ _ hn _ hm _ _ _ _ d (z_blk x0 x1 h0 h1 2 t _ hn _ _ (fun s d => ?_) (fun d => ?_)) (fun s => ?_) ?_ ?_
      · exact rd arg4 harg4 x1 _ _ _ _ (off15 i) _ _ (fun a => by fin_cases a <;> simp [ix2, h128])
      · exact rd arg3 harg3 x0 _ _ _ _ rfl _ _ (fun a => by fin_cases a <;> simp [ix2, h128])
      · exact rd arg5 harg5 x2 _ _ _ _ (off19 i) _ _ (fun a => by fin_cases a <;> simp [ix2, h128])
      · rw [inR_apply, RUN_past _ _ _ (by omega), EReal.coe_zero]
        repeat refine (congrFun (View.readCov_skip _ _ _ _ _ (by decide)) _).trans ?_
        exact zR _ _ _ _ _ (fun a => by fin_cases a <;> rfl)
      · rw [inA_apply, ACC_past _ _ _ _ (by omega)]
        repeat refine (congrFun (View.readCov_skip _ _ _ _ _ (by decide)) _).trans ?_
        exact zA _ _ _ _ _ (fun a => by fin_cases a <;> rfl)
    | 3 =>
      refine (congrFun (payDA3 _ _ _ _ _ _) (ix3 0 d t)).trans ((backA_apply _ d t).trans ?_)
      refine msk_acc x0 x1 x2 h0 h1 3 t _ _ hn _ hm _ _ _ _ d (z_blk x0 x1 h0 h1 3 t _ hn _ _ (fun s d => ?_) (fun d => ?_)) (fun s => ?_) ?_ ?_
      · exact rd arg4 harg4 x1 _ _ _ _ (off16 i) _ _ (fun a => by fin_cases a <;> simp [ix2, h128])
      · exact rd arg3 harg3 x0 _ _ _ _ rfl _ _ (fun a => by fin_cases a <;> simp [ix2, h128])
      · exact rd arg5 harg5 x2 _ _ _ _ (off20 i) _ _ (fun a => by fin_cases a <;> simp [ix2, h128])
      · rw [inR_apply, RUN_past _ _ _ (by omega), EReal.coe_zero]
        repeat refine (congrFun (View.readCov_skip _ _ _ _ _ (by decide)) _).trans ?_
        exact zR _ _ _ _ _ (fun a => by fin_cases a <;> rfl)
      · rw [inA_apply, ACC_past _ _ _ _ (by omega)]
        repeat refine (congrFun (View.readCov_skip _ _ _ _ _ (by decide)) _).trans ?_
        exact zA _ _ _ _ _ (fun a => by fin_cases a <;> rfl)
  clear hW
  match h with
  | 0 => exact (out_apply _ _ _).trans ((rd arg8 harg8 W _ _ _ _ rfl _ (ix3 0 d t) (fun a => by fin_cases a <;> simp [ix3])).trans (key 0 d))
  | 1 => exact (congrFun (out1 _) _).trans ((out_apply _ _ _).trans ((rd arg8 harg8 W _ _ _ _ rfl _ (ix3 1 d t) (fun a => by fin_cases a <;> simp [ix3])).trans (key 1 d)))
  | 2 => exact (congrFun (out2 _) _).trans ((out_apply _ _ _).trans ((rd arg8 harg8 W _ _ _ _ rfl _ (ix3 2 d t) (fun a => by fin_cases a <;> simp [ix3])).trans (key 2 d)))
  | 3 => exact (congrFun (out3 _) _).trans ((out_apply _ _ _).trans ((rd arg8 harg8 W _ _ _ _ rfl _ (ix3 3 d t) (fun a => by fin_cases a <;> simp [ix3])).trans (key 3 d)))
end

end Cert.KernelIdeal.Sb

end
-- ==== Proof.Sb.FarVal.lean ====
/-
  What a later point writes out: its own block under the causal mask and the block before it, both scores from one product.
-/
module

public import proofs.«01_k».proof.Proof.Sb.DiagVal

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

/-- A later point has a block before its own, -/
theorem cond_pos : ∀ i : grid0.Coords, k0_cond1 i = 1#1 → 1 ≤ (i 2).val := by decide +kernel
/-- the first has none. -/
theorem cond_zero : ∀ i : grid0.Coords, ¬ k0_cond1 i = 1#1 → (i 2).val = 0 := by decide +kernel
theorem off1 : ∀ i : grid0.Coords, k0_cond1 i = 1#1 → k0_off1 i = ![256 * ((i 2).val - 1), 0] := by decide +kernel
theorem off2 : ∀ i : grid0.Coords, k0_cond1 i = 1#1 → k0_off2 i = ![256 * ((i 2).val - 1), 128] := by decide +kernel
theorem off3 : ∀ i : grid0.Coords, k0_cond1 i = 1#1 → k0_off3 i = ![256 * ((i 2).val - 1), 256] := by decide +kernel
theorem off4 : ∀ i : grid0.Coords, k0_cond1 i = 1#1 → k0_off4 i = ![256 * ((i 2).val - 1), 384] := by decide +kernel
theorem off6 : ∀ i : grid0.Coords, k0_cond1 i = 1#1 → k0_off6 i = ![0, 256 * ((i 2).val - 1)] := by decide +kernel
theorem off8 : ∀ i : grid0.Coords, k0_cond1 i = 1#1 → k0_off8 i = ![128, 256 * ((i 2).val - 1)] := by decide +kernel
theorem off10 : ∀ i : grid0.Coords, k0_cond1 i = 1#1 → k0_off10 i = ![256, 256 * ((i 2).val - 1)] := by decide +kernel
theorem off12 : ∀ i : grid0.Coords, k0_cond1 i = 1#1 → k0_off12 i = ![384, 256 * ((i 2).val - 1)] := by decide +kernel

/-- The two halves of the product. -/
abbrev zHi (k : Vec Ideal S512x128 .bf16) (q : Vec Ideal S128x256 .bf16) : FVec Ideal S256x256 .f32 := k0_pay11 k q
abbrev zLo (k : Vec Ideal S512x128 .bf16) (q : Vec Ideal S128x256 .bf16) : FVec Ideal S256x256 .f32 := k0_pay15 k q

theorem zHi_apply (k : Vec Ideal S512x128 .bf16) (q : Vec Ideal S128x256 .bf16) (s t : Fin 256) :
    zHi k q (ix2 s t) = ∑ d : Fin 128, (k (ix2 ⟨256 + s, by omega⟩ d) : EReal) * q (ix2 d t) := by
  unfold zHi k0_pay11 k0_pay7
  pointwise

theorem zLo_apply (k : Vec Ideal S512x128 .bf16) (q : Vec Ideal S128x256 .bf16) (s t : Fin 256) :
    zLo k q (ix2 s t) = ∑ d : Fin 128, (k (ix2 ⟨s, by omega⟩ d) : EReal) * q (ix2 d t) := by
  unfold zLo k0_pay15 k0_pay7
  pointwise

section
variable (x0 : Vec Ideal S512x256 .bf16) (x1 : Vec Ideal S8192x512 .bf16) (x2 : Vec Ideal S512x8192 .bf16) (h0 : Fi x0) (h1 : Fi x1) (h : Fin 4) (t : Fin 256) (n : ℕ) (hn : n + 1 < 32)
  (k : Vec Ideal S512x128 .bf16) (q : Vec Ideal S128x256 .bf16)
  (hk : ∀ (s : Fin 512) (d : Fin 128), k (ix2 s d) = x1 (ix2 ⟨256 * n + s, by omega⟩ (h128 h d))) (hq : ∀ d : Fin 128, q (ix2 d t) = x0 (ix2 (h128 h d) t))

include h0 h1 hk hq

theorem zHi_blk (s : Fin 256) : zHi k q (ix2 s t) = ((zK x0 x1 h t (256 * (n + 1) + s) : ℝ) : EReal) := by
  rw [zHi_apply, ← score_eq x0 x1 h0 h1 h t (n + 1) hn s]
  refine Finset.sum_congr rfl fun d _ => ?_
  rw [hk, hq]
  refine congrArg (fun a => (x1 (ix2 a (h128 h d)) : EReal) * x0 (ix2 (h128 h d) t)) (Fin.ext ?_)
  show 256 * n + (256 + s.val) = 256 * (n + 1) + s.val
  omega

theorem zLo_blk (s : Fin 256) : zLo k q (ix2 s t) = ((zK x0 x1 h t (256 * n + s) : ℝ) : EReal) := by
  rw [zLo_apply, ← score_eq x0 x1 h0 h1 h t n (by omega) s]
  exact Finset.sum_congr rfl fun d _ => by rw [hk, hq]

/-- One head of the two blocks: the running sum, -/
theorem two_run (T : ℕ) (hT : 256 * n + 256 ≤ T) (hT' : T ≤ 256 * (n + 2)) (m : IVec S256x256 1) (hm : ∀ s : Fin 256, m (ix2 s t) = 1#1 ↔ 256 * (n + 1) + s < T)
    (y : Vec Ideal S1x1x256 .f32) (hy : y (ix3 0 0 t) = (0 : EReal)) :
    backR (runV (runV (inR y) (mkV m (spV (zHi k q)))) (spV (zLo k q))) (ix3 0 0 t) = ((RUN (zK x0 x1 h t) T (256 * n) : ℝ) : EReal) := by
  rw [backR_apply]
  refine blk_run _ T n (by omega) _ _ t ?_ (G_unm x0 x1 h t T n hT _ (zLo_blk x0 x1 h0 h1 h t n hn k q hk hq))
  exact msk_run x0 x1 h0 h1 h t T (n + 1) hn m hm _ _ (zHi_blk x0 x1 h0 h1 h t n hn k q hk hq) (by rw [inR_apply, hy, RUN_past _ _ _ (by omega), EReal.coe_zero])

/-- and the accumulator. -/
theorem two_acc (T : ℕ) (hT : 256 * n + 256 ≤ T) (hT' : T ≤ 256 * (n + 2)) (m : IVec S256x256 1) (hm : ∀ s : Fin 256, m (ix2 s t) = 1#1 ↔ 256 * (n + 1) + s < T)
    (y : Vec Ideal S1x1x256 .f32) (hy : y (ix3 0 0 t) = (0 : EReal)) (a : Vec Ideal S1x128x256 .f32) (d : Fin 128) (ha : a (ix3 0 d t) = (0 : EReal))
    (v v' : Vec Ideal S128x256 .bf16) (hv : ∀ s : Fin 256, v (ix2 d s) = x2 (ix2 (h128 h d) ⟨256 * (n + 1) + s, by omega⟩)) (hv' : ∀ s : Fin 256, v' (ix2 d s) = x2 (ix2 (h128 h d) ⟨256 * n + s, by omega⟩)) :
    backA (accV (accV (inA a) v (mkV m (wV (zHi k q) (spV (zHi k q)) (sufV (k0_pay124 (F := Ideal)) (mkV m (spV (zHi k q)))) (inR y)))) v'
      (wV (zLo k q) (spV (zLo k q)) (sufV (k0_pay124 (F := Ideal)) (spV (zLo k q))) (runV (inR y) (mkV m (spV (zHi k q)))))) (ix3 0 d t) = ACC (vK x2 h d) (zK x0 x1 h t) T (256 * n) := by
  have hr : inR y (ix2 0 t) = ((RUN (zK x0 x1 h t) T (256 * (n + 2)) : ℝ) : EReal) := by rw [inR_apply, hy, RUN_past _ _ _ (by omega), EReal.coe_zero]
  rw [backA_apply]
  refine blk_acc _ _ T n (by omega) _ _ _ d t ?_ (fun s => by rw [hv', vK, dif_pos (by omega)]) ?_
  · exact msk_acc x0 x1 x2 h0 h1 h t T (n + 1) hn m hm _ _ _ v d (zHi_blk x0 x1 h0 h1 h t n hn k q hk hq) hv hr (by rw [inA_apply, ha, ACC_past _ _ _ _ (by omega)])
  · exact W_unm x0 x1 h t T n (by omega) hT _ _ (zLo_blk x0 x1 h0 h1 h t n hn k q hk hq) (msk_run x0 x1 h0 h1 h t T (n + 1) hn m hm _ _ (zHi_blk x0 x1 h0 h1 h t n hn k q hk hq) hr)

end

/-- The stores of the two blocks, head by head. -/
theorem payFR0 (m : IVec S256x256 1) (k q y) : k0_pay71 (k0_pay52 (F := Ideal) (k0_pay25 (k0_pay23 (k0_pay15 k q)) (k0_pay24 (k0_pay15 k q)) (FloatOps.ofBits FTy.f32 0#32)) (k0_pay29 m (k0_pay19 (k0_pay11 k q))) y) = backR (runV (runV (inR y) (mkV m (spV (zHi k q)))) (spV (zLo k q))) := rfl
theorem payFR1 (m : IVec S256x256 1) (k q y) : k0_pay75 (k0_pay59 (F := Ideal) (k0_pay26 (k0_pay16 (k0_pay8 k q))) (k0_pay55 (k0_pay30 m (k0_pay20 (k0_pay12 k q))) y)) = backR (runV (runV (inR y) (mkV m (spV (zHi k q)))) (spV (zLo k q))) := rfl
theorem payFR2 (m : IVec S256x256 1) (k q y) : k0_pay77 (k0_pay64 (F := Ideal) (k0_pay27 (k0_pay17 (k0_pay9 k q))) (k0_pay31 m (k0_pay21 (k0_pay13 k q))) y) = backR (runV (runV (inR y) (mkV m (spV (zHi k q)))) (spV (zLo k q))) := rfl
theorem payFR3 (m : IVec S256x256 1) (k q y) : k0_pay126 (k0_pay69 (F := Ideal) (k0_pay28 (k0_pay18 (k0_pay10 k q))) (k0_pay67 (k0_pay32 m (k0_pay22 (k0_pay14 k q))) y)) = backR (runV (runV (inR y) (mkV m (spV (zHi k q)))) (spV (zLo k q))) := rfl
theorem payFA0 (m : IVec S256x256 1) (k q v v' y a) : k0_pay70 (k0_pay49 (F := Ideal) m (k0_pay11 k q) (k0_pay19 (k0_pay11 k q)) (k0_pay39 k0_pay124 (k0_pay29 m (k0_pay19 (k0_pay11 k q))) (k0_pay33 m (k0_pay19 (k0_pay11 k q)))) y) (k0_pay51 (k0_pay15 k q) (k0_pay25 (k0_pay23 (k0_pay15 k q)) (k0_pay24 (k0_pay15 k q)) (FloatOps.ofBits FTy.f32 0#32)) (k0_pay29 m (k0_pay19 (k0_pay11 k q))) (k0_pay43 k0_pay124 (k0_pay25 (k0_pay23 (k0_pay15 k q)) (k0_pay24 (k0_pay15 k q)) (FloatOps.ofBits FTy.f32 0#32))) y) a v v'
    = backA (accV (accV (inA a) v (mkV m (wV (zHi k q) (spV (zHi k q)) (sufV (k0_pay124 (F := Ideal)) (mkV m (spV (zHi k q)))) (inR y)))) v'
      (wV (zLo k q) (spV (zLo k q)) (sufV (k0_pay124 (F := Ideal)) (spV (zLo k q))) (runV (inR y) (mkV m (spV (zHi k q)))))) := rfl
theorem payFA1 (m : IVec S256x256 1) (k q v v' y a) : k0_pay74 (k0_pay73 (k0_pay54 (F := Ideal) m (k0_pay12 k q) (k0_pay20 (k0_pay12 k q)) (k0_pay40 k0_pay124 (k0_pay30 m (k0_pay20 (k0_pay12 k q)))) y) (k0_pay58 (k0_pay56 (k0_pay16 (k0_pay8 k q)) (k0_pay26 (k0_pay16 (k0_pay8 k q))) (k0_pay44 k0_pay124 (k0_pay26 (k0_pay16 (k0_pay8 k q)))) (k0_pay45 k0_pay124 (k0_pay26 (k0_pay16 (k0_pay8 k q))))) (k0_pay57 (k0_pay30 m (k0_pay20 (k0_pay12 k q))) y)) a v v')
    = backA (accV (accV (inA a) v (mkV m (wV (zHi k q) (spV (zHi k q)) (sufV (k0_pay124 (F := Ideal)) (mkV m (spV (zHi k q)))) (inR y)))) v'
      (wV (zLo k q) (spV (zLo k q)) (sufV (k0_pay124 (F := Ideal)) (spV (zLo k q))) (runV (inR y) (mkV m (spV (zHi k q)))))) := rfl
theorem payFA2 (m : IVec S256x256 1) (k q v v' y a) : k0_pay76 (k0_pay61 (F := Ideal) m (k0_pay13 k q) (k0_pay21 (k0_pay13 k q)) (k0_pay41 k0_pay124 (k0_pay31 m (k0_pay21 (k0_pay13 k q)))) y) (k0_pay63 (k0_pay17 (k0_pay9 k q)) (k0_pay27 (k0_pay17 (k0_pay9 k q))) (k0_pay31 m (k0_pay21 (k0_pay13 k q))) (k0_pay46 k0_pay124 (k0_pay35 (k0_pay27 (k0_pay17 (k0_pay9 k q)))) (k0_pay37 (k0_pay27 (k0_pay17 (k0_pay9 k q))))) y) a v v'
    = backA (accV (accV (inA a) v (mkV m (wV (zHi k q) (spV (zHi k q)) (sufV (k0_pay124 (F := Ideal)) (mkV m (spV (zHi k q)))) (inR y)))) v'
      (wV (zLo k q) (spV (zLo k q)) (sufV (k0_pay124 (F := Ideal)) (spV (zLo k q))) (runV (inR y) (mkV m (spV (zHi k q)))))) := rfl
theorem payFA3 (m : IVec S256x256 1) (k q v v' y a) : k0_pay125 (k0_pay66 (F := Ideal) m (k0_pay14 k q) (k0_pay22 (k0_pay14 k q)) (k0_pay42 k0_pay124 (k0_pay32 m (k0_pay22 (k0_pay14 k q)))) y) (k0_pay68 (k0_pay18 (k0_pay10 k q)) (k0_pay28 (k0_pay18 (k0_pay10 k q))) (k0_pay32 m (k0_pay22 (k0_pay14 k q))) (k0_pay47 k0_pay124 (k0_pay36 (k0_pay28 (k0_pay18 (k0_pay10 k q)))) (k0_pay38 (k0_pay28 (k0_pay18 (k0_pay10 k q))))) y) a v v'
    = backA (accV (accV (inA a) v (mkV m (wV (zHi k q) (spV (zHi k q)) (sufV (k0_pay124 (F := Ideal)) (mkV m (spV (zHi k q)))) (inR y)))) v'
      (wV (zLo k q) (spV (zLo k q)) (sufV (k0_pay124 (F := Ideal)) (spV (zLo k q))) (runV (inR y) (mkV m (spV (zHi k q)))))) := rfl

section
variable (c : Dev nD) (i : grid0.Coords) (arg3 : Memref sig .tc .vmem S512x256 .bf16) (harg3 : arg3.IsWhole) (arg4 : Memref sig .tc .vmem S8192x512 .bf16) (harg4 : arg4.IsWhole) (arg5 : Memref sig .tc .vmem S512x8192 .bf16) (harg5 : arg5.IsWhole) (arg6 : Memref sig .tc .vmem S256x512 .bf16) (harg6 : arg6.IsWhole) (arg7 : Memref sig .tc .vmem S4x1x256 .f32) (harg7 : arg7.IsWhole) (arg8 : Memref sig .tc .vmem S4x128x256 .f32) (harg8 : arg8.IsWhole)
  (x0 : Vec Ideal S512x256 .bf16) (x1 : Vec Ideal S8192x512 .bf16) (x2 : Vec Ideal S512x8192 .bf16) (h0 : Fi x0) (h1 : Fi x1)

include h0 h1

set_option maxHeartbeats 4000000 in
/-- The write-out of a later point. -/
theorem far_val (hc : k0_cond1 i = 1#1) (Z : BitVec 1 → Vec Ideal S4x1x256 .f32 → Vec Ideal S4x128x256 .f32 → Vec Ideal S4x128x256 .f32)
    (v : View sig .tc .vmem S256x512 .bf16) (f) (t : Fin 256) (R : Fin 4 → Fin 128 → EReal)
    (hZ : ∀ y0 y1, (∀ h : Fin 4, y0 (ix3 h 0 t) = ((RUN (zK x0 x1 h t) (256 * (i 2).val + t) (256 * ((i 2).val - 1)) : ℝ) : EReal)) →
      (∀ (h : Fin 4) (d : Fin 128), y1 (ix3 h d t) = ACC (vK x2 h d) (zK x0 x1 h t) (256 * (i 2).val + t) (256 * ((i 2).val - 1))) →
      ∀ h d, Z 0#1 y0 y1 (ix3 h d t) = R h d) (h : Fin 4) (d : Fin 128) :
    v.read (Elt Ideal) (v.writes (Elt Ideal) f (entryFar c i arg3 harg3 arg4 harg4 arg5 harg5 arg6 harg6 arg7 harg7 arg8 harg8 x0 x1 x2 hc Z).1) (ix2 t (h128 h d)) = R h d := by
  have hn : (i 2).val < 32 := (i 2).isLt
  have hp := cond_pos i hc
  have hn1 : (i 2).val - 1 + 1 < 32 := by omega
  unfold entryFar
  dsimp only
  sl_unfold_run_names
  rw [IdealRules.named_const.ideal_named_scalar _ _ _ _ rfl, cmpf_top]
  refine (read4O v f _ _ _ _ [] h t d _ _ _ _).trans ?_
  generalize hW : Z 0#1 _ _ = W
  have hm : ∀ s : Fin 256, k0_pay6 (BitVec.ofNat 32 (i 2).val) (Scalar.muli (BitVec.ofNat 32 (i 2).val) 256#32) (ix2 s t) = 1#1 ↔ 256 * ((i 2).val - 1 + 1) + s < 256 * (i 2).val + t :=
    fun s => by rw [Nat.sub_add_cancel hp]; exact msk6 _ hn s t
  have key : ∀ (h : Fin 4) (d : Fin 128), W (ix3 h d t) = R h d := by
    rw [← hW]
    refine hZ _ _ (fun h => ?_) fun h d => ?_
    · clear hW W
      refine (read4R _ _ _ _ _ [_] h t _ _ _ _).trans ?_
      match h with
      | 0 =>
        refine (congrFun (payFR0 _ _ _ _) (ix3 0 0 t)).trans ?_
        refine two_run x0 x1 h0 h1 0 t _ hn1 _ _ (fun s d => ?_) (fun d => ?_) _ (by omega) (by omega) _ hm _ ?_
        · exact rd arg4 harg4 x1 _ _ _ _ (off1 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
      | 1 =>
        refine (congrFun (payFR1 _ _ _ _) (ix3 0 0 t)).trans ?_
        refine two_run x0 x1 h0 h1 1 t _ hn1 _ _ (fun s d => ?_) (fun d => ?_) _ (by omega) (by omega) _ hm _ ?_
        · exact rd arg4 harg4 x1 _ _ _ _ (off2 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
      | 2 =>
        refine (congrFun (payFR2 _ _ _ _) (ix3 0 0 t)).trans ?_
        refine two_run x0 x1 h0 h1 2 t _ hn1 _ _ (fun s d => ?_) (fun d => ?_) _ (by omega) (by omega) _ hm _ ?_
        · exact rd arg4 harg4 x1 _ _ _ _ (off3 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
      | 3 =>
        refine (congrFun (payFR3 _ _ _ _) (ix3 0 0 t)).trans ?_
        refine two_run x0 x1 h0 h1 3 t _ hn1 _ _ (fun s d => ?_) (fun d => ?_) _ (by omega) (by omega) _ hm _ ?_
        · exact rd arg4 harg4 x1 _ _ _ _ (off4 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
    · clear hW W
      refine (read4A _ _ _ _ _ [_] h d t _ _ _ _).trans ?_
      match h with
      | 0 =>
        refine (congrFun (payFA0 _ _ _ _ _ _ _) (ix3 0 d t)).trans ?_
        refine two_acc x0 x1 x2 h0 h1 0 t _ hn1 _ _ (fun s d => ?_) (fun d => ?_) _ (by omega) (by omega) _ hm _ ?_ _ d ?_ _ _ (fun s => ?_) (fun s => ?_)
        · exact rd arg4 harg4 x1 _ _ _ _ (off1 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
        · repeat refine (congrFun (View.readCov_skip _ _ _ _ _ (by decide)) _).trans ?_
          exact zA _ _ _ _ _ (fun a => by fin_cases a <;> rfl)
        · exact rd arg5 harg5 x2 _ _ _ _ (k0_off5_eq i) _ _ (fun a => by fin_cases a <;> simp [ix2, h128] <;> omega)
        · exact rd arg5 harg5 x2 _ _ _ _ (off6 i hc) _ _ (fun a => by fin_cases a <;> simp [ix2, h128])
      | 1 =>
        refine (congrFun (payFA1 _ _ _ _ _ _ _) (ix3 0 d t)).trans ?_
        refine two_acc x0 x1 x2 h0 h1 1 t _ hn1 _ _ (fun s d => ?_) (fun d => ?_) _ (by omega) (by omega) _ hm _ ?_ _ d ?_ _ _ (fun s => ?_) (fun s => ?_)
        · exact rd arg4 harg4 x1 _ _ _ _ (off2 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
        · repeat refine (congrFun (View.readCov_skip _ _ _ _ _ (by decide)) _).trans ?_
          exact zA _ _ _ _ _ (fun a => by fin_cases a <;> rfl)
        · exact rd arg5 harg5 x2 _ _ _ _ (k0_off7_eq i) _ _ (fun a => by fin_cases a <;> simp [ix2, h128] <;> omega)
        · exact rd arg5 harg5 x2 _ _ _ _ (off8 i hc) _ _ (fun a => by fin_cases a <;> simp [ix2, h128])
      | 2 =>
        refine (congrFun (payFA2 _ _ _ _ _ _ _) (ix3 0 d t)).trans ?_
        refine two_acc x0 x1 x2 h0 h1 2 t _ hn1 _ _ (fun s d => ?_) (fun d => ?_) _ (by omega) (by omega) _ hm _ ?_ _ d ?_ _ _ (fun s => ?_) (fun s => ?_)
        · exact rd arg4 harg4 x1 _ _ _ _ (off3 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
        · repeat refine (congrFun (View.readCov_skip _ _ _ _ _ (by decide)) _).trans ?_
          exact zA _ _ _ _ _ (fun a => by fin_cases a <;> rfl)
        · exact rd arg5 harg5 x2 _ _ _ _ (k0_off9_eq i) _ _ (fun a => by fin_cases a <;> simp [ix2, h128] <;> omega)
        · exact rd arg5 harg5 x2 _ _ _ _ (off10 i hc) _ _ (fun a => by fin_cases a <;> simp [ix2, h128])
      | 3 =>
        refine (congrFun (payFA3 _ _ _ _ _ _ _) (ix3 0 d t)).trans ?_
        refine two_acc x0 x1 x2 h0 h1 3 t _ hn1 _ _ (fun s d => ?_) (fun d => ?_) _ (by omega) (by omega) _ hm _ ?_ _ d ?_ _ _ (fun s => ?_) (fun s => ?_)
        · exact rd arg4 harg4 x1 _ _ _ _ (off4 i hc) _ _ (fun a => by fin_cases a <;> simp [ix2, h128])
        · exact rd arg3 harg3 x0 _ _ _ _ rfl _ _ (fun a => by fin_cases a <;> simp [ix2, h128])
        · repeat refine (congrFun (View.readCov_skip _ _ _ _ _ (by decide)) _).trans ?_
          exact zR _ _ _ _ _ (fun a => by fin_cases a <;> rfl)
        · repeat refine (congrFun (View.readCov_skip _ _ _ _ _ (by decide)) _).trans ?_
          exact zA _ _ _ _ _ (fun a => by fin_cases a <;> rfl)
        · exact rd arg5 harg5 x2 _ _ _ _ (k0_off11_eq i) _ _ (fun a => by fin_cases a <;> simp [ix2, h128] <;> omega)
        · exact rd arg5 harg5 x2 _ _ _ _ (off12 i hc) _ _ (fun a => by fin_cases a <;> simp [ix2, h128])
  clear hW
  match h with
  | 0 => exact (out_apply _ _ _).trans ((rd arg8 harg8 W _ _ _ _ rfl _ (ix3 0 d t) (fun a => by fin_cases a <;> simp [ix3])).trans (key 0 d))
  | 1 => exact (congrFun (out1 _) _).trans ((out_apply _ _ _).trans ((rd arg8 harg8 W _ _ _ _ rfl _ (ix3 1 d t) (fun a => by fin_cases a <;> simp [ix3])).trans (key 1 d)))
  | 2 => exact (congrFun (out2 _) _).trans ((out_apply _ _ _).trans ((rd arg8 harg8 W _ _ _ _ rfl _ (ix3 2 d t) (fun a => by fin_cases a <;> simp [ix3])).trans (key 2 d)))
  | 3 => exact (congrFun (out3 _) _).trans ((out_apply _ _ _).trans ((rd arg8 harg8 W _ _ _ _ rfl _ (ix3 3 d t) (fun a => by fin_cases a <;> simp [ix3])).trans (key 3 d)))

/-- The write-out of any point: every query's attention over all the keys before it. -/
theorem out_val (v : View sig .tc .vmem S256x512 .bf16) (f) (t : Fin 256) (h : Fin 4) (d : Fin 128) :
    v.read (Elt Ideal) (v.writes (Elt Ideal) f (outL c i arg3 harg3 arg4 harg4 arg5 harg5 arg6 harg6 arg7 harg7 arg8 harg8 x0 x1 x2)) (ix2 t (h128 h d))
      = ACC (vK x2 h d) (zK x0 x1 h t) (256 * (i 2).val + t) 0 := by
  have hn : (i 2).val < 32 := (i 2).isLt
  unfold outL
  by_cases hc : k0_cond1 i = 1#1
  · rw [dif_pos hc]
    unfold farL
    refine far_val c i arg3 harg3 arg4 harg4 arg5 harg5 arg6 harg6 arg7 harg7 arg8 harg8 x0 x1 x2 h0 h1 hc _ v f t
      (fun h d => ACC (vK x2 h d) (zK x0 x1 h t) (256 * (i 2).val + t) 0) (fun y0 y1 hy ha h d => ?_) h d
    unfold loopZ
    exact loopA_val c i arg4 harg4 arg3 harg3 arg7 harg7 arg8 harg8 arg5 harg5 x0 x1 x2 h0 h1 t _ _ (by omega) (by omega) y0 y1 hy ha h d
  · have hz := cond_zero i hc
    rw [dif_neg hc]
    unfold diagL
    refine diag_val c i arg3 harg3 arg4 harg4 arg5 harg5 arg6 harg6 arg7 harg7 arg8 harg8 x0 x1 x2 h0 h1 hc _ v f t
      (fun h d => ACC (vK x2 h d) (zK x0 x1 h t) (256 * (i 2).val + t) 0) (fun y0 y1 ha h d => ?_) h d
    unfold loopZ
    rw [hz] at ha ⊢
    rw [loopA]
    exact ha h d

end

end Cert.KernelIdeal.Sb

end
-- ==== Proof.Sb.RefVal.lean ====
/-
  The reference at an index: the attention's definition over the rows' scores.
-/
module

public import proofs.«01_k».proof.Proof.Gen.ReferenceIdeal.Run
public import proofs.«01_k».proof.Proof.Sb.Math
public import Idealize.ShloMosaic.Lib.Pointwise
public import Idealize.ShloMosaic.Lib.WordCmp

@[expose] public section

set_option maxRecDepth 16384

noncomputable section

namespace Cert.ReferenceIdeal.Sb

open Cert.ReferenceIdeal Cert.ReferenceIdeal.Gen Cert.ReferenceIdeal.Value
open Idealize.ShloMosaic Idealize.ShloMosaic.TcCoe Idealize.ShloMosaic.Tactic
open Cert.KernelIdeal.Sb (spf sum_coe max_coe spE_coe G RUN Wt ACC)

abbrev B4 := FVec Ideal S2x8x8192x8192 .f32

/-- The zeros the definition compares with. -/
def zero4 : B4 := broadcastInDim S2x8x8192x8192 ![] bcast_S_S2x8x8192x8192 (constant S_ .f32 0x00000000#32)
/-- The softplus, as the host writes it. -/
def spH (y : B4) : B4 :=
  select (cmpf .une (subf y zero4) (subf y zero4)) (addf y zero4) (addf (maximumf y zero4) (Host.log1p (Host.exp (Host.negf (Host.absf (subf y zero4))))))
/-- The logarithm of the logistic function. -/
def lsg (x : B4) : B4 := Host.negf (spH (Host.negf x))
/-- The causal mask. -/
def msk : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- An array under the mask, zero outside it. -/
def mk (x : B4) : B4 := select (broadcastInDim S2x8x8192x8192 ![2, 3] bcast_S8192x8192_S2x8x8192x8192_2_3 msk) x zero4
/-- The scores. -/
def sc (q k : FVec Ideal S2x8192x8x128 .f32) : B4 :=
  mulf (Host.dotGeneral dot_S2x8192x8x128_S2x8192x8x128_S2x8x8192x8192_3_3_1_1_02_02 none q k) (broadcastInDim S2x8x8192x8192 ![] bcast_S_S2x8x8192x8192 (constant S_ .f32 0x3DB504F3#32))
/-- The sums over a key and the later ones. -/
def suf (x : B4) : B4 :=
  Host.reduceWindowAdd ![1, 1, 1, 8192] ![1, 1, 1, 1] ![0, 0, 0, 0] ![0, 0, 0, 8191] x (broadcastInDim S_ ![] bcast_S_S_ (constant S_ .f32 0x00000000#32))
    reduceWindows_S2x8x8192x8192_S2x8x8192x8192_w1s1p0_0_w1s1p0_0_w1s1p0_0_w8192s1p0_8191 h_S_
/-- The weights. -/
def wts (q k : FVec Ideal S2x8192x8x128 .f32) : B4 :=
  mk (Host.exp (addf (lsg (sc q k)) (subf (suf (mk (lsg (Host.negf (sc q k))))) (mk (lsg (Host.negf (sc q k)))))))
/-- The result. -/
def out (q k v : FVec Ideal S2x8192x8x128 .f32) : FVec Ideal S16384x1024 .bf16 :=
  truncf .bf16 (shapeCast _ (transpose S2x8192x8x128 [0, 3, 1, 2] (Host.dotGeneral dot_S2x8192x8x128_S2x8x8192x8192_S2x8x128x8192_1_3_3_2_02_01 none v (wts q k)) transposes_S2x8x128x8192_S2x8192x8x128_0_3_1_2) shapeCasts_S2x8192x8x128_S16384x1024) bitsLt_bf16_f32

theorem res_eq (m : (ℓ : Loc nD τ sig) → Buf (Elt Ideal) ℓ) (c : Dev nD) :
    res_main_v21 m c = out (m ((c.tc : Thread nD τ).loc main_arg0)) (m ((c.tc : Thread nD τ).loc main_arg1)) (m ((c.tc : Thread nD τ).loc main_arg2)) := rfl

/-- The definition's pieces at an index. -/
theorem spH_apply (y : B4) (b : Fin 2) (h : Fin 8) (i j : Fin 8192) (r : ℝ) (hy : y (ix4 b h i j) = (r : EReal)) : spH y (ix4 b h i j) = ((spf r : ℝ) : EReal) := by
  unfold spH zero4
  pointwise
  rw [hy, if_neg (fun h => h rfl)]
  have e := spE_coe r
  rw [zero_sub] at e
  exact e

theorem lsg_apply (x : B4) (b : Fin 2) (h : Fin 8) (i j : Fin 8192) (r : ℝ) (hx : x (ix4 b h i j) = (r : EReal)) : lsg x (ix4 b h i j) = ((-spf (-r) : ℝ) : EReal) := by
  have e := spH_apply (Host.negf x) b h i j (-r) (by pointwise; rw [hx, EReal.coe_neg])
  unfold lsg
  pointwise
  rw [e, EReal.coe_neg]

theorem mk_apply (x : B4) (b : Fin 2) (h : Fin 8) (i j : Fin 8192) : mk x (ix4 b h i j) = if j.val < i.val then x (ix4 b h i j) else (0 : EReal) := by
  unfold mk zero4 msk
  pointwise
  rw [WordCmp.cmpi_slt_ofNat (w := 32) (by omega) (by omega)]
  by_cases e : j.val < i.val
  · rw [if_pos e, decide_eq_true e]; rfl
  · rw [if_neg e, decide_eq_false e]; rfl

theorem sc_apply (q k : FVec Ideal S2x8192x8x128 .f32) (b : Fin 2) (h : Fin 8) (i j : Fin 8192) :
    sc q k (ix4 b h i j) = (∑ d : Fin 128, (q (ix4 b i h d) : EReal) * k (ix4 b j h d)) * FloatOps.ofBits (F := Ideal) FTy.f32 0x3DB504F3#32 := by
  unfold sc
  pointwise

theorem out_apply (q k v : FVec Ideal S2x8192x8x128 .f32) (b : Fin 2) (h : Fin 8) (i : Fin 8192) (d : Fin 128) :
    out q k v (ix2 ⟨8192 * b + i, by omega⟩ ⟨128 * h + d, by omega⟩) = ∑ j : Fin 8192, (v (ix4 b j h d) : EReal) * wts q k (ix4 b h i j) := by
  unfold out
  pointwise

theorem foldl_plus {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- An entry of an array at natural coordinates, zero outside the array. -/
def entry {s : Shape} (x : s.Idx → EReal) (p : Fin s.rank → ℕ) : EReal :=
  @dite _ (∀ a, p a < s.size a) (Classical.dec _) (fun hin => x fun a => ⟨p a, hin a⟩) fun _ => 0

/-- The host's window sums at an index, as a sum over the window's own indices: unit strides, no low padding. -/
theorem windows_apply {s t : Shape} (window strides lo hi : Fin s.rank → ℕ) (x : FVec Ideal s .f32) (init : FVec Ideal S_ .f32) (hr : s.ReduceWindows window strides lo hi t) (hu : 0 < S_.numel) (o : t.Idx)
    (h0 : init (Shape.Idx.first hu) = (0 : EReal)) (hlo : ∀ a, lo a = 0) :
    Host.reduceWindowAdd window strides lo hi x init hr hu o
      = ∑ w : (⟨s.rank, window⟩ : Shape).Idx, entry (s := s) x (fun a => (o (a.cast hr.1.symm)).val * strides a + (w a).val) := by
  rw [← Equiv.sum_comp (⟨s.rank, window⟩ : Shape).rowMajor.symm, Fin.sum_univ_def, ← zero_add (List.sum _), ← foldl_plus]
  show Host.reduceWindow _ window strides lo hi x (fun _ : (⟨0, ![]⟩ : Shape).Idx => init (Shape.Idx.first hu)) hr (by decide) o = _
  unfold Host.reduceWindow
  dsimp only
  rw [h0]
  congr 1
  funext r n
  refine congrArg (r + ·) ?_
  unfold entry
  by_cases hin : ∀ a, (o (a.cast hr.1.symm)).val * strides a + ((⟨s.rank, window⟩ : Shape).rowMajor.symm n a).val < s.size a
  · rw [dif_pos hin, dif_pos (fun a => ⟨by rw [hlo]; exact Nat.zero_le _, by rw [hlo, Nat.sub_zero]; exact hin a⟩)]
    refine congrArg x (funext fun a => Fin.ext ?_)
    show _ - lo a = _
    rw [hlo, Nat.sub_zero]
  · rw [dif_neg hin, dif_neg (fun h => hin fun a => by have := (h a).2; rwa [hlo, Nat.sub_zero] at this)]

theorem suf_apply (x : B4) (X : ℕ → ℝ) (b : Fin 2) (h : Fin 8) (i j : Fin 8192) (hx : ∀ s : Fin 8192, x (ix4 b h i s) = ((X s : ℝ) : EReal)) :
    suf x (ix4 b h i j) = ((∑ s ∈ Finset.Ico j.val 8192, X s : ℝ) : EReal) := by
  let W : Shape := ⟨4, ![1, 1, 1, 8192]⟩
  let e : Fin 8192 ≃ W.Idx :=
    { toFun := fun n => ix4 0 0 0 n
      invFun := fun w => w 3
      left_inv := fun n => rfl
      right_inv := fun w => by
        funext a
        match a with
        | ⟨0, _⟩ => exact Subsingleton.elim (α := Fin 1) _ _
        | ⟨1, _⟩ => exact Subsingleton.elim (α := Fin 1) _ _
        | ⟨2, _⟩ => exact Subsingleton.elim (α := Fin 1) _ _
        | ⟨3, _⟩ => rfl }
  let P : W.Idx → Fin 4 → ℕ := fun w a => (ix4 b h i j a).val * (![1, 1, 1, 1] : Fin 4 → ℕ) a + (w a).val
  have hg (n : Fin 8192) : entry (s := S2x8x8192x8192) x (P (e n)) = if j.val + n.val < 8192 then ((X (j.val + n.val) : ℝ) : EReal) else 0 := by
    unfold entry
    by_cases hn : j.val + n.val < 8192
    · rw [if_pos hn, dif_pos (fun a => ?_), ← hx ⟨j.val + n.val, hn⟩]
      · refine congrArg x (funext fun a => Fin.ext ?_)
        match a with
        | ⟨0, _⟩ => show b.val * 1 + 0 = b.val; omega
        | ⟨1, _⟩ => show h.val * 1 + 0 = h.val; omega
        | ⟨2, _⟩ => show i.val * 1 + 0 = i.val; omega
        | ⟨3, _⟩ => show j.val * 1 + n.val = j.val + n.val; omega
      · match a with
        | ⟨0, _⟩ => show b.val * 1 + 0 < 2; omega
        | ⟨1, _⟩ => show h.val * 1 + 0 < 8; omega
        | ⟨2, _⟩ => show i.val * 1 + 0 < 8192; omega
        | ⟨3, _⟩ => show j.val * 1 + n.val < 8192; omega
    · rw [if_neg hn, dif_neg (fun hin => hn ?_)]
      have h3 := hin 3
      change j.val * 1 + n.val < 8192 at h3
      omega
  have hs : suf x (ix4 b h i j) = ∑ w : W.Idx, entry (s := S2x8x8192x8192) x (P w) := by
    unfold suf
    refine windows_apply (s := S2x8x8192x8192) (t := S2x8x8192x8192) ![1, 1, 1, 8192] ![1, 1, 1, 1] ![0, 0, 0, 0] ![0, 0, 0, 8191] x _ _ _ (ix4 b h i j) ?_ ?_
    · exact Ideal.ofBits_zero .f32
    · intro a
      match a with
      | ⟨0, _⟩ => rfl
      | ⟨1, _⟩ => rfl
      | ⟨2, _⟩ => rfl
      | ⟨3, _⟩ => rfl
  rw [hs, ← Equiv.sum_comp e fun w => entry (s := S2x8x8192x8192) x (P w)]
  simp only [hg]
  have hc (n : Fin 8192) : (if j.val + n.val < 8192 then ((X (j.val + n.val) : ℝ) : EReal) else 0) = ((if j.val + n.val < 8192 then X (j.val + n.val) else 0 : ℝ) : EReal) := by
    by_cases hn : j.val + n.val < 8192
    · rw [if_pos hn, if_pos hn]
    · rw [if_neg hn, if_neg hn, EReal.coe_zero]
  simp only [hc]
  rw [sum_coe, EReal.coe_eq_coe_iff, Finset.sum_Ico_eq_sum_range, ← Finset.sum_range (fun n => if j.val + n < 8192 then X (j.val + n) else 0),
    ← Finset.sum_filter]
  refine Finset.sum_congr (Finset.ext fun n => ?_) fun _ _ => rfl
  rw [Finset.mem_filter, Finset.mem_range, Finset.mem_range]
  omega

theorem spf_neg (r : ℝ) : r - spf r = -spf (-r) := by
  unfold spf
  rw [abs_neg]
  rcases le_total r 0 with e | e
  · rw [max_eq_right e, max_eq_left (by linarith)]; ring
  · rw [max_eq_left e, max_eq_right (by linarith)]; ring

/-- The weights at an index, over the row's real scores. -/
theorem wts_apply (q k : FVec Ideal S2x8192x8x128 .f32) (b : Fin 2) (h : Fin 8) (i : Fin 8192) (Z : ℕ → ℝ) (hZ : ∀ j : Fin 8192, sc q k (ix4 b h i j) = ((Z j : ℝ) : EReal)) (j : Fin 8192) :
    wts q k (ix4 b h i j) = ((Wt Z i.val j.val : ℝ) : EReal) := by
  have hn (j : Fin 8192) : Host.negf (sc q k) (ix4 b h i j) = ((-Z j : ℝ) : EReal) := by
    pointwise
    rw [hZ, EReal.coe_neg]
  have hl (j : Fin 8192) : mk (lsg (Host.negf (sc q k))) (ix4 b h i j) = ((-G Z i.val j.val : ℝ) : EReal) := by
    rw [mk_apply, lsg_apply _ b h i j _ (hn j), neg_neg, G]
    by_cases e : j.val < i.val
    · rw [if_pos e, if_pos e]
    · rw [if_neg e, if_neg e, neg_zero, EReal.coe_zero]
  have hsuf := suf_apply (mk (lsg (Host.negf (sc q k)))) (fun s => -G Z i.val s) b h i j hl
  have hb := lsg_apply (sc q k) b h i j _ (hZ j)
  have hlj := hl j
  unfold wts
  rw [mk_apply, Wt]
  by_cases e : j.val < i.val
  · rw [if_pos e, if_pos e]
    pointwise
    rw [hb, hsuf, hlj, ← EReal.coe_sub, ← EReal.coe_add, Ideal.exp_coe, EReal.coe_eq_coe_iff]
    refine congrArg Real.exp ?_
    rw [spf_neg, RUN, Finset.sum_eq_sum_Ico_succ_bot j.isLt, Finset.sum_neg_distrib]
    ring
  · rw [if_neg e, if_neg e, EReal.coe_zero]

/-- The result at an index. -/
theorem out_val (q k v : FVec Ideal S2x8192x8x128 .f32) (b : Fin 2) (h : Fin 8) (i : Fin 8192) (d : Fin 128) (Z : ℕ → ℝ) (hZ : ∀ j : Fin 8192, sc q k (ix4 b h i j) = ((Z j : ℝ) : EReal))
    (vv : ℕ → EReal) (hv : ∀ j : Fin 8192, v (ix4 b j h d) = vv j) :
    out q k v (ix2 ⟨8192 * b + i, by omega⟩ ⟨128 * h + d, by omega⟩) = ACC vv Z i.val 0 := by
  rw [out_apply, ACC, ← Finset.range_eq_Ico, Finset.sum_range]
  exact Finset.sum_congr rfl fun j _ => by rw [wts_apply q k b h i Z hZ, hv]

end Cert.ReferenceIdeal.Sb

end
-- ==== Proof.Sb.KerVal.lean ====
/-
  The kernel's result array: the windows' blocks at an index of the arguments, and the array after the run.
-/
module

public import proofs.«01_k».proof.Proof.Sb.FarVal
public import proofs.«01_k».proof.Proof.Sb.RefVal
public import Idealize.ShloMosaic.Lib.Pipeline.ValueKit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

/-- The scale is a real number. -/
theorem scale_real : ∃ r : ℝ, FloatOps.ofBits (F := Ideal) FTy.f32 0x3DB504F3#32 = ((r : ℝ) : EReal) :=
  ⟨_, by simp [Ideal.ofBits, Ideal.ieee]; norm_cast⟩

/-- The blocks' places in their arrays. -/
theorem e0 : ∀ t : Fin (cfg0 (F := Ideal)).N, win0_0.index t = ![(grid0.coords t 1).val, (grid0.coords t 0).val * 32 + (grid0.coords t 2).val] :=
  (by decide +kernel : ∀ t : Fin grid0.N, win0_0.index t = ![(grid0.coords t 1).val, (grid0.coords t 0).val * 32 + (grid0.coords t 2).val])
theorem e1 : ∀ t : Fin (cfg0 (F := Ideal)).N, win0_1.index t = ![(grid0.coords t 0).val, (grid0.coords t 1).val] :=
  (by decide +kernel : ∀ t : Fin grid0.N, win0_1.index t = ![(grid0.coords t 0).val, (grid0.coords t 1).val])
theorem e2 : ∀ t : Fin (cfg0 (F := Ideal)).N, win0_2.index t = ![2 + (grid0.coords t 1).val, (grid0.coords t 0).val] :=
  (by decide +kernel : ∀ t : Fin grid0.N, win0_2.index t = ![2 + (grid0.coords t 1).val, (grid0.coords t 0).val])
theorem e3 : ∀ t : Fin (cfg0 (F := Ideal)).N, win0_3.index t = ![(grid0.coords t 0).val * 32 + (grid0.coords t 2).val, (grid0.coords t 1).val] :=
  (by decide +kernel : ∀ t : Fin grid0.N, win0_3.index t = ![(grid0.coords t 0).val * 32 + (grid0.coords t 2).val, (grid0.coords t 1).val])

/-- The arguments. -/
abbrev Qa (c : Dev nD) : FVec Ideal S2x8192x8x128 .f32 := m ((c.tc : Thread nD τ).loc main_arg0)
abbrev Ka (c : Dev nD) : FVec Ideal S2x8192x8x128 .f32 := m ((c.tc : Thread nD τ).loc main_arg1)
abbrev Va (c : Dev nD) : FVec Ideal S2x8192x8x128 .f32 := m ((c.tc : Thread nD τ).loc main_arg2)

theorem ix4_split {n0 n1 n2 n3 : ℕ} (b b' : Fin n0) (s s' : Fin n1) (h h' : Fin n2) (d d' : Fin n3) (hb : b'.val = b.val) (hs : s'.val = s.val) (hh : h'.val = h.val) (hd : d'.val = d.val) :
    ix4 b' s' h' d' = ix4 b s h d := by
  rw [Fin.ext hb, Fin.ext hs, Fin.ext hh, Fin.ext hd]

/-- The keys' array at an index, -/
theorem V1_apply (c : Dev nD) (b : Fin 2) (s : Fin 8192) (h : Fin 8) (d : Fin 128) :
    V m c main_v1 (ix2 ⟨8192 * b + s, by omega⟩ ⟨128 * h + d, by omega⟩) = Ka m c (ix4 b s h d) := by
  entry_read
  pointwise
  exact congrArg (Ka m c) (ix4_split _ _ _ _ _ _ _ _ (by dsimp only <;> omega) (by dsimp only <;> omega) (by dsimp only <;> omega) (by dsimp only <;> omega))
/-- the queries' rows of the transposed array, -/
theorem V9_q (c : Dev nD) (b : Fin 2) (s : Fin 8192) (h : Fin 8) (d : Fin 128) :
    V m c main_v9 (ix2 ⟨128 * h + d, by omega⟩ ⟨8192 * b + s, by omega⟩) = (Qa m c (ix4 b s h d) : EReal) * FloatOps.ofBits (F := Ideal) FTy.f32 0x3DB504F3#32 := by
  entry_read
  pointwise
  rw [dif_pos (by omega)]
  exact congrArg (fun x => (Qa m c x : EReal) * FloatOps.ofBits (F := Ideal) FTy.f32 0x3DB504F3#32) (ix4_split _ _ _ _ _ _ _ _ (by dsimp only <;> omega) (by dsimp only <;> omega) (by dsimp only <;> omega) (by dsimp only <;> omega))
/-- and the values'. -/
theorem V9_v (c : Dev nD) (b : Fin 2) (s : Fin 8192) (h : Fin 8) (d : Fin 128) :
    V m c main_v9 (ix2 ⟨1024 + (128 * h + d), by omega⟩ ⟨8192 * b + s, by omega⟩) = Va m c (ix4 b s h d) := by
  entry_read
  pointwise
  exact congrArg (Va m c) (ix4_split _ _ _ _ _ _ _ _ (by dsimp only <;> omega) (by dsimp only <;> omega) (by dsimp only <;> omega) (by dsimp only <;> omega))

/-- A point's coordinates: the batch, the four heads, the block of queries. -/
def cb (t : Fin (cfg0 (F := Ideal)).N) : Fin 2 := grid0.coords t 0
def cg (t : Fin (cfg0 (F := Ideal)).N) : Fin 2 := grid0.coords t 1
def ci (t : Fin (cfg0 (F := Ideal)).N) : Fin 32 := grid0.coords t 2
theorem e0' (t : Fin (cfg0 (F := Ideal)).N) : win0_0.index t = ![(cg t).val, (cb t).val * 32 + (ci t).val] := e0 t
theorem e1' (t : Fin (cfg0 (F := Ideal)).N) : win0_1.index t = ![(cb t).val, (cg t).val] := e1 t
theorem e2' (t : Fin (cfg0 (F := Ideal)).N) : win0_2.index t = ![2 + (cg t).val, (cb t).val] := e2 t
theorem e3' (t : Fin (cfg0 (F := Ideal)).N) : win0_3.index t = ![(cb t).val * 32 + (ci t).val, (cg t).val] := e3 t

/-- A head of a point, among all of them. -/
def hd (t : Fin (cfg0 (F := Ideal)).N) (h : Fin 4) : Fin 8 := ⟨4 * (cg t).val + h, by omega⟩
/-- A query of a point, among the batch's. -/
def qr (t : Fin (cfg0 (F := Ideal)).N) (j : Fin 256) : Fin 8192 := ⟨256 * (ci t).val + j, by omega⟩

theorem blk0 (c : Dev nD) (t : Fin (cfg0 (F := Ideal)).N) (h : Fin 4) (d : Fin 128) (j : Fin 256) :
    iblk m c 0 t (ix2 (h128 h d) j) = (Qa m c (ix4 (cb t) (qr t j) (hd t h) d) : EReal) * FloatOps.ofBits (F := Ideal) FTy.f32 0x3DB504F3#32 := by
  rw [← V9_q]
  blk_simp [iblk]
  refine congrArg (V m c main_v9) ?_
  blk_ext [e0' t, h128, hd, qr]
theorem blk1 (c : Dev nD) (t : Fin (cfg0 (F := Ideal)).N) (h : Fin 4) (d : Fin 128) (s : Fin 8192) :
    iblk m c 1 t (ix2 s (h128 h d)) = Ka m c (ix4 (cb t) s (hd t h) d) := by
  rw [← V1_apply]
  blk_simp [iblk]
  refine congrArg (V m c main_v1) ?_
  blk_ext [e1' t, h128, hd, qr]
theorem blk2 (c : Dev nD) (t : Fin (cfg0 (F := Ideal)).N) (h : Fin 4) (d : Fin 128) (s : Fin 8192) :
    iblk m c 2 t (ix2 (h128 h d) s) = Va m c (ix4 (cb t) s (hd t h) d) := by
  rw [← V9_v]
  blk_simp [iblk]
  refine congrArg (V m c main_v9) ?_
  blk_ext [e2' t, h128, hd, qr]

/-- Every index of the output's block is a query's and a head's coordinate, -/
theorem ix_out (y : S256x512.Idx) : ∃ (j : Fin 256) (h : Fin 4) (d : Fin 128), y = ix2 j (h128 h d) :=
  have h1 : (y 1).val < 512 := (y 1).isLt
  ⟨y 0, ⟨(y 1).val / 128, by omega⟩, ⟨(y 1).val % 128, by omega⟩, by
    funext a
    match a with
    | ⟨0, _⟩ => rfl
    | ⟨1, _⟩ => exact Fin.ext (by show (y 1).val = 128 * ((y 1).val / 128) + (y 1).val % 128; omega)⟩
/-- every one of the queries' block a coordinate's and a query's, -/
theorem ix_q (y : S512x256.Idx) : ∃ (h : Fin 4) (d : Fin 128) (j : Fin 256), y = ix2 (h128 h d) j :=
  have h1 : (y 0).val < 512 := (y 0).isLt
  ⟨⟨(y 0).val / 128, by omega⟩, ⟨(y 0).val % 128, by omega⟩, y 1, by
    funext a
    match a with
    | ⟨0, _⟩ => exact Fin.ext (by show (y 0).val = 128 * ((y 0).val / 128) + (y 0).val % 128; omega)
    | ⟨1, _⟩ => rfl⟩
/-- and of the keys' a key's and a coordinate's. -/
theorem ix_k (y : S8192x512.Idx) : ∃ (s : Fin 8192) (h : Fin 4) (d : Fin 128), y = ix2 s (h128 h d) :=
  have h1 : (y 1).val < 512 := (y 1).isLt
  ⟨y 0, ⟨(y 1).val / 128, by omega⟩, ⟨(y 1).val % 128, by omega⟩, by
    funext a
    match a with
    | ⟨0, _⟩ => rfl
    | ⟨1, _⟩ => exact Fin.ext (by show (y 1).val = 128 * ((y 1).val / 128) + (y 1).val % 128; omega)⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩
theorem toReal_of {x : EReal} (hx : ∃ r : ℝ, x = r) : x = (x.toReal : EReal) := by
  obtain ⟨a, rfl⟩ := hx
  rw [EReal.toReal_coe]

section
variable (c : Dev nD) (hq : ∀ i, ∃ r : ℝ, (Qa m c i : EReal) = r) (hk : ∀ i, ∃ r : ℝ, (Ka m c i : EReal) = r) (t : Fin (cfg0 (F := Ideal)).N)

include hq in
theorem fi0 : Fi (iblk m c 0 t) := fun y => by
  obtain ⟨h, d, j, rfl⟩ := ix_q y
  exact toReal_of (by rw [blk0]; exact real_mul (hq _) scale_real)
include hk in
theorem fi1 : Fi (iblk m c 1 t) := fun y => by
  obtain ⟨s, h, d, rfl⟩ := ix_k y
  exact toReal_of (by rw [blk1]; exact hk _)

include hq hk in
/-- The definition's scores are the kernel's. -/
theorem score_ref (j : Fin 256) (h : Fin 4) (s : Fin 8192) :
    Cert.ReferenceIdeal.Sb.sc (Qa m c) (Ka m c) (ix4 (cb t) (hd t h) (qr t j) s) = ((zK (iblk m c 0 t) (iblk m c 1 t) h j s.val : ℝ) : EReal) := by
  obtain ⟨cr, hcr⟩ := scale_real
  rw [Cert.ReferenceIdeal.Sb.sc_apply, zK, dif_pos s.isLt, hcr]
  rw [Finset.sum_congr rfl fun d _ => show (Qa m c (ix4 (cb t) (qr t j) (hd t h) d) : EReal) * Ka m c (ix4 (cb t) s (hd t h) d)
    = (((Qa m c (ix4 (cb t) (qr t j) (hd t h) d) : EReal).toReal * (Ka m c (ix4 (cb t) s (hd t h) d) : EReal).toReal : ℝ) : EReal) by
      rw [EReal.coe_mul, ← toReal_of (hq _), ← toReal_of (hk _)]]
  rw [sum_coe, ← EReal.coe_mul, EReal.coe_eq_coe_iff, Finset.sum_mul]
  refine Finset.sum_congr rfl fun d _ => ?_
  rw [blk0, blk1, hcr, EReal.toReal_mul, EReal.toReal_coe]
  ring

include hq hk in
/-- The kernel's result array is the definition's. -/
theorem final : (dats m 0 c).arrAt 3 (cfg0 (F := Ideal)).N = Cert.ReferenceIdeal.Sb.out (Qa m c) (Ka m c) (Va m c) := by
  refine (dats m 0 c).arrAt_eq_of_covers 3 _ (by decide +kernel) fun t hf y => ?_
  blk_simp
  rw [after0_3]
  obtain ⟨j, h, d, rfl⟩ := ix_out y
  unfold outsAt0
  refine (out_val c (grid0.coords t) _ _ _ _ _ _ _ _ _ _ _ _ _ _ _ (fi0 m c hq t) (fi1 m c hk t) VO0_3 _ j h d).trans ?_
  refine (Cert.ReferenceIdeal.Sb.out_val (Qa m c) (Ka m c) (Va m c) (cb t) (hd t h) (qr t j) d (zK (iblk m c 0 t) (iblk m c 1 t) h j) (fun s => score_ref m c hq hk t j h s)
    (vK (iblk m c 2 t) h d) (fun s => ?_)).symm.trans ?_
  · rw [vK, dif_pos s.isLt, blk2]
  · refine congrArg (Cert.ReferenceIdeal.Sb.out (Qa m c) (Ka m c) (Va m c)) ?_
    blk_ext [e3' t, h128, hd, qr]

end

end Cert.KernelIdeal.Sb

end
-- ==== Proof.Sb.Claim.lean ====
/-
  The stick-breaking attention's value claim: the precondition read at an index, and the two runs.
-/
module

public import proofs.«01_k».proof.Defs
public import proofs.«01_k».proof.Proof.Sb.KerVal
public import proofs.«01_k».proof.Proof.Gen.ReferenceIdeal.Run
public import Idealize.ShloMosaic.Lib.ReduceAll
public import Idealize.ShloMosaic.Lib.Pointwise

@[expose] public section

set_option maxRecDepth 16384

noncomputable section

namespace Cert.Proof.Sb

open Idealize.ShloMosaic Idealize.SL.Sem Idealize.ShloMosaic.Tactic

instance preFacts : Cert.Pre_finite.Facts where
  bcast_S_S2x8192x8x128 := by decide
  reducesTo_S2x8192x8x128_S_d0_1_2_3 := by decide
  h_S_ := by decide

/-- An entry whose absolute value is below the infinity is a real number. -/
theorem real_of_lt (x : EReal) (h : FloatOps.cmpf (F := Ideal) (φ := .f32) .olt (FloatOps.hostAbsf (F := Ideal) (φ := .f32) x) (FloatOps.ofBits (F := Ideal) FTy.f32 0x7F800000#32) = 1#1) : ∃ r : ℝ, x = r := by
  have ht : FloatOps.ofBits (F := Ideal) FTy.f32 0x7F800000#32 = (⊤ : EReal) := by simp [Ideal.ofBits, Ideal.ieee]
  rw [ht] at h
  induction x using EReal.rec with
  | bot => exact absurd h (by show ¬ BitVec.ofBool (decide ((max (⊥ : EReal) (-⊥)) < ⊤)) = 1#1; simp)
  | coe r => exact ⟨r, rfl⟩
  | top => exact absurd h (by show ¬ BitVec.ofBool (decide ((max (⊤ : EReal) (-⊤)) < ⊤)) = 1#1; simp)

/-- The precondition: the queries and the keys are real numbers. -/
theorem pre_real (q k v : FVec Ideal Cert.Pre_finite.S2x8192x8x128 .f32) (h : Cert.Pre_finite.fn q k v = fun _ => 1#1) :
    (∀ i, ∃ r : ℝ, (q i : EReal) = r) ∧ ∀ i, ∃ r : ℝ, (k i : EReal) = r := by
  have e := congrFun h (Shape.Idx.first preFacts.h_S_)
  dsimp only [Cert.Pre_finite.fn] at e
  obtain ⟨e1, e2⟩ := IntOp.andi_eq_one.mp e
  haveI : Subsingleton Cert.Pre_finite.S_.Idx := ⟨fun a b => funext fun x => x.elim0⟩
  exact ⟨fun i => real_of_lt _ (Host.reduce_andi_all _ _ _ _ _ e1 i), fun i => real_of_lt _ (Host.reduce_andi_all _ _ _ _ _ e2 i)⟩

theorem algebraic : Cert.algebraic_KernelIdeal_ReferenceIdeal_pre_finite := by
  intro m g m' g' hpre hagree
  have hr (c) := pre_real _ _ _ (hpre c)
  refine ⟨fun c => Cert.ReferenceIdeal.Sb.out (Cert.KernelIdeal.Sb.Qa m c) (Cert.KernelIdeal.Sb.Ka m c) (Cert.KernelIdeal.Sb.Va m c), ?_, ?_⟩
  · refine (θ_run Cert.KernelIdeal.defs _ _).mono (fun r h c => ⟨((h c).1 3).trans (Cert.KernelIdeal.Sb.final m c (hr c).1 (hr c).2), ?_, ?_, ?_⟩) (Cert.KernelIdeal.Sb.run_main m g)
    · exact ((h c).2 Cert.KernelIdeal.main_arg0 (Pipeline.mem_restRefs_of (win := Cert.KernelIdeal.spec0) Cert.KernelIdeal.main_arg0 (by decide) (by decide))).trans (Cert.KernelIdeal.Sb.V_main_arg0 m c)
    · exact ((h c).2 Cert.KernelIdeal.main_arg1 (Pipeline.mem_restRefs_of (win := Cert.KernelIdeal.spec0) Cert.KernelIdeal.main_arg1 (by decide) (by decide))).trans (Cert.KernelIdeal.Sb.V_main_arg1 m c)
    · exact ((h c).2 Cert.KernelIdeal.main_arg2 (Pipeline.mem_restRefs_of (win := Cert.KernelIdeal.spec0) Cert.KernelIdeal.main_arg2 (by decide) (by decide))).trans (Cert.KernelIdeal.Sb.V_main_arg2 m c)
  · refine (θ_run Cert.ReferenceIdeal.defs _ _).mono (fun _ h c => ⟨(h c).1.trans ?_, (h c).2⟩) (Cert.ReferenceIdeal.Value.run (F := Ideal) m' g')
    rw [Cert.ReferenceIdeal.Sb.res_eq, (hagree c).1, (hagree c).2.1, (hagree c).2.2]

end Cert.Proof.Sb

end
-- ==== Proof.FfnOut.Val.lean ====
/-
  The last projection of the gated feed-forward: the kernel's payloads, its blocks and the reference at an index.
-/
module

public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pointwise
public import Idealize.ShloMosaic.Lib.Pipeline.ValueKit

@[expose] public section

set_option maxRecDepth 16384

noncomputable section

namespace Cert.FfnOutIdeal.Val

open Cert.FfnOutIdeal Cert.FfnOutIdeal.Gen Cert.FfnOutIdeal.Value
open Idealize.ShloMosaic Idealize.ShloMosaic.TcCoe Idealize.ShloMosaic.Tactic

theorem pay1_apply (i : Fin 1024) (d : Fin 2048) : k0_pay1 (F := Ideal) (ix2 i d) = (0 : EReal) := by
  unfold k0_pay1
  pointwise

theorem pay2_apply (x : Vec Ideal S1024x2048 .f32) (y : Vec Ideal S1024x512 .bf16) (z : Vec Ideal S512x2048 .bf16) (i : Fin 1024) (d : Fin 2048) :
    k0_pay2 (F := Ideal) x y z (ix2 i d) = (x (ix2 i d) : EReal) + ∑ k : Fin 512, (y (ix2 i k) : EReal) * z (ix2 k d) := by
  unfold k0_pay2
  pointwise

/-- The normalization of a row. -/
def nrm (x : Fin 2048 → EReal) (g : EReal) (d : Fin 2048) : EReal :=
  x d * FloatOps.rsqrt (F := Ideal) (φ := .f32) (Ideal.div (∑ k : Fin 2048, x k * x k) (FloatOps.ofBits (F := Ideal) FTy.f32 0x45000000#32) + FloatOps.ofBits (F := Ideal) FTy.f32 0x358637BD#32) * g

theorem pay3_apply (x : Vec Ideal S1024x2048 .f32) (g : Vec Ideal S1x1x2048 .f32) (o : Vec Ideal S1024x2048 .f32) (w : Vec Ideal S1x2048 .f32) (i : Fin 1024) (d : Fin 2048) :
    k0_pay3 (F := Ideal) x g o w (ix2 i d) = nrm (fun k => (x (ix2 i k) : EReal) + g (ix3 0 0 k) * o (ix2 i k)) (w (ix2 0 d)) d := by
  unfold k0_pay3 nrm
  pointwise

variable (m : (ℓ : Loc nD τ sig) → Buf (Elt Ideal) ℓ)

/-- The arguments. -/
abbrev A0 (c : Dev nD) : FVec Ideal S2x8192x5632 .bf16 := m ((c.tc : Thread nD τ).loc main_arg0)
abbrev A1 (c : Dev nD) : FVec Ideal S2x8192x2048 .f32 := m ((c.tc : Thread nD τ).loc main_arg1)
abbrev A2 (c : Dev nD) : FVec Ideal S1x5632x2048 .f32 := m ((c.tc : Thread nD τ).loc main_arg2)
abbrev A3 (c : Dev nD) : FVec Ideal S2x2048 .f32 := m ((c.tc : Thread nD τ).loc main_arg3)
abbrev A4 (c : Dev nD) : FVec Ideal S2048 .f32 := m ((c.tc : Thread nD τ).loc main_arg4)

theorem V0_apply (c : Dev nD) (r : Fin 16384) (f : Fin 5632) :
    V m c main_v0 (ix2 r f) = A0 m c (ix3 ⟨r.val / 8192, by omega⟩ ⟨r.val % 8192, by omega⟩ f) := by
  entry_read
  pointwise
theorem V1_apply (c : Dev nD) (r : Fin 16384) (d : Fin 2048) :
    V m c main_v1 (ix2 r d) = A1 m c (ix3 ⟨r.val / 8192, by omega⟩ ⟨r.val % 8192, by omega⟩ d) := by
  entry_read
  pointwise
theorem V3_apply (c : Dev nD) (f : Fin 5632) (d : Fin 2048) :
    V m c main_v3 (ix2 f d) = A2 m c (ix3 0 f d) := by
  entry_read
  pointwise
theorem V4_apply (c : Dev nD) (b : Fin 2) (d : Fin 2048) :
    V m c main_v4 (ix3 b 0 d) = A3 m c (ix2 b d) := by
  entry_read
  pointwise
theorem V5_apply (c : Dev nD) (d : Fin 2048) :
    V m c main_v5 (ix2 0 d) = A4 m c (ix1 d) := by
  entry_read
  pointwise

theorem e0 : ∀ t : Fin cfg0.N, win0_0.index t = ![t.val / 11, t.val % 11] :=
  (by decide +kernel : ∀ t : Fin grid0.N, win0_0.index t = ![t.val / 11, t.val % 11])
theorem e1 : ∀ t : Fin cfg0.N, win0_1.index t = ![t.val % 11, 0] :=
  (by decide +kernel : ∀ t : Fin grid0.N, win0_1.index t = ![t.val % 11, 0])
theorem e2 : ∀ t : Fin cfg0.N, win0_2.index t = ![t.val / 11, 0] :=
  (by decide +kernel : ∀ t : Fin grid0.N, win0_2.index t = ![t.val / 11, 0])
theorem e3 : ∀ t : Fin cfg0.N, win0_3.index t = ![t.val / 88, 0, 0] :=
  (by decide +kernel : ∀ t : Fin grid0.N, win0_3.index t = ![t.val / 88, 0, 0])
theorem e4 : ∀ t : Fin cfg0.N, win0_4.index t = ![0, 0] :=
  (by decide +kernel : ∀ t : Fin grid0.N, win0_4.index t = ![0, 0])

theorem hN (t : Fin cfg0.N) : t.val < 176 := lt_of_lt_of_eq t.isLt N_0

theorem blk0 (c : Dev nD) (t : Fin cfg0.N) (i : Fin 1024) (k : Fin 512) :
    iblk m c 0 t (ix2 i k) = V m c main_v0 (ix2 ⟨1024 * (t.val / 11) + i, by have := hN t; omega⟩ ⟨512 * (t.val % 11) + k, by omega⟩) := by
  blk_simp [iblk]
  refine congrArg (V m c main_v0) ?_
  blk_ext [e0 t]
theorem blk1 (c : Dev nD) (t : Fin cfg0.N) (k : Fin 512) (d : Fin 2048) :
    iblk m c 1 t (ix2 k d) = V m c main_v3 (ix2 ⟨512 * (t.val % 11) + k, by omega⟩ d) := by
  blk_simp [iblk]
  refine congrArg (V m c main_v3) ?_
  blk_ext [e1 t]
theorem blk2 (c : Dev nD) (t : Fin cfg0.N) (i : Fin 1024) (d : Fin 2048) :
    iblk m c 2 t (ix2 i d) = V m c main_v1 (ix2 ⟨1024 * (t.val / 11) + i, by have := hN t; omega⟩ d) := by
  blk_simp [iblk]
  refine congrArg (V m c main_v1) ?_
  blk_ext [e2 t]
theorem blk3 (c : Dev nD) (t : Fin cfg0.N) (d : Fin 2048) :
    iblk m c 3 t (ix3 0 0 d) = V m c main_v4 (ix3 ⟨t.val / 88, by have := hN t; omega⟩ 0 d) := by
  blk_simp [iblk]
  refine congrArg (V m c main_v4) ?_
  blk_ext [e3 t]
theorem blk4 (c : Dev nD) (t : Fin cfg0.N) (d : Fin 2048) :
    iblk m c 4 t (ix2 0 d) = V m c main_v5 (ix2 0 d) := by
  blk_simp [iblk]
  refine congrArg (V m c main_v5) ?_
  blk_ext [e4 t]

/-- The staged arrays and blocks the projection reads. -/
abbrev W0 (c : Dev nD) : FVec Ideal S16384x5632 .bf16 := V m c main_v0
abbrev W3 (c : Dev nD) : FVec Ideal S5632x2048 .bf16 := V m c main_v3
abbrev B0 (c : Dev nD) (t : Fin cfg0.N) : FVec Ideal S1024x512 .bf16 := iblk m c 0 t
abbrev B1 (c : Dev nD) (t : Fin cfg0.N) : FVec Ideal S512x2048 .bf16 := iblk m c 1 t

theorem W0_apply (c : Dev nD) (r : Fin 16384) (f : Fin 5632) : W0 m c (ix2 r f) = A0 m c (ix3 ⟨r.val / 8192, by omega⟩ ⟨r.val % 8192, by omega⟩ f) := V0_apply m c r f
theorem W3_apply (c : Dev nD) (f : Fin 5632) (d : Fin 2048) : W3 m c (ix2 f d) = A2 m c (ix3 0 f d) := V3_apply m c f d

theorem ix3_val {n0 n1 n2 : ℕ} (a a' : Fin n0) (b b' : Fin n1) (d d' : Fin n2) (h : a.val = a'.val) (h' : b.val = b'.val) (h'' : d.val = d'.val) : ix3 a b d = ix3 a' b' d' := by
  rw [Fin.ext h, Fin.ext h', Fin.ext h'']

/-- A tile's part of the projection. -/
def part (c : Dev nD) (q : Fin 16) (i : Fin 1024) (d : Fin 2048) (n : ℕ) : EReal :=
  ∑ k : Fin 512, (W0 m c (ix2 ⟨1024 * q + i, by omega⟩ ⟨512 * (n % 11) + k, by omega⟩) : EReal) * (W3 m c (ix2 ⟨512 * (n % 11) + k, by omega⟩ d) : EReal)

theorem ix2_val {n0 n1 : ℕ} (r r' : Fin n0) (d d' : Fin n1) (h : r.val = r'.val) (h' : d.val = d'.val) : ix2 r d = ix2 r' d' := by
  rw [Fin.ext h, Fin.ext h']

theorem tile (c : Dev nD) (q : Fin 16) (i : Fin 1024) (d : Fin 2048) (n : ℕ) (hn : n < 11) (h : 11 * q.val + n < cfg0.N) :
    ∑ k : Fin 512, (B0 m c ⟨11 * q.val + n, h⟩ (ix2 i k) : EReal) * (B1 m c ⟨11 * q.val + n, h⟩ (ix2 k d) : EReal) = part m c q i d n := by
  unfold part
  refine Finset.sum_congr rfl fun k _ => ?_
  rw [show B0 m c _ (ix2 i k) = _ from blk0 m c _ i k, show B1 m c _ (ix2 k d) = _ from blk1 m c _ k d]
  have h1 : (11 * q.val + n) / 11 = q.val := by omega
  have h2 : (11 * q.val + n) % 11 = n % 11 := by omega
  exact congrArg₂ (fun x y => (W0 m c x : EReal) * (W3 m c y : EReal)) (ix2_val _ _ _ _ (by dsimp only; rw [h1]) (by dsimp only; rw [h2])) (ix2_val _ _ _ _ (by dsimp only; rw [h2]) rfl)

/-- What the tiles before the last leave. -/
theorem fold (c : Dev nD) (q : Fin 16) (i : Fin 1024) (d : Fin 2048) : ∀ (j : ℕ) (hj : j < 10) (h : 11 * q.val + j < cfg0.N),
    Pipeline.accAt (reset5 m c) (step5 m c) (11 * q.val) j h (ix2 i d) = ∑ n ∈ Finset.range (j + 1), part m c q i d n
  | 0, _, h => by
    rw [Pipeline.accAt_zero]
    unfold reset5
    rw [pay2_apply, pay1_apply, zero_add, Finset.sum_range_one]
    exact tile m c q i d 0 (by omega) h
  | j + 1, hj, h => by
    rw [Pipeline.accAt_succ, step5, if_pos (by omega), pay2_apply, fold c q i d j (by omega) _, Finset.sum_range_succ _ (j + 1)]
    exact congrArg _ (tile m c q i d (j + 1) (by omega) h)

/-- All of them together: the projection's entry. -/
theorem whole (c : Dev nD) (q : Fin 16) (i : Fin 1024) (d : Fin 2048) :
    ∑ n ∈ Finset.range 11, part m c q i d n = ∑ f : Fin 5632, (W0 m c (ix2 ⟨1024 * q + i, by omega⟩ f) : EReal) * (W3 m c (ix2 f d) : EReal) := by
  rw [Finset.sum_range]
  unfold part
  refine Fin.sum_mul_add_congr fun s k hl => ?_
  have h2 : s.val % 11 = s.val := by omega
  exact congrArg (fun x : Fin 5632 => (W0 m c (ix2 ⟨1024 * q + i, by omega⟩ x) : EReal) * (W3 m c (ix2 x d) : EReal)) (Fin.ext (by dsimp only; omega))

/-- The row before its normalization. -/
def row (c : Dev nD) (r : Fin 16384) (k : Fin 2048) : EReal :=
  A1 m c (ix3 ⟨r.val / 8192, by omega⟩ ⟨r.val % 8192, by omega⟩ k) + A3 m c (ix2 ⟨r.val / 8192, by omega⟩ k) *
    ∑ f : Fin 5632, (A0 m c (ix3 ⟨r.val / 8192, by omega⟩ ⟨r.val % 8192, by omega⟩ f) : EReal) * A2 m c (ix3 0 f k)

theorem last (c : Dev nD) (q : Fin 16) (i : Fin 1024) (d : Fin 2048) (h : 11 * q.val + 10 < cfg0.N) :
    Pipeline.accAt (reset5 m c) (step5 m c) (11 * q.val) 10 h (ix2 i d) = nrm (row m c ⟨1024 * q + i, by omega⟩) (A4 m c (ix1 d)) d := by
  rw [Pipeline.accAt_succ, step5, if_neg (by omega), if_pos (by omega), pay3_apply, blk4, V5_apply]
  refine congrArg (fun x => nrm x (A4 m c (ix1 d)) d) (funext fun k => ?_)
  rw [pay2_apply, fold m c q i k 9 (by omega) _, blk2, blk3, V4_apply, V1_apply]
  have e := tile m c q i k 10 (by omega) h
  have w := whole m c q i k
  rw [Finset.sum_range_succ] at w
  unfold row
  have e' := congrArg (fun x => ∑ n ∈ Finset.range 10, part m c q i k n + x) e
  have s := (e'.trans w).trans (Finset.sum_congr rfl fun f _ => congrArg₂ (fun x y : EReal => x * y) (W0_apply m c ⟨1024 * q + i, by omega⟩ f) (W3_apply m c f k))
  have h1 : (11 * q.val + (9 + 1)) / 11 = q.val := by omega
  have h3 : (11 * q.val + (9 + 1)) / 88 = (1024 * q.val + i.val) / 8192 := by omega
  refine congrArg₂ (· + ·) (congrArg (A1 m c) ?_) (congrArg₂ (· * ·) (congrArg (A3 m c) ?_) s)
  · exact ix3_val _ _ _ _ _ _ (by dsimp only; rw [h1]) (by dsimp only; rw [h1]) rfl
  · exact ix2_val _ _ _ _ (by dsimp only; rw [h3]) rfl

theorem G5_apply (c : Dev nD) (r : Fin 16384) (d : Fin 2048) : G5 m c (ix2 r d) = nrm (row m c r) (A4 m c (ix1 d)) d := by
  have hN : cfg0.N = 176 := N_0
  have hr : run5Of (ix2 r d) = r.val / 1024 := by
    show 1 * (r.val / 1024 - 0) + 1 * (d.val / 2048 - 0) = _
    omega
  unfold G5
  rw [dif_pos (by rw [hr]; omega)]
  have e := last m c ⟨r.val / 1024, by omega⟩ ⟨r.val % 1024, by omega⟩ d (by dsimp only; omega)
  have hl : loc5Of (ix2 r d) = ix2 ⟨r.val % 1024, by omega⟩ d := by
    funext a
    match a with
    | ⟨0, _⟩ => rfl
    | ⟨1, _⟩ => exact Fin.ext (show d.val % 2048 = d.val by omega)
  rw [hl]
  have g : ∀ (b b' : ℕ) (h : b + 10 < cfg0.N) (h' : b' + 10 < cfg0.N), b = b' →
      Pipeline.accAt (reset5 m c) (step5 m c) b 10 h = Pipeline.accAt (reset5 m c) (step5 m c) b' 10 h' := by
    intro b b' h h' e; subst e; rfl
  rw [g _ (11 * (r.val / 1024)) _ (by omega) (by rw [hr])]
  refine e.trans (congrArg (fun x => nrm (row m c x) (A4 m c (ix1 d)) d) (Fin.ext ?_))
  dsimp only
  omega

end Cert.FfnOutIdeal.Val

namespace Cert.FfnOutRefIdeal.Val

open Cert.FfnOutRefIdeal Cert.FfnOutRefIdeal.Gen Cert.FfnOutRefIdeal.Read
open Idealize.ShloMosaic Idealize.ShloMosaic.TcCoe Idealize.ShloMosaic.Tactic

theorem v6_apply (x0 : FVec Ideal S2x8192x5632 .bf16) (x1 : FVec Ideal S2x8192x2048 .f32) (x2 : FVec Ideal S1x5632x2048 .f32) (x3 : FVec Ideal S2x2048 .f32) (b : Fin 2) (s : Fin 8192) (d : Fin 2048) :
    val_main_v6 (F := Ideal) x0 x1 x2 x3 (ix3 b s d) = (x1 (ix3 b s d) : EReal) + x3 (ix2 b d) * ∑ f : Fin 5632, (x0 (ix3 b s f) : EReal) * x2 (ix3 0 f d) := by
  unfold val_main_v6 val_main_v5 val_main_v4 val_main_v3 val_main_v2 val_main_v1 val_main_v0
  pointwise

theorem v20_apply (x0 : FVec Ideal S2x8192x5632 .bf16) (x1 : FVec Ideal S2x8192x2048 .f32) (x2 : FVec Ideal S1x5632x2048 .f32) (x3 : FVec Ideal S2x2048 .f32) (x4 : FVec Ideal S2048 .f32) (r : Fin 16384) (d : Fin 2048) :
    val_main_v20 (F := Ideal) x0 x1 x2 x3 x4 (ix2 r d) = Cert.FfnOutIdeal.Val.nrm (fun k => val_main_v6 (F := Ideal) x0 x1 x2 x3 (ix3 ⟨r.val / 8192, by omega⟩ ⟨r.val % 8192, by omega⟩ k)) (x4 (ix1 d)) d := by
  unfold Cert.FfnOutIdeal.Val.nrm val_main_v20 val_main_v19 val_main_v18 val_main_v17 val_main_v16 val_main_v15 val_main_v14 val_main_v13 val_main_v12 val_main_v11 val_main_v10 val_main_v9 val_main_v8 val_main_v7 val_main_cst val_main_cst_0 val_main_cst_1
  generalize val_main_v6 (F := Ideal) x0 x1 x2 x3 = X
  pointwise

end Cert.FfnOutRefIdeal.Val

end
-- ==== Proof.FfnOut.Claim.lean ====
/-
  The last projection's value claim: the two runs.
-/
module

public import proofs.«01_k».proof.Defs
public import proofs.«01_k».proof.Proof.FfnOut.Val

@[expose] public section

set_option maxRecDepth 16384

noncomputable section

namespace Cert.Proof.FfnOut

open Idealize.ShloMosaic Idealize.SL.Sem Idealize.ShloMosaic.Tactic
open Cert.FfnOutIdeal.Val

theorem res_eq (m : (ℓ : Loc Cert.FfnOutIdeal.nD Cert.FfnOutIdeal.τ Cert.FfnOutIdeal.sig) → Buf (Elt Ideal) ℓ) (c : Dev Cert.FfnOutIdeal.nD) :
    Cert.FfnOutRefIdeal.Read.val_main_v20 (F := Ideal) (A0 m c) (A1 m c) (A2 m c) (A3 m c) (A4 m c) = Cert.FfnOutIdeal.Value.G5 m c := by
  funext y
  obtain ⟨r, d, rfl⟩ : ∃ (r : Fin 16384) (d : Fin 2048), y = ix2 r d := ⟨y 0, y 1, by funext a; match a with | ⟨0, _⟩ => rfl | ⟨1, _⟩ => rfl⟩
  rw [Cert.FfnOutRefIdeal.Val.v20_apply, G5_apply]
  refine congrArg (fun x => nrm x (A4 m c (ix1 d)) d) (funext fun k => ?_)
  rw [Cert.FfnOutRefIdeal.Val.v6_apply]
  rfl

theorem algebraic : Cert.algebraic_FfnOutIdeal_FfnOutRefIdeal := by
  intro m g m' g' hpre hagree
  refine ⟨fun c => Cert.FfnOutIdeal.Value.G5 m c, ?_, ?_⟩
  · exact Cert.FfnOutIdeal.Value.run m g
  · refine (θ_run Cert.FfnOutRefIdeal.defs _ _).mono (fun _ h c => ⟨(h c).1.trans ?_, (h c).2⟩) (Cert.FfnOutRefIdeal.Value.run (F := Ideal) m' g')
    rw [Cert.FfnOutRefIdeal.Read.val_main_v20_eq, (hagree c).1, (hagree c).2.1, (hagree c).2.2.1, (hagree c).2.2.2.1, (hagree c).2.2.2.2]
    exact res_eq m c

end Cert.Proof.FfnOut

end
-- ==== Proof.FfnAct.Pay.lean ====
/-
  The gated convolution of the feed-forward: the kernel's payloads and the reference at an index.
-/
module

public import proofs.«01_k».proof.Proof.Gen.FfnActIdeal.Value
public import proofs.«01_k».proof.Proof.Gen.FfnActRefIdeal.Read
public import Idealize.ShloMosaic.Lib.Pointwise
public import Idealize.ShloMosaic.Lib.WordCmp
public import Idealize.ShloMosaic.Lib.Pipeline.ValueKit

@[expose] public section

set_option maxRecDepth 16384

noncomputable section

namespace Cert.FfnActIdeal.Val

open Cert.FfnActIdeal Cert.FfnActIdeal.Gen Cert.FfnActIdeal.Value
open Idealize.ShloMosaic Idealize.ShloMosaic.TcCoe Idealize.ShloMosaic.Tactic

/-- The gate, the convolution's three terms and the other projection, put together. -/
def fin (bias p2 w0 p1 w1 p0 w2 up : EReal) : EReal :=
  (bias + p2 * w0 + p1 * w1 + p0 * w2) * Ideal.div (FloatOps.ofBits (F := Ideal) FTy.f32 0x3F800000#32) (FloatOps.ofBits (F := Ideal) FTy.f32 0x3F800000#32 + Ideal.exp (-(bias + p2 * w0 + p1 * w1 + p0 * w2))) * up

theorem pay2_apply (x : Vec Ideal S1x2048x512 .f32) (k : Fin 2048) (f : Fin 512) : k0_pay2 (F := Ideal) x (ix2 k f) = x (ix3 0 k f) := by
  unfold k0_pay2
  pointwise
theorem pay3_apply (x : Vec Ideal S1x2048x512 .f32) (k : Fin 2048) (f : Fin 512) : k0_pay3 (F := Ideal) x (ix2 k f) = x (ix3 0 k f) := by
  unfold k0_pay3
  pointwise
theorem pay5_apply (x : Vec Ideal S1024x2048 .bf16) (w : Vec Ideal S2048x512 .bf16) (j : Fin 1024) (f : Fin 512) :
    k0_pay5 (F := Ideal) x w (ix2 j f) = ∑ k : Fin 2048, (x (ix2 j k) : EReal) * w (ix2 k f) := by
  unfold k0_pay5 k0_pay4
  pointwise

/-- The word deciding whether a tile is a batch's first. -/
def cond (q : Fin 16) : BitVec 1 :=
  let arg1 : BitVec 32 := BitVec.ofNat 32 q.val
  let v10 : BitVec 1 := Scalar.cmpi .eq 8#32 0#32
  let v11 : BitVec 32 := Scalar.select v10 1#32 8#32
  let v12 : BitVec 32 := Scalar.remsi arg1 v11
  let v13 : BitVec 1 := Scalar.cmpi .ne v12 0#32
  let v14 : BitVec 1 := Scalar.cmpi .slt v12 0#32
  let v15 : BitVec 1 := Scalar.cmpi .slt v11 0#32
  let v16 : BitVec 1 := Scalar.xori v14 v15
  let v17 : BitVec 1 := Scalar.andi v16 v13
  let v18 : BitVec 32 := Scalar.addi v12 v11
  let v19 : BitVec 32 := Scalar.select v17 v18 v12
  Scalar.cmpi .eq v19 0#32
theorem cond_eq : ∀ q : Fin 16, cond q = if q.val % 8 = 0 then 1#1 else 0#1 := by decide +kernel

theorem pay6_apply (i : grid0.Coords) (w : Vec Ideal S2048x512 .bf16) (x : Vec Ideal S16x2048 .bf16) (j : Fin 16) (f : Fin 512) :
    k0_pay6 (F := Ideal) i w x (ix2 j f) = if (i 1).val % 8 = 0 then (0 : EReal) else ∑ k : Fin 2048, (x (ix2 j k) : EReal) * w (ix2 k f) := by
  have e := cond_eq (i 1)
  have h : k0_pay6 (F := Ideal) i w x = Scalar.select (cond (i 1)) (broadcast S16x512 (Scalar.ofBits (F := Ideal) .f32 0x00000000#32)) (matmul dot_S16x2048_S2048x512_S16x512_1_0_0_1_n_n none (shapeCast S16x2048 x shapeCasts_S16x2048_S16x2048 : FVec Ideal S16x2048 .bf16) (w : FVec Ideal S2048x512 .bf16) (constant S16x512 .f32 0x00000000#32) : FVec Ideal S16x512 .f32) := rfl
  rw [h, e]
  by_cases hc : (i 1).val % 8 = 0
  · rw [if_pos hc, if_pos hc]
    show (broadcast S16x512 (Scalar.ofBits (F := Ideal) .f32 0x00000000#32) : FVec Ideal S16x512 .f32) (ix2 j f) = _
    pointwise
  · rw [if_neg hc, if_neg hc]
    show (matmul dot_S16x2048_S2048x512_S16x512_1_0_0_1_n_n none (shapeCast S16x2048 x shapeCasts_S16x2048_S16x2048 : FVec Ideal S16x2048 .bf16) (w : FVec Ideal S2048x512 .bf16) (constant S16x512 .f32 0x00000000#32) : FVec Ideal S16x512 .f32) (ix2 j f) = _
    pointwise

/-- A row's number compared with a fixed row. -/
theorem sel_eq {a j : Nat} (ha : a < 1024) (hj : j < 1024) : (j = a → IntOp.cmpi CmpIPredicate.eq (BitVec.ofNat 32 j) (BitVec.ofNat 32 a) = 1#1) ∧ (j ≠ a → IntOp.cmpi CmpIPredicate.eq (BitVec.ofNat 32 j) (BitVec.ofNat 32 a) = 0#1) := by
  constructor
  · intro h
    subst h
    simp [IntOp.cmpi]
  · intro h
    have : BitVec.ofNat 32 j ≠ BitVec.ofNat 32 a := by
      intro e
      have e' := congrArg BitVec.toNat e
      simp only [BitVec.toNat_ofNat] at e'
      omega
    simp only [IntOp.cmpi, beq_eq_false_iff_ne.mpr this]; rfl

theorem sitofp_zero : FloatOps.sitofp (F := Ideal) FTy.f32 (0#32) = (0 : EReal) := by
  show ((((0#32 : BitVec 32).toInt : ℝ)) : EReal) = 0
  simp

/-- The body's result over what it reads. -/
def body (i : grid0.Coords) (x : Vec Ideal S1024x2048 .bf16) (hl : Vec Ideal S16x2048 .bf16) (wg wu : Vec Ideal S2048x512 .bf16) (cw : Vec Ideal S3x512 .f32) (cb : Vec Ideal S1x512 .f32) : FVec Ideal S1024x512 .bf16 :=
  k0_pay1 (F := Ideal) (k0_pay4 x) (k0_pay5 x wg) (k0_pay6 i wg hl) (iota .tc S1024x512 32 [0] iota_S1024x512_d0_w32) (k0_pay7 i x wg hl) k0_pay8 (k0_pay9 i wg hl) k0_pay10 cw cb wu

theorem pay7_apply (i : grid0.Coords) (x : Vec Ideal S1024x2048 .bf16) (w : Vec Ideal S2048x512 .bf16) (hl : Vec Ideal S16x2048 .bf16) (j : Fin 1024) (f : Fin 512) :
    k0_pay7 (F := Ideal) i x w hl (ix2 j f) = if h : j.val = 0 then k0_pay6 (F := Ideal) i w hl (ix2 15 f) else k0_pay5 (F := Ideal) x w (ix2 ⟨j.val - 1, by omega⟩ f) := by
  unfold k0_pay7
  generalize k0_pay5 (F := Ideal) x w = A
  generalize k0_pay6 (F := Ideal) i w hl = B
  pointwise
  by_cases h : j.val = 0
  · rw [dif_pos h, (sel_eq (by decide : 0 < 1024) j.isLt).1 h]; rfl
  · rw [dif_neg h, (sel_eq (by decide : 0 < 1024) j.isLt).2 h]
    exact congrArg (fun q => A (ix2 q f)) (Fin.ext (by dsimp only; omega))

theorem body_apply (i : grid0.Coords) (x : Vec Ideal S1024x2048 .bf16) (hl : Vec Ideal S16x2048 .bf16) (wg wu : Vec Ideal S2048x512 .bf16) (cw : Vec Ideal S3x512 .f32) (cb : Vec Ideal S1x512 .f32) (j : Fin 1024) (f : Fin 512) :
    body i x hl wg wu cw cb (ix2 j f) = fin (cb (ix2 0 f))
      (if j.val = 0 then k0_pay6 (F := Ideal) i wg hl (ix2 14 f) else if j.val = 1 then k0_pay6 (F := Ideal) i wg hl (ix2 15 f) else k0_pay5 (F := Ideal) x wg (ix2 ⟨j.val - 2, by omega⟩ f)) (cw (ix2 0 f))
      (k0_pay7 (F := Ideal) i x wg hl (ix2 j f)) (cw (ix2 1 f))
      (k0_pay5 (F := Ideal) x wg (ix2 j f)) (cw (ix2 2 f))
      (∑ k : Fin 2048, (x (ix2 j k) : EReal) * wu (ix2 k f)) := by
  unfold body k0_pay1 k0_pay9 k0_pay8 k0_pay10 k0_pay4 fin
  generalize k0_pay5 (F := Ideal) x wg = A
  generalize k0_pay6 (F := Ideal) i wg hl = B
  generalize k0_pay7 (F := Ideal) i x wg hl = C
  pointwise
  have e2 : Scalar.select (IntOp.cmpi CmpIPredicate.eq (BitVec.ofNat 32 j.val) 0#32) (B (ix2 14 f)) (Scalar.select (IntOp.cmpi CmpIPredicate.eq (BitVec.ofNat 32 j.val) 1#32) (B (ix2 15 f)) (A (ix2 ⟨(j.val + 1024 - 2) % 1024, Nat.mod_lt _ (by decide)⟩ f)))
      = (if j.val = 0 then B (ix2 14 f) else if j.val = 1 then B (ix2 15 f) else A (ix2 ⟨j.val - 2, by omega⟩ f)) := by
    by_cases h : j.val = 0
    · rw [if_pos h, (sel_eq (by decide : 0 < 1024) j.isLt).1 h]; rfl
    · rw [if_neg h, (sel_eq (by decide : 0 < 1024) j.isLt).2 h]
      by_cases h1 : j.val = 1
      · rw [if_pos h1, (sel_eq (by decide : 1 < 1024) j.isLt).1 h1]; rfl
      · rw [if_neg h1, (sel_eq (by decide : 1 < 1024) j.isLt).2 h1]
        exact congrArg (fun q => A (ix2 q f)) (Fin.ext (by dsimp only; omega))
  rw [e2]
  simp only [zero_sub]

end Cert.FfnActIdeal.Val

namespace Cert.FfnActRefIdeal.Val

open Cert.FfnActRefIdeal Cert.FfnActRefIdeal.Gen Cert.FfnActRefIdeal.Read
open Idealize.ShloMosaic Idealize.ShloMosaic.TcCoe Idealize.ShloMosaic.Tactic
open Cert.FfnActIdeal.Val (sitofp_zero)

section
variable (x0 : FVec Ideal S2x8192x2048 .bf16) (x1 x2 : FVec Ideal S1x2048x5632 .f32) (x3 : FVec Ideal S1x3x5632 .f32) (x4 : FVec Ideal S1x5632 .f32)

theorem v2_apply (b : Fin 2) (s : Fin 8192) (f : Fin 5632) :
    val_main_v2 (F := Ideal) x0 x1 (ix3 b s f) = ∑ k : Fin 2048, (x0 (ix3 b s k) : EReal) * x1 (ix3 0 k f) := by
  unfold val_main_v2 val_main_v1 val_main_v0
  pointwise

theorem v5_apply (b : Fin 2) (s : Fin 8194) (f : Fin 5632) :
    val_main_v5 (F := Ideal) x0 x1 (ix3 b s f) = if h : 2 ≤ s.val then val_main_v2 (F := Ideal) x0 x1 (ix3 b ⟨s.val - 2, by omega⟩ f) else (0 : EReal) := by
  unfold val_main_v5
  generalize val_main_v2 (F := Ideal) x0 x1 = A
  unfold val_main_call0_v0 val_main_c
  pointwise
  have hs := s.isLt
  by_cases h : 2 ≤ s.val
  · rw [dif_pos h, dif_pos ⟨h, by omega⟩]
  · rw [dif_neg h, dif_neg (fun q => h q.1)]
    exact sitofp_zero

theorem v34_apply (r : Fin 16384) (f : Fin 5632) :
    val_main_v34 (F := Ideal) x0 x1 x2 x3 x4 (ix2 r f) = Cert.FfnActIdeal.Val.fin (x4 (ix2 0 f))
      (val_main_v5 (F := Ideal) x0 x1 (ix3 ⟨r.val / 8192, by omega⟩ ⟨r.val % 8192, by omega⟩ f)) (x3 (ix3 0 0 f))
      (val_main_v5 (F := Ideal) x0 x1 (ix3 ⟨r.val / 8192, by omega⟩ ⟨1 + r.val % 8192, by omega⟩ f)) (x3 (ix3 0 1 f))
      (val_main_v5 (F := Ideal) x0 x1 (ix3 ⟨r.val / 8192, by omega⟩ ⟨2 + r.val % 8192, by omega⟩ f)) (x3 (ix3 0 2 f))
      (∑ k : Fin 2048, (x0 (ix3 ⟨r.val / 8192, by omega⟩ ⟨r.val % 8192, by omega⟩ k) : EReal) * x2 (ix3 0 k f)) := by
  unfold Cert.FfnActIdeal.Val.fin val_main_v34 val_main_v33 val_main_v32 val_main_v31 val_main_v30 val_main_v29 val_main_call1_v5 val_main_call1_v4 val_main_call1_cst_0 val_main_call1_v3 val_main_call1_v2 val_main_call1_cst val_main_call1_v1 val_main_call1_v0 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v4 val_main_v3 val_main_v0
  generalize val_main_v5 (F := Ideal) x0 x1 = A
  pointwise
end

end Cert.FfnActRefIdeal.Val

end
-- ==== Proof.FfnAct.Val.lean ====
/-
  The gated convolution of the feed-forward: the kernel's blocks, what it keeps between points, and its array at an index.
-/
module

public import proofs.«01_k».proof.Proof.FfnAct.Pay
public import Idealize.ShloMosaic.Lib.Pipeline.ReadBack

@[expose] public section

set_option maxRecDepth 16384

noncomputable section

namespace Cert.FfnActIdeal.Val

open Cert.FfnActIdeal Cert.FfnActIdeal.Gen Cert.FfnActIdeal.Value
open Idealize.ShloMosaic Idealize.ShloMosaic.TcCoe Idealize.ShloMosaic.Tactic

variable (m : (ℓ : Loc nD τ sig) → Buf (Elt Ideal) ℓ)

/-- The arguments. -/
abbrev A0 (c : Dev nD) : FVec Ideal S2x8192x2048 .bf16 := m ((c.tc : Thread nD τ).loc main_arg0)
abbrev A1 (c : Dev nD) : FVec Ideal S1x2048x5632 .f32 := m ((c.tc : Thread nD τ).loc main_arg1)
abbrev A2 (c : Dev nD) : FVec Ideal S1x2048x5632 .f32 := m ((c.tc : Thread nD τ).loc main_arg2)
abbrev A3 (c : Dev nD) : FVec Ideal S1x3x5632 .f32 := m ((c.tc : Thread nD τ).loc main_arg3)
abbrev A4 (c : Dev nD) : FVec Ideal S1x5632 .f32 := m ((c.tc : Thread nD τ).loc main_arg4)

theorem V0_apply (c : Dev nD) (r : Fin 16384) (k : Fin 2048) :
    V m c main_v0 (ix2 r k) = A0 m c (ix3 ⟨r.val / 8192, by omega⟩ ⟨r.val % 8192, by omega⟩ k) := by
  entry_read
  pointwise
theorem V1_apply (c : Dev nD) (j : Fin 3) (f : Fin 5632) :
    V m c main_v1 (ix2 j f) = A3 m c (ix3 0 j f) := by
  entry_read
  pointwise
theorem V3_apply (c : Dev nD) (f : Fin 5632) :
    V m c main_v3 (ix2 0 f) = A4 m c (ix2 0 f) := by
  entry_read
  pointwise
theorem Va1_apply (c : Dev nD) (k : Fin 2048) (f : Fin 5632) :
    V m c main_arg1 (ix3 0 k f) = A1 m c (ix3 0 k f) := by
  entry_read
  rfl
theorem Va2_apply (c : Dev nD) (k : Fin 2048) (f : Fin 5632) :
    V m c main_arg2 (ix3 0 k f) = A2 m c (ix3 0 k f) := by
  entry_read
  rfl

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![64 * (t.val % 16) - 1, 0] :=
  (by decide +kernel : ∀ t : Fin grid0.N, win0_1.index t = ![64 * (t.val % 16) - 1, 0])
theorem e2 : ∀ t : Fin cfg0.N, win0_2.index t = ![0, 0, t.val / 16] :=
  (by decide +kernel : ∀ t : Fin grid0.N, win0_2.index t = ![0, 0, t.val / 16])
theorem e3 : ∀ t : Fin cfg0.N, win0_3.index t = ![0, 0, t.val / 16] :=
  (by decide +kernel : ∀ t : Fin grid0.N, win0_3.index t = ![0, 0, t.val / 16])
theorem e4 : ∀ t : Fin cfg0.N, win0_4.index t = ![0, t.val / 16] :=
  (by decide +kernel : ∀ t : Fin grid0.N, win0_4.index t = ![0, t.val / 16])
theorem e5 : ∀ t : Fin cfg0.N, win0_5.index t = ![0, t.val / 16] :=
  (by decide +kernel : ∀ t : Fin grid0.N, win0_5.index t = ![0, t.val / 16])
theorem co : ∀ t : Fin cfg0.N, (grid0.coords t 1).val = t.val % 16 :=
  (by decide +kernel : ∀ t : Fin grid0.N, (grid0.coords t 1).val = t.val % 16)

theorem hN (t : Fin cfg0.N) : t.val < 176 := lt_of_lt_of_eq t.isLt N_0

/-- The blocks. -/
abbrev B0 (c : Dev nD) (t : Fin cfg0.N) : FVec Ideal S1024x2048 .bf16 := iblk m c 0 t
abbrev B1 (c : Dev nD) (t : Fin cfg0.N) : FVec Ideal S16x2048 .bf16 := iblk m c 1 t
abbrev B2 (c : Dev nD) (t : Fin cfg0.N) : FVec Ideal S1x2048x512 .f32 := iblk m c 2 t
abbrev B3 (c : Dev nD) (t : Fin cfg0.N) : FVec Ideal S1x2048x512 .f32 := iblk m c 3 t
abbrev B4 (c : Dev nD) (t : Fin cfg0.N) : FVec Ideal S3x512 .f32 := iblk m c 4 t
abbrev B5 (c : Dev nD) (t : Fin cfg0.N) : FVec Ideal S1x512 .f32 := iblk m c 5 t

/-- A row of the rows laid out one after another. -/
def hrow (c : Dev nD) (r : ℕ) (hr : r < 16384) (k : Fin 2048) : EReal := A0 m c (ix3 ⟨r / 8192, by omega⟩ ⟨r % 8192, by omega⟩ k)

theorem blk0 (c : Dev nD) (t : Fin cfg0.N) (j : Fin 1024) (k : Fin 2048) :
    B0 m c t (ix2 j k) = hrow m c (1024 * (t.val % 16) + j) (by omega) k := by
  refine Eq.trans ?_ (V0_apply m c ⟨1024 * (t.val % 16) + j, by omega⟩ k)
  show iblk m c 0 t (ix2 j k) = _
  blk_simp [iblk]
  refine congrArg (V m c main_v0) ?_
  blk_ext [e0 t]
theorem blk1 (c : Dev nD) (t : Fin cfg0.N) (j : Fin 16) (k : Fin 2048) :
    B1 m c t (ix2 j k) = hrow m c (16 * (64 * (t.val % 16) - 1) + j) (by omega) k := by
  refine Eq.trans ?_ (V0_apply m c ⟨16 * (64 * (t.val % 16) - 1) + j, by omega⟩ k)
  show iblk m c 1 t (ix2 j k) = _
  blk_simp [iblk]
  refine congrArg (V m c main_v0) ?_
  blk_ext [e1 t]
theorem blk2 (c : Dev nD) (t : Fin cfg0.N) (k : Fin 2048) (f : Fin 512) :
    B2 m c t (ix3 0 k f) = A1 m c (ix3 0 k ⟨512 * (t.val / 16) + f, by have := hN t; omega⟩) := by
  refine Eq.trans ?_ (Va1_apply m c k ⟨512 * (t.val / 16) + f, by have := hN t; omega⟩)
  show iblk m c 2 t (ix3 0 k f) = _
  blk_simp [iblk]
  refine congrArg (V m c main_arg1) ?_
  blk_ext [e2 t]
theorem blk3 (c : Dev nD) (t : Fin cfg0.N) (k : Fin 2048) (f : Fin 512) :
    B3 m c t (ix3 0 k f) = A2 m c (ix3 0 k ⟨512 * (t.val / 16) + f, by have := hN t; omega⟩) := by
  refine Eq.trans ?_ (Va2_apply m c k ⟨512 * (t.val / 16) + f, by have := hN t; omega⟩)
  show iblk m c 3 t (ix3 0 k f) = _
  blk_simp [iblk]
  refine congrArg (V m c main_arg2) ?_
  blk_ext [e3 t]
theorem blk4 (c : Dev nD) (t : Fin cfg0.N) (j : Fin 3) (f : Fin 512) :
    B4 m c t (ix2 j f) = A3 m c (ix3 0 j ⟨512 * (t.val / 16) + f, by have := hN t; omega⟩) := by
  refine Eq.trans ?_ (V1_apply m c j ⟨512 * (t.val / 16) + f, by have := hN t; omega⟩)
  show iblk m c 4 t (ix2 j f) = _
  blk_simp [iblk]
  refine congrArg (V m c main_v1) ?_
  blk_ext [e4 t]
theorem blk5 (c : Dev nD) (t : Fin cfg0.N) (f : Fin 512) :
    B5 m c t (ix2 0 f) = A4 m c (ix2 0 ⟨512 * (t.val / 16) + f, by have := hN t; omega⟩) := by
  refine Eq.trans ?_ (V3_apply m c ⟨512 * (t.val / 16) + f, by have := hN t; omega⟩)
  show iblk m c 5 t (ix2 0 f) = _
  blk_simp [iblk]
  refine congrArg (V m c main_v3) ?_
  blk_ext [e5 t]

section
variable (c : Dev nD) (t : Fin cfg0.N)

theorem scrA1 (h0 : t.val % 16 = 0) : (outsAt0 m c t.val t.isLt).2.1 = k0_pay2 (F := Ideal) (B2 m c t) := by
  rw [outsAt0_A m c t h0]
  frame_out
theorem scrA2 (h0 : t.val % 16 = 0) : (outsAt0 m c t.val t.isLt).2.2 = k0_pay3 (F := Ideal) (B3 m c t) := by
  rw [outsAt0_A m c t h0]
  frame_out
theorem scrB1 (h0 : ¬ t.val % 16 = 0) : (outsAt0 m c t.val t.isLt).2.1 = (outsAt0 m c (t.val - 1) (Nat.lt_of_le_of_lt (Nat.sub_le _ _) t.isLt)).2.1 := by
  rw [outsAt0_B m c t h0]
  dsimp only
  generalize (outsAt0 m c (t.val - 1) (Nat.lt_of_le_of_lt (Nat.sub_le _ _) t.isLt)).2.1 = X
  unfold sout0_B_0
  rfl
theorem scrB2 (h0 : ¬ t.val % 16 = 0) : (outsAt0 m c t.val t.isLt).2.2 = (outsAt0 m c (t.val - 1) (Nat.lt_of_le_of_lt (Nat.sub_le _ _) t.isLt)).2.2 := by
  rw [outsAt0_B m c t h0]
  dsimp only
  generalize (outsAt0 m c (t.val - 1) (Nat.lt_of_le_of_lt (Nat.sub_le _ _) t.isLt)).2.2 = X
  unfold sout0_B_1
  rfl

theorem out_eq :
    (outsAt0 m c t.val t.isLt).1 = body (grid0.coords t) (B0 m c t) (B1 m c t) (outsAt0 m c t.val t.isLt).2.1 (outsAt0 m c t.val t.isLt).2.2 (B4 m c t) (B5 m c t) := by
  by_cases h0 : t.val % 16 = 0
  · rw [scrA1 m c t h0, scrA2 m c t h0, outsAt0_A m c t h0]
    frame_out
    unfold body B0 B1 B2 B3 B4 B5
    rfl
  · rw [scrB1 m c t h0, scrB2 m c t h0, outsAt0_B m c t h0]
    dsimp only
    generalize (outsAt0 m c (t.val - 1) (Nat.lt_of_le_of_lt (Nat.sub_le _ _) t.isLt)).2.1 = X
    generalize (outsAt0 m c (t.val - 1) (Nat.lt_of_le_of_lt (Nat.sub_le _ _) t.isLt)).2.2 = Y
    frame_out
    rw [read_unread_whole, read_unread_whole]
    unfold body B0 B1 B4 B5
    rfl
end

/-- What the kept weights hold. -/
theorem scr (c : Dev nD) (k : Fin 2048) (f : Fin 512) : ∀ (n : ℕ) (h : n < cfg0.N),
    (outsAt0 m c n h).2.1 (ix2 k f) = A1 m c (ix3 0 k ⟨512 * (n / 16) + f, by have := hN ⟨n, h⟩; dsimp only at this; omega⟩)
    ∧ (outsAt0 m c n h).2.2 (ix2 k f) = A2 m c (ix3 0 k ⟨512 * (n / 16) + f, by have := hN ⟨n, h⟩; dsimp only at this; omega⟩) := by
  intro n
  induction n using Nat.strong_induction_on with
  | _ n ih =>
    intro h
    by_cases h0 : n % 16 = 0
    · exact ⟨(congrFun (scrA1 m c ⟨n, h⟩ h0) _).trans ((pay2_apply _ k f).trans (blk2 m c ⟨n, h⟩ k f)),
        (congrFun (scrA2 m c ⟨n, h⟩ h0) _).trans ((pay3_apply _ k f).trans (blk3 m c ⟨n, h⟩ k f))⟩
    · have i := ih (n - 1) (by omega) (by omega)
      have e : (⟨512 * ((n - 1) / 16) + f, by have := hN ⟨n, h⟩; dsimp only at this; omega⟩ : Fin 5632) = ⟨512 * (n / 16) + f, by have := hN ⟨n, h⟩; dsimp only at this; omega⟩ :=
        Fin.ext (by dsimp only; omega)
      exact ⟨(congrFun (scrB1 m c ⟨n, h⟩ h0) _).trans (i.1.trans (congrArg (fun q => A1 m c (ix3 0 k q)) e)),
        (congrFun (scrB2 m c ⟨n, h⟩ h0) _).trans (i.2.trans (congrArg (fun q => A2 m c (ix3 0 k q)) e))⟩

/-- A row's gate projection. -/
def gate (c : Dev nD) (r : ℕ) (hr : r < 16384) (f : Fin 5632) : EReal :=
  ∑ k : Fin 2048, hrow m c r hr k * A1 m c (ix3 0 k f)
def up (c : Dev nD) (r : ℕ) (hr : r < 16384) (f : Fin 5632) : EReal :=
  ∑ k : Fin 2048, hrow m c r hr k * A2 m c (ix3 0 k f)

theorem hrow_congr (c : Dev nD) (r r' : ℕ) (hr : r < 16384) (hr' : r' < 16384) (e : r = r') (k : Fin 2048) : hrow m c r hr k = hrow m c r' hr' k := by
  subst e; rfl
theorem gate_congr (c : Dev nD) (r r' : ℕ) (hr : r < 16384) (hr' : r' < 16384) (e : r = r') (f : Fin 5632) : gate m c r hr f = gate m c r' hr' f := by
  subst e; rfl

/-- What the kernel leaves in its array. -/
theorem G6_apply (c : Dev nD) (r : Fin 16384) (f : Fin 5632) :
    G6 m c (ix2 r f) = fin (A4 m c (ix2 0 f))
      (if r.val % 8192 < 2 then 0 else gate m c (r.val - 2) (by omega) f) (A3 m c (ix3 0 0 f))
      (if r.val % 8192 < 1 then 0 else gate m c (r.val - 1) (by omega) f) (A3 m c (ix3 0 1 f))
      (gate m c r.val r.isLt f) (A3 m c (ix3 0 2 f)) (up m c r.val r.isLt f) := by
  have hr := r.isLt
  have hf := f.isLt
  have ht : r.val / 1024 + 16 * (f.val / 512) < cfg0.N := lt_of_lt_of_eq (by omega) N_0.symm
  have hG : G6 m c (ix2 r f) = (outsAt0 m c (r.val / 1024 + 16 * (f.val / 512)) ht).1 (ix2 ⟨r.val % 1024, by omega⟩ ⟨f.val % 512, by omega⟩) := by
    have hp : pt6Of (ix2 r f) = r.val / 1024 + 16 * (f.val / 512) := by
      show 1 * (r.val / 1024 - 0) + 16 * (f.val / 512 - 0) = _
      omega
    have hl : loc6Of (ix2 r f) = ix2 ⟨r.val % 1024, by omega⟩ ⟨f.val % 512, by omega⟩ := by
      funext a; match a with | ⟨0, _⟩ => rfl | ⟨1, _⟩ => rfl
    unfold G6
    rw [dif_pos (lt_of_eq_of_lt hp ht), outsAt0_sweep, hl, fold0_congr m c _ _ _ (by omega) hp]
  rw [hG]
  generalize hT : (⟨r.val / 1024 + 16 * (f.val / 512), ht⟩ : Fin cfg0.N) = t
  have hv : t.val = r.val / 1024 + 16 * (f.val / 512) := by rw [← hT]
  have hm : t.val % 16 = r.val / 1024 := by omega
  have hd : t.val / 16 = f.val / 512 := by omega
  have hQ : (outsAt0 m c (r.val / 1024 + 16 * (f.val / 512)) ht) = outsAt0 m c t.val t.isLt := by rw [← hT]
  have hff : (⟨512 * (t.val / 16) + (f.val % 512), by omega⟩ : Fin 5632) = f := Fin.ext (by dsimp only; omega)
  have s1 : ∀ k : Fin 2048, (outsAt0 m c t.val t.isLt).2.1 (ix2 k ⟨f.val % 512, by omega⟩) = A1 m c (ix3 0 k f) := fun k => ((scr m c k ⟨f.val % 512, by omega⟩ t.val t.isLt).1).trans (congrArg (fun q => A1 m c (ix3 0 k q)) hff)
  have s2 : ∀ k : Fin 2048, (outsAt0 m c t.val t.isLt).2.2 (ix2 k ⟨f.val % 512, by omega⟩) = A2 m c (ix3 0 k f) := fun k => ((scr m c k ⟨f.val % 512, by omega⟩ t.val t.isLt).2).trans (congrArg (fun q => A2 m c (ix3 0 k q)) hff)
  have p5 : ∀ (j : Fin 1024) (r' : ℕ) (hr' : r' < 16384) (e : 1024 * (r.val / 1024) + j.val = r'), k0_pay5 (F := Ideal) (B0 m c t) (outsAt0 m c t.val t.isLt).2.1 (ix2 j ⟨f.val % 512, by omega⟩) = gate m c r' hr' f := by
    intro j r' hr' e
    rw [pay5_apply]
    unfold gate
    exact Finset.sum_congr rfl fun k _ => congrArg₂ (fun x y : EReal => x * y) ((blk0 m c t j k).trans (hrow_congr m c _ _ _ _ (by rw [hm]; exact e) k)) (s1 k)
  have p6 : ∀ (j : Fin 16) (r' : ℕ) (hr' : r' < 16384) (e : r.val / 1024 % 8 ≠ 0 → 16 * (64 * (r.val / 1024) - 1) + j.val = r'), k0_pay6 (F := Ideal) (grid0.coords t) (outsAt0 m c t.val t.isLt).2.1 (B1 m c t) (ix2 j ⟨f.val % 512, by omega⟩) = if r.val / 1024 % 8 = 0 then 0 else gate m c r' hr' f := by
    intro j r' hr' e
    rw [pay6_apply, co t, hm]
    by_cases hc : r.val / 1024 % 8 = 0
    · rw [if_pos hc, if_pos hc]
    · rw [if_neg hc, if_neg hc]
      unfold gate
      exact Finset.sum_congr rfl fun k _ => congrArg₂ (fun x y : EReal => x * y) ((blk1 m c t j k).trans (hrow_congr m c _ _ _ _ (by rw [hm]; exact e hc) k)) (s1 k)
  have u : ∑ k : Fin 2048, (B0 m c t (ix2 ⟨r.val % 1024, by omega⟩ k) : EReal) * ((outsAt0 m c t.val t.isLt).2.2 : FVec Ideal S2048x512 .bf16) (ix2 k ⟨f.val % 512, by omega⟩) = up m c r.val r.isLt f := by
    unfold up
    exact Finset.sum_congr rfl fun k _ => congrArg₂ (fun x y : EReal => x * y) ((blk0 m c t _ k).trans (hrow_congr m c _ _ _ _ (by rw [hm]; dsimp only; omega) k)) (s2 k)
  have b4 : ∀ j : Fin 3, B4 m c t (ix2 j ⟨f.val % 512, by omega⟩) = A3 m c (ix3 0 j f) := fun j => (blk4 m c t j ⟨f.val % 512, by omega⟩).trans (congrArg (fun q => A3 m c (ix3 0 j q)) hff)
  have b5 : B5 m c t (ix2 0 ⟨f.val % 512, by omega⟩) = A4 m c (ix2 0 f) := (blk5 m c t ⟨f.val % 512, by omega⟩).trans (congrArg (fun q => A4 m c (ix2 0 q)) hff)
  rw [hQ, out_eq, body_apply, pay7_apply, p5 ⟨r.val % 1024, by omega⟩ r.val r.isLt (by dsimp only; omega), u, b4 0, b4 1, b4 2, b5]
  have x1 : (if h : r.val % 1024 = 0 then k0_pay6 (F := Ideal) (grid0.coords t) (outsAt0 m c t.val t.isLt).2.1 (B1 m c t) (ix2 15 ⟨f.val % 512, by omega⟩) else k0_pay5 (F := Ideal) (B0 m c t) (outsAt0 m c t.val t.isLt).2.1 (ix2 ⟨r.val % 1024 - 1, by omega⟩ ⟨f.val % 512, by omega⟩))
      = if r.val % 8192 < 1 then 0 else gate m c (r.val - 1) (by omega) f := by
    by_cases h : r.val % 1024 = 0
    · rw [dif_pos h, p6 15 (r.val - 1) (by omega) (by intro q; show _ + 15 = _; omega)]
      by_cases h8 : r.val / 1024 % 8 = 0
      · rw [if_pos h8, if_pos (by omega)]
      · rw [if_neg h8, if_neg (by omega)]
    · rw [dif_neg h, p5 _ (r.val - 1) (by omega) (by dsimp only; omega), if_neg (by omega)]
  have x2 : (if r.val % 1024 = 0 then k0_pay6 (F := Ideal) (grid0.coords t) (outsAt0 m c t.val t.isLt).2.1 (B1 m c t) (ix2 14 ⟨f.val % 512, by omega⟩) else if r.val % 1024 = 1 then k0_pay6 (F := Ideal) (grid0.coords t) (outsAt0 m c t.val t.isLt).2.1 (B1 m c t) (ix2 15 ⟨f.val % 512, by omega⟩) else k0_pay5 (F := Ideal) (B0 m c t) (outsAt0 m c t.val t.isLt).2.1 (ix2 ⟨r.val % 1024 - 2, by omega⟩ ⟨f.val % 512, by omega⟩))
      = if r.val % 8192 < 2 then 0 else gate m c (r.val - 2) (by omega) f := by
    by_cases h : r.val % 1024 = 0
    · rw [if_pos h, p6 14 (r.val - 2) (by omega) (by intro q; show _ + 14 = _; omega)]
      by_cases h8 : r.val / 1024 % 8 = 0
      · rw [if_pos h8, if_pos (by omega)]
      · rw [if_neg h8, if_neg (by omega)]
    · rw [if_neg h]
      by_cases h1 : r.val % 1024 = 1
      · rw [if_pos h1, p6 15 (r.val - 2) (by omega) (by intro q; show _ + 15 = _; omega)]
        by_cases h8 : r.val / 1024 % 8 = 0
        · rw [if_pos h8, if_pos (by omega)]
        · rw [if_neg h8, if_neg (by omega)]
      · rw [if_neg h1, p5 _ (r.val - 2) (by omega) (by dsimp only; omega), if_neg (by omega)]
  rw [← x1, ← x2]

end Cert.FfnActIdeal.Val

end
-- ==== Proof.FfnAct.Claim.lean ====
/-
  The gated convolution's value claim: the two runs.
-/
module

public import proofs.«01_k».proof.Defs
public import proofs.«01_k».proof.Proof.FfnAct.Val
public import proofs.«01_k».proof.Proof.Gen.FfnActRefIdeal.Run

@[expose] public section

set_option maxRecDepth 16384

noncomputable section

namespace Cert.Proof.FfnAct

open Idealize.ShloMosaic Idealize.SL.Sem Idealize.ShloMosaic.Tactic
open Cert.FfnActIdeal.Val

theorem v5_eq (m : (ℓ : Loc Cert.FfnActIdeal.nD Cert.FfnActIdeal.τ Cert.FfnActIdeal.sig) → Buf (Elt Ideal) ℓ) (c : Dev Cert.FfnActIdeal.nD) (r : Fin 16384) (f : Fin 5632) (j : ℕ) (hj : j ≤ 2) (s : Fin 8194) (hs : s.val = j + r.val % 8192) :
    Cert.FfnActRefIdeal.Read.val_main_v5 (F := Ideal) (A0 m c) (A1 m c) (ix3 ⟨r.val / 8192, by omega⟩ s f)
      = if r.val % 8192 < 2 - j then 0 else gate m c (r.val - (2 - j)) (by omega) f := by
  rw [Cert.FfnActRefIdeal.Val.v5_apply]
  by_cases h : r.val % 8192 < 2 - j
  · rw [if_pos h, dif_neg (by omega)]
  · rw [if_neg h, dif_pos (by omega), Cert.FfnActRefIdeal.Val.v2_apply]
    unfold gate hrow
    refine Finset.sum_congr rfl fun k _ => congrArg (fun q => A0 m c q * A1 m c (ix3 0 k f)) ?_
    have e1 : (⟨r.val / 8192, by omega⟩ : Fin 2) = ⟨(r.val - (2 - j)) / 8192, by omega⟩ := Fin.ext (by dsimp only; omega)
    have e2 : (⟨s.val - 2, by omega⟩ : Fin 8192) = ⟨(r.val - (2 - j)) % 8192, by omega⟩ := Fin.ext (by dsimp only; omega)
    rw [e1, e2]

theorem res_eq (m : (ℓ : Loc Cert.FfnActIdeal.nD Cert.FfnActIdeal.τ Cert.FfnActIdeal.sig) → Buf (Elt Ideal) ℓ) (c : Dev Cert.FfnActIdeal.nD) :
    Cert.FfnActRefIdeal.Read.val_main_v34 (F := Ideal) (A0 m c) (A1 m c) (A2 m c) (A3 m c) (A4 m c) = Cert.FfnActIdeal.Value.G6 m c := by
  funext y
  obtain ⟨r, f, rfl⟩ : ∃ (r : Fin 16384) (f : Fin 5632), y = ix2 r f := ⟨y 0, y 1, by funext a; match a with | ⟨0, _⟩ => rfl | ⟨1, _⟩ => rfl⟩
  rw [Cert.FfnActRefIdeal.Val.v34_apply, G6_apply, v5_eq m c r f 0 (by omega) _ (by dsimp only; omega), v5_eq m c r f 1 (by omega) _ rfl, v5_eq m c r f 2 (by omega) _ rfl, if_neg (show ¬ r.val % 8192 < 2 - 2 by omega)]
  rfl

theorem algebraic : Cert.algebraic_FfnActIdeal_FfnActRefIdeal := by
  intro m g m' g' hpre hagree
  refine ⟨fun c => Cert.FfnActIdeal.Value.G6 m c, ?_, ?_⟩
  · exact Cert.FfnActIdeal.Value.run m g
  · refine (θ_run Cert.FfnActRefIdeal.defs _ _).mono (fun _ h c => ⟨(h c).1.trans ?_, (h c).2⟩) (Cert.FfnActRefIdeal.Value.run (F := Ideal) m' g')
    rw [Cert.FfnActRefIdeal.Read.val_main_v34_eq, (hagree c).1, (hagree c).2.1, (hagree c).2.2.1, (hagree c).2.2.2.1, (hagree c).2.2.2.2]
    exact res_eq m c

end Cert.Proof.FfnAct

end
-- ==== Proof.MixOut.Val.lean ====
/-
  The mixing of the two attentions and the projection after it: the kernel's payloads, its blocks and the reference at
  an index.
-/
module

public import proofs.«01_k».proof.Proof.Gen.MixOutIdeal.Value
public import proofs.«01_k».proof.Proof.Gen.MixOutRefIdeal.Read
public import Idealize.ShloMosaic.Lib.Pointwise
public import Idealize.ShloMosaic.Lib.Pipeline.ValueKit

@[expose] public section

set_option maxRecDepth 16384

noncomputable section

namespace Cert.MixOutIdeal.Val

open Cert.MixOutIdeal Cert.MixOutIdeal.Gen Cert.MixOutIdeal.Value
open Idealize.ShloMosaic Idealize.ShloMosaic.TcCoe Idealize.ShloMosaic.Tactic

/-- The logistic function of a gate. -/
def sg (g : EReal) : EReal :=
  Ideal.div (FloatOps.ofBits (F := Ideal) FTy.f32 0x3F800000#32) (FloatOps.ofBits (F := Ideal) FTy.f32 0x3F800000#32 + Ideal.exp (-g))

/-- The normalization of a row, scaled and shifted. -/
def nrm (x : Fin 2048 → EReal) (g sc sh : EReal) (d : Fin 2048) : EReal :=
  x d * FloatOps.rsqrt (F := Ideal) (φ := .f32) (Ideal.div (∑ k : Fin 2048, x k * x k) (FloatOps.ofBits (F := Ideal) FTy.f32 0x45000000#32) + FloatOps.ofBits (F := Ideal) FTy.f32 0x358637BD#32) * g * (FloatOps.ofBits (F := Ideal) FTy.f32 0x3F800000#32 + sc) + sh

theorem pay3_apply (o : Vec Ideal S512x1024 .bf16) (w : Vec Ideal S1024x2048 .bf16) (o' : Vec Ideal S512x1024 .bf16) (w' : Vec Ideal S1024x2048 .bf16)
    (g g' : Vec Ideal S512x2048 .bf16) (i : Fin 512) (e : Fin 2048) :
    k0_pay3 (F := Ideal) o w o' w' g g' (ix2 i e) = sg (g (ix2 i e)) * (∑ h : Fin 1024, (o (ix2 i h) : EReal) * w (ix2 h e))
      + sg (g' (ix2 i e)) * (∑ h : Fin 1024, (o' (ix2 i h) : EReal) * w' (ix2 h e)) := by
  unfold k0_pay3 sg
  pointwise
  rw [zero_sub, zero_sub]

theorem pay4_apply (w : Vec Ideal S2048x2048 .bf16) (e d : Fin 2048) : k0_pay4 (F := Ideal) w (ix2 e d) = w (ix2 e d) := by
  unfold k0_pay4
  pointwise

theorem pay1_apply (y : Vec Ideal S512x2048 .bf16) (w : Vec Ideal S2048x2048 .bf16) (x : Vec Ideal S512x2048 .f32) (g : Vec Ideal S1x1x2048 .f32) (i : Fin 512) (d : Fin 2048) :
    k0_pay1 (F := Ideal) y w (constant S512x2048 .f32 0x00000000#32) x g (ix2 i d)
      = (x (ix2 i d) : EReal) + g (ix3 0 0 d) * ∑ e : Fin 2048, (y (ix2 i e) : EReal) * w (ix2 e d) := by
  unfold k0_pay1
  pointwise

theorem pay2_apply (y : Vec Ideal S512x2048 .bf16) (w : Vec Ideal S2048x2048 .bf16) (z : FVec Ideal S512x2048 .f32) (x : Vec Ideal S512x2048 .f32) (g : Vec Ideal S1x1x2048 .f32)
    (v : Vec Ideal S1x2048 .f32) (sc sh : Vec Ideal S1x1x2048 .f32) (i : Fin 512) (d : Fin 2048) :
    k0_pay2 (F := Ideal) y w z x g v sc sh (ix2 i d) = nrm (fun k => k0_pay1 (F := Ideal) y w z x g (ix2 i k)) (v (ix2 0 d)) (sc (ix3 0 0 d)) (sh (ix3 0 0 d)) d := by
  unfold k0_pay2 nrm
  generalize k0_pay1 (F := Ideal) y w z x g = X
  pointwise

variable (m : (ℓ : Loc nD τ sig) → Buf (Elt Ideal) ℓ)

/-- The arguments. -/
abbrev A0 (c : Dev nD) : FVec Ideal S2x8192x1024 .bf16 := m ((c.tc : Thread nD τ).loc main_arg0)
abbrev A1 (c : Dev nD) : FVec Ideal S2x8192x1024 .bf16 := m ((c.tc : Thread nD τ).loc main_arg1)
abbrev A2 (c : Dev nD) : FVec Ideal S2x8192x4096 .bf16 := m ((c.tc : Thread nD τ).loc main_arg2)
abbrev A3 (c : Dev nD) : FVec Ideal S2x8192x2048 .f32 := m ((c.tc : Thread nD τ).loc main_arg3)
abbrev A4 (c : Dev nD) : FVec Ideal S1x1024x2048 .f32 := m ((c.tc : Thread nD τ).loc main_arg4)
abbrev A5 (c : Dev nD) : FVec Ideal S1x1024x2048 .f32 := m ((c.tc : Thread nD τ).loc main_arg5)
abbrev A6 (c : Dev nD) : FVec Ideal S1x2048x2048 .f32 := m ((c.tc : Thread nD τ).loc main_arg6)
abbrev A7 (c : Dev nD) : FVec Ideal S2x2048 .f32 := m ((c.tc : Thread nD τ).loc main_arg7)
abbrev A8 (c : Dev nD) : FVec Ideal S1x2048 .f32 := m ((c.tc : Thread nD τ).loc main_arg8)
abbrev A9 (c : Dev nD) : FVec Ideal S2x2048 .f32 := m ((c.tc : Thread nD τ).loc main_arg9)
abbrev A10 (c : Dev nD) : FVec Ideal S2x2048 .f32 := m ((c.tc : Thread nD τ).loc main_arg10)

theorem V0_apply (c : Dev nD) (r : Fin 16384) (h : Fin 1024) :
    V m c main_v0 (ix2 r h) = A0 m c (ix3 ⟨r.val / 8192, by omega⟩ ⟨r.val % 8192, by omega⟩ h) := by
  entry_read
  pointwise
theorem V1_apply (c : Dev nD) (r : Fin 16384) (h : Fin 1024) :
    V m c main_v1 (ix2 r h) = A1 m c (ix3 ⟨r.val / 8192, by omega⟩ ⟨r.val % 8192, by omega⟩ h) := by
  entry_read
  pointwise
theorem V2_apply (c : Dev nD) (r : Fin 16384) (e : Fin 4096) :
    V m c main_v2 (ix2 r e) = A2 m c (ix3 ⟨r.val / 8192, by omega⟩ ⟨r.val % 8192, by omega⟩ e) := by
  entry_read
  pointwise
theorem V3_apply (c : Dev nD) (r : Fin 16384) (d : Fin 2048) :
    V m c main_v3 (ix2 r d) = A3 m c (ix3 ⟨r.val / 8192, by omega⟩ ⟨r.val % 8192, by omega⟩ d) := by
  entry_read
  pointwise
theorem V5_apply (c : Dev nD) (h : Fin 1024) (e : Fin 2048) : V m c main_v5 (ix2 h e) = A4 m c (ix3 0 h e) := by
  entry_read
  pointwise
theorem V7_apply (c : Dev nD) (h : Fin 1024) (e : Fin 2048) : V m c main_v7 (ix2 h e) = A5 m c (ix3 0 h e) := by
  entry_read
  pointwise
theorem V9_apply (c : Dev nD) (e d : Fin 2048) : V m c main_v9 (ix2 e d) = A6 m c (ix3 0 e d) := by
  entry_read
  pointwise
theorem V11_apply (c : Dev nD) (b : Fin 2) (d : Fin 2048) : V m c main_v11 (ix3 b 0 d) = A7 m c (ix2 b d) := by
  entry_read
  pointwise
theorem V12_apply (c : Dev nD) (d : Fin 2048) : V m c main_v12 (ix2 0 d) = A8 m c (ix2 0 d) := by
  entry_read
  pointwise
theorem V13_apply (c : Dev nD) (b : Fin 2) (d : Fin 2048) : V m c main_v13 (ix3 b 0 d) = A9 m c (ix2 b d) := by
  entry_read
  pointwise
theorem V14_apply (c : Dev nD) (b : Fin 2) (d : Fin 2048) : V m c main_v14 (ix3 b 0 d) = A10 m c (ix2 b d) := by
  entry_read
  pointwise

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 0] :=
  (by decide +kernel : ∀ t : Fin grid0.N, win0_1.index t = ![t.val, 0])
theorem e2 : ∀ t : Fin cfg0.N, win0_2.index t = ![t.val, 0] :=
  (by decide +kernel : ∀ t : Fin grid0.N, win0_2.index t = ![t.val, 0])
theorem e3 : ∀ t : Fin cfg0.N, win0_3.index t = ![t.val, 1] :=
  (by decide +kernel : ∀ t : Fin grid0.N, win0_3.index t = ![t.val, 1])
theorem e4 : ∀ t : Fin cfg0.N, win0_4.index t = ![t.val, 0] :=
  (by decide +kernel : ∀ t : Fin grid0.N, win0_4.index t = ![t.val, 0])
theorem e5 : ∀ t : Fin cfg0.N, win0_5.index t = ![0, 0] :=
  (by decide +kernel : ∀ t : Fin grid0.N, win0_5.index t = ![0, 0])
theorem e6 : ∀ t : Fin cfg0.N, win0_6.index t = ![0, 0] :=
  (by decide +kernel : ∀ t : Fin grid0.N, win0_6.index t = ![0, 0])
theorem e7 : ∀ t : Fin cfg0.N, win0_7.index t = ![0, 0] :=
  (by decide +kernel : ∀ t : Fin grid0.N, win0_7.index t = ![0, 0])
theorem e8 : ∀ t : Fin cfg0.N, win0_8.index t = ![t.val / 16, 0, 0] :=
  (by decide +kernel : ∀ t : Fin grid0.N, win0_8.index t = ![t.val / 16, 0, 0])
theorem e9 : ∀ t : Fin cfg0.N, win0_9.index t = ![0, 0] :=
  (by decide +kernel : ∀ t : Fin grid0.N, win0_9.index t = ![0, 0])
theorem e10 : ∀ t : Fin cfg0.N, win0_10.index t = ![t.val / 16, 0, 0] :=
  (by decide +kernel : ∀ t : Fin grid0.N, win0_10.index t = ![t.val / 16, 0, 0])
theorem e11 : ∀ t : Fin cfg0.N, win0_11.index t = ![t.val / 16, 0, 0] :=
  (by decide +kernel : ∀ t : Fin grid0.N, win0_11.index t = ![t.val / 16, 0, 0])
theorem e12 : ∀ t : Fin cfg0.N, win0_12.index t = ![t.val, 0] :=
  (by decide +kernel : ∀ t : Fin grid0.N, win0_12.index t = ![t.val, 0])
theorem e13 : ∀ t : Fin cfg0.N, win0_13.index t = ![t.val, 0] :=
  (by decide +kernel : ∀ t : Fin grid0.N, win0_13.index t = ![t.val, 0])

theorem hN (t : Fin cfg0.N) : t.val < 32 := lt_of_lt_of_eq t.isLt N_0

/-- The row of the arrays row `i` of block `t` is. -/
def rw (t : Fin cfg0.N) (i : Fin 512) : Fin 16384 := ⟨512 * t.val + i.val, by have := hN t; omega⟩

abbrev B0 (c : Dev nD) (t : Fin cfg0.N) : FVec Ideal S512x1024 .bf16 := iblk m c 0 t
abbrev B1 (c : Dev nD) (t : Fin cfg0.N) : FVec Ideal S512x1024 .bf16 := iblk m c 1 t
abbrev B2 (c : Dev nD) (t : Fin cfg0.N) : FVec Ideal S512x2048 .bf16 := iblk m c 2 t
abbrev B3 (c : Dev nD) (t : Fin cfg0.N) : FVec Ideal S512x2048 .bf16 := iblk m c 3 t
abbrev B4 (c : Dev nD) (t : Fin cfg0.N) : FVec Ideal S512x2048 .f32 := iblk m c 4 t
abbrev B5 (c : Dev nD) (t : Fin cfg0.N) : FVec Ideal S1024x2048 .bf16 := iblk m c 5 t
abbrev B6 (c : Dev nD) (t : Fin cfg0.N) : FVec Ideal S1024x2048 .bf16 := iblk m c 6 t
abbrev B7 (c : Dev nD) (t : Fin cfg0.N) : FVec Ideal S2048x2048 .bf16 := iblk m c 7 t
abbrev B8 (c : Dev nD) (t : Fin cfg0.N) : FVec Ideal S1x1x2048 .f32 := iblk m c 8 t
abbrev B9 (c : Dev nD) (t : Fin cfg0.N) : FVec Ideal S1x2048 .f32 := iblk m c 9 t
abbrev B10 (c : Dev nD) (t : Fin cfg0.N) : FVec Ideal S1x1x2048 .f32 := iblk m c 10 t
abbrev B11 (c : Dev nD) (t : Fin cfg0.N) : FVec Ideal S1x1x2048 .f32 := iblk m c 11 t

/-- The batch and the position of a row. -/
abbrev bt (r : Fin 16384) : Fin 2 := ⟨r.val / 8192, by omega⟩
abbrev ps (r : Fin 16384) : Fin 8192 := ⟨r.val % 8192, by omega⟩

theorem blk0 (c : Dev nD) (t : Fin cfg0.N) (i : Fin 512) (h : Fin 1024) : B0 m c t (ix2 i h) = A0 m c (ix3 (bt (rw t i)) (ps (rw t i)) h) := by
  refine Eq.trans ?_ (V0_apply m c (rw t i) h)
  show iblk m c 0 t (ix2 i h) = _
  blk_simp [iblk]
  refine congrArg (V m c main_v0) ?_
  unfold rw
  blk_ext [e0 t]
theorem blk1 (c : Dev nD) (t : Fin cfg0.N) (i : Fin 512) (h : Fin 1024) : B1 m c t (ix2 i h) = A1 m c (ix3 (bt (rw t i)) (ps (rw t i)) h) := by
  refine Eq.trans ?_ (V1_apply m c (rw t i) h)
  show iblk m c 1 t (ix2 i h) = _
  blk_simp [iblk]
  refine congrArg (V m c main_v1) ?_
  unfold rw
  blk_ext [e1 t]
theorem blk2 (c : Dev nD) (t : Fin cfg0.N) (i : Fin 512) (e : Fin 2048) : B2 m c t (ix2 i e) = A2 m c (ix3 (bt (rw t i)) (ps (rw t i)) ⟨e.val, by omega⟩) := by
  refine Eq.trans ?_ (V2_apply m c (rw t i) ⟨e.val, by omega⟩)
  show iblk m c 2 t (ix2 i e) = _
  blk_simp [iblk]
  refine congrArg (V m c main_v2) ?_
  unfold rw
  blk_ext [e2 t]
theorem blk3 (c : Dev nD) (t : Fin cfg0.N) (i : Fin 512) (e : Fin 2048) : B3 m c t (ix2 i e) = A2 m c (ix3 (bt (rw t i)) (ps (rw t i)) ⟨2048 + e.val, by omega⟩) := by
  refine Eq.trans ?_ (V2_apply m c (rw t i) ⟨2048 + e.val, by omega⟩)
  show iblk m c 3 t (ix2 i e) = _
  blk_simp [iblk]
  refine congrArg (V m c main_v2) ?_
  unfold rw
  blk_ext [e3 t]
theorem blk4 (c : Dev nD) (t : Fin cfg0.N) (i : Fin 512) (d : Fin 2048) : B4 m c t (ix2 i d) = A3 m c (ix3 (bt (rw t i)) (ps (rw t i)) d) := by
  refine Eq.trans ?_ (V3_apply m c (rw t i) d)
  show iblk m c 4 t (ix2 i d) = _
  blk_simp [iblk]
  refine congrArg (V m c main_v3) ?_
  unfold rw
  blk_ext [e4 t]
theorem blk5 (c : Dev nD) (t : Fin cfg0.N) (h : Fin 1024) (e : Fin 2048) : B5 m c t (ix2 h e) = A4 m c (ix3 0 h e) := by
  refine Eq.trans ?_ (V5_apply m c h e)
  show iblk m c 5 t (ix2 h e) = _
  blk_simp [iblk]
  refine congrArg (V m c main_v5) ?_
  blk_ext [e5 t]
theorem blk6 (c : Dev nD) (t : Fin cfg0.N) (h : Fin 1024) (e : Fin 2048) : B6 m c t (ix2 h e) = A5 m c (ix3 0 h e) := by
  refine Eq.trans ?_ (V7_apply m c h e)
  show iblk m c 6 t (ix2 h e) = _
  blk_simp [iblk]
  refine congrArg (V m c main_v7) ?_
  blk_ext [e6 t]
theorem blk7 (c : Dev nD) (t : Fin cfg0.N) (e d : Fin 2048) : B7 m c t (ix2 e d) = A6 m c (ix3 0 e d) := by
  refine Eq.trans ?_ (V9_apply m c e d)
  show iblk m c 7 t (ix2 e d) = _
  blk_simp [iblk]
  refine congrArg (V m c main_v9) ?_
  blk_ext [e7 t]
theorem bt_rw (t : Fin cfg0.N) (i : Fin 512) : bt (rw t i) = ⟨t.val / 16, by have := hN t; omega⟩ :=
  Fin.ext (by unfold bt rw; dsimp only; omega)
theorem blk8 (c : Dev nD) (t : Fin cfg0.N) (i : Fin 512) (d : Fin 2048) : B8 m c t (ix3 0 0 d) = A7 m c (ix2 (bt (rw t i)) d) := by
  rw [bt_rw]
  refine Eq.trans ?_ (V11_apply m c _ d)
  show iblk m c 8 t (ix3 0 0 d) = _
  blk_simp [iblk]
  refine congrArg (V m c main_v11) ?_
  blk_ext [e8 t]
theorem blk9 (c : Dev nD) (t : Fin cfg0.N) (d : Fin 2048) : B9 m c t (ix2 0 d) = A8 m c (ix2 0 d) := by
  refine Eq.trans ?_ (V12_apply m c d)
  show iblk m c 9 t (ix2 0 d) = _
  blk_simp [iblk]
  refine congrArg (V m c main_v12) ?_
  blk_ext [e9 t]
theorem blk10 (c : Dev nD) (t : Fin cfg0.N) (i : Fin 512) (d : Fin 2048) : B10 m c t (ix3 0 0 d) = A9 m c (ix2 (bt (rw t i)) d) := by
  rw [bt_rw]
  refine Eq.trans ?_ (V13_apply m c _ d)
  show iblk m c 10 t (ix3 0 0 d) = _
  blk_simp [iblk]
  refine congrArg (V m c main_v13) ?_
  blk_ext [e10 t]
theorem blk11 (c : Dev nD) (t : Fin cfg0.N) (i : Fin 512) (d : Fin 2048) : B11 m c t (ix3 0 0 d) = A10 m c (ix2 (bt (rw t i)) d) := by
  rw [bt_rw]
  refine Eq.trans ?_ (V14_apply m c _ d)
  show iblk m c 11 t (ix3 0 0 d) = _
  blk_simp [iblk]
  refine congrArg (V m c main_v14) ?_
  blk_ext [e11 t]

/-- A row of the two attentions mixed. -/
def mrow (c : Dev nD) (r : Fin 16384) (e : Fin 2048) : EReal :=
  sg (A2 m c (ix3 (bt r) (ps r) ⟨e.val, by omega⟩)) * (∑ h : Fin 1024, (A0 m c (ix3 (bt r) (ps r) h) : EReal) * A4 m c (ix3 0 h e))
    + sg (A2 m c (ix3 (bt r) (ps r) ⟨2048 + e.val, by omega⟩)) * (∑ h : Fin 1024, (A1 m c (ix3 (bt r) (ps r) h) : EReal) * A5 m c (ix3 0 h e))
/-- A row of the sum with the projection. -/
def xrow (c : Dev nD) (r : Fin 16384) (d : Fin 2048) : EReal :=
  A3 m c (ix3 (bt r) (ps r) d) + A7 m c (ix2 (bt r) d) * ∑ e : Fin 2048, mrow m c r e * A6 m c (ix3 0 e d)
/-- A row of the normalization. -/
def nrow (c : Dev nD) (r : Fin 16384) (d : Fin 2048) : EReal :=
  nrm (xrow m c r) (A8 m c (ix2 0 d)) (A9 m c (ix2 (bt r) d)) (A10 m c (ix2 (bt r) d)) d

/-- What the kernel leaves in its two arrays. -/
def G12 (c : Dev nD) : FVec Ideal S16384x2048 .f32 := fun y => xrow m c (y 0) (y 1)
def G13 (c : Dev nD) : FVec Ideal S16384x2048 .bf16 := fun y => nrow m c (y 0) (y 1)

theorem mix_eq (c : Dev nD) (t : Fin cfg0.N) (i : Fin 512) (e : Fin 2048) :
    k0_pay3 (F := Ideal) (B0 m c t) (B5 m c t) (B1 m c t) (B6 m c t) (B2 m c t) (B3 m c t) (ix2 i e) = mrow m c (rw t i) e := by
  rw [pay3_apply, blk2, blk3]
  unfold mrow
  refine congrArg₂ (fun x y : EReal => x + y) (congrArg (fun x : EReal => sg _ * x) ?_) (congrArg (fun x : EReal => sg _ * x) ?_)
  · exact Finset.sum_congr rfl fun h _ => congrArg₂ (fun x y : EReal => x * y) (blk0 m c t i h) (blk5 m c t h e)
  · exact Finset.sum_congr rfl fun h _ => congrArg₂ (fun x y : EReal => x * y) (blk1 m c t i h) (blk6 m c t h e)

theorem x_eq (c : Dev nD) (t : Fin cfg0.N) (i : Fin 512) (d : Fin 2048) :
    k0_pay1 (F := Ideal) (k0_pay3 (F := Ideal) (B0 m c t) (B5 m c t) (B1 m c t) (B6 m c t) (B2 m c t) (B3 m c t)) (k0_pay4 (F := Ideal) (B7 m c t)) (constant S512x2048 .f32 0x00000000#32) (B4 m c t) (B8 m c t) (ix2 i d)
      = xrow m c (rw t i) d := by
  rw [pay1_apply, blk4, blk8 m c t i d]
  unfold xrow
  refine congrArg (fun x : EReal => (A3 m c _ : EReal) + (A7 m c _ : EReal) * x) (Finset.sum_congr rfl fun e _ => congrArg₂ (fun x y : EReal => x * y) (mix_eq m c t i e) ?_)
  exact (pay4_apply _ e d).trans (blk7 m c t e d)

theorem n_eq (c : Dev nD) (t : Fin cfg0.N) (i : Fin 512) (d : Fin 2048) :
    k0_pay2 (F := Ideal) (k0_pay3 (F := Ideal) (B0 m c t) (B5 m c t) (B1 m c t) (B6 m c t) (B2 m c t) (B3 m c t)) (k0_pay4 (F := Ideal) (B7 m c t)) (constant S512x2048 .f32 0x00000000#32) (B4 m c t) (B8 m c t) (B9 m c t) (B10 m c t) (B11 m c t) (ix2 i d)
      = nrow m c (rw t i) d := by
  rw [pay2_apply, blk9, blk10 m c t i d, blk11 m c t i d]
  unfold nrow
  exact congrArg (fun x => nrm x _ _ _ d) (funext fun k => x_eq m c t i k)

theorem ix2_surj (n0 n1 : ℕ) (y : (⟨2, ![n0, n1]⟩ : Shape).Idx) : ∃ (i : Fin n0) (d : Fin n1), y = ix2 i d :=
  ⟨y 0, y 1, by funext a; match a with | ⟨0, _⟩ => rfl | ⟨1, _⟩ => rfl⟩

theorem ld0 (X : Vec Ideal S512x1024 .bf16) : View.ld (Val := Elt Ideal) (e' := .bf16) X r0_0 = X :=
  View.ld_unit_lit (Val := Elt Ideal) (S := S512x1024) (e := .bf16) (off := ![0, 0]) _ X (by decide)
theorem ld1 (X : Vec Ideal S1024x2048 .bf16) : View.ld (Val := Elt Ideal) (e' := .bf16) X r0_1 = X :=
  View.ld_unit_lit (Val := Elt Ideal) (S := S1024x2048) (e := .bf16) (off := ![0, 0]) _ X (by decide)
theorem ld2 (X : Vec Ideal S512x2048 .bf16) : View.ld (Val := Elt Ideal) (e' := .bf16) X r0_2 = X :=
  View.ld_unit_lit (Val := Elt Ideal) (S := S512x2048) (e := .bf16) (off := ![0, 0]) _ X (by decide)
theorem ld3 (X : Vec Ideal S2048x2048 .bf16) : View.ld (Val := Elt Ideal) (e' := .bf16) X r0_3 = X :=
  View.ld_unit_lit (Val := Elt Ideal) (S := S2048x2048) (e := .bf16) (off := ![0, 0]) _ X (by decide)

/-- The payloads read their blocks whole. -/
theorem pay6_eq (c : Dev nD) (t : Fin cfg0.N) :
    k0_pay6 (F := Ideal) (B0 m c t) (B1 m c t) (B2 m c t) (B3 m c t) (B4 m c t) (B5 m c t) (B6 m c t) (B7 m c t) (B8 m c t) (B9 m c t) (B10 m c t) (B11 m c t)
      = k0_pay3 (F := Ideal) (B0 m c t) (B5 m c t) (B1 m c t) (B6 m c t) (B2 m c t) (B3 m c t) := by
  unfold k0_pay6
  rw [ld0 (B0 m c t), ld0 (B1 m c t), ld1 (B5 m c t), ld1 (B6 m c t), ld2 (B2 m c t), ld2 (B3 m c t)]
theorem pay7_eq (c : Dev nD) (t : Fin cfg0.N) :
    k0_pay7 (F := Ideal) (B0 m c t) (B1 m c t) (B2 m c t) (B3 m c t) (B4 m c t) (B5 m c t) (B6 m c t) (B7 m c t) (B8 m c t) (B9 m c t) (B10 m c t) (B11 m c t)
      = k0_pay4 (F := Ideal) (B7 m c t) := by
  unfold k0_pay7
  rw [ld3 (B7 m c t)]

theorem emb12 (t : Fin cfg0.N) (i : Fin 512) (d : Fin 2048) :
    ((View.whole main_v15_0).slice (win0_12.rect t)).emb (ix2 i d) = ix2 (rw t i) d := by
  unfold rw
  blk_ext [e12 t]
theorem emb13 (t : Fin cfg0.N) (i : Fin 512) (d : Fin 2048) :
    ((View.whole main_v15_1).slice (win0_13.rect t)).emb (ix2 i d) = ix2 (rw t i) d := by
  unfold rw
  blk_ext [e13 t]

theorem final12 (c : Dev nD) : (dats m 0 c).arrAt 12 cfg0.N = G12 m c := by
  refine (dats m 0 c).arrAt_eq_of_covers 12 _ (by decide +kernel) fun t hf y => ?_
  blk_simp
  rw [after0_12]
  frame_out
  obtain ⟨i, d, rfl⟩ := ix2_surj 512 2048 y
  refine Eq.trans ?_ ((x_eq m c t i d).trans (congrArg (G12 m c) (emb12 t i d)).symm)
  exact congrFun (congrArg₂ (fun a b => k0_pay1 (F := Ideal) a b _ _ _) (pay6_eq m c t) (pay7_eq m c t)) (ix2 i d)

theorem final13 (c : Dev nD) : (dats m 0 c).arrAt 13 cfg0.N = G13 m c := by
  refine (dats m 0 c).arrAt_eq_of_covers 13 _ (by decide +kernel) fun t hf y => ?_
  blk_simp
  rw [after0_13]
  frame_out
  obtain ⟨i, d, rfl⟩ := ix2_surj 512 2048 y
  refine Eq.trans ?_ ((n_eq m c t i d).trans (congrArg (G13 m c) (emb13 t i d)).symm)
  exact congrFun (congrArg₂ (fun a b => k0_pay2 (F := Ideal) a b _ _ _ _ _ _) (pay6_eq m c t) (pay7_eq m c t)) (ix2 i d)

end Cert.MixOutIdeal.Val

namespace Cert.MixOutRefIdeal.Val

open Cert.MixOutRefIdeal Cert.MixOutRefIdeal.Gen Cert.MixOutRefIdeal.Read
open Idealize.ShloMosaic Idealize.ShloMosaic.TcCoe Idealize.ShloMosaic.Tactic
open Cert.MixOutIdeal.Val (sg nrm)

section
variable (x0 x1 : FVec Ideal S2x8192x1024 .bf16) (x2 : FVec Ideal S2x8192x4096 .bf16) (x3 : FVec Ideal S2x8192x2048 .f32) (x4 x5 : FVec Ideal S1x1024x2048 .f32)
  (x6 : FVec Ideal S1x2048x2048 .f32) (x7 : FVec Ideal S2x2048 .f32) (x8 : FVec Ideal S1x2048 .f32) (x9 x10 : FVec Ideal S2x2048 .f32)

theorem v9_apply (b : Fin 2) (s : Fin 8192) (e : Fin 2048) : val_main_v9 (F := Ideal) x2 (ix3 b s e) = sg (x2 (ix3 b s ⟨e.val, by omega⟩)) := by
  unfold sg val_main_v9 val_main_v8 val_main_v7 val_main_v6 val_main_v5 val_main_v4 val_main_v1 val_main_v0 val_main_cst val_main_cst_0
  pointwise
theorem v19_apply (b : Fin 2) (s : Fin 8192) (e : Fin 2048) : val_main_v19 (F := Ideal) x2 (ix3 b s e) = sg (x2 (ix3 b s ⟨2048 + e.val, by omega⟩)) := by
  unfold sg val_main_v19 val_main_v18 val_main_v17 val_main_v16 val_main_v15 val_main_v14 val_main_v3 val_main_v2 val_main_cst_1 val_main_cst_2
  pointwise
theorem v12_apply (b : Fin 2) (s : Fin 8192) (e : Fin 2048) : val_main_v12 (F := Ideal) x0 x4 (ix3 b s e) = ∑ h : Fin 1024, (x0 (ix3 b s h) : EReal) * x4 (ix3 0 h e) := by
  unfold val_main_v12 val_main_v11 val_main_v10
  pointwise
theorem v22_apply (b : Fin 2) (s : Fin 8192) (e : Fin 2048) : val_main_v22 (F := Ideal) x1 x5 (ix3 b s e) = ∑ h : Fin 1024, (x1 (ix3 b s h) : EReal) * x5 (ix3 0 h e) := by
  unfold val_main_v22 val_main_v21 val_main_v20
  pointwise
theorem v24_apply (b : Fin 2) (s : Fin 8192) (e : Fin 2048) :
    val_main_v24 (F := Ideal) x0 x1 x2 x4 x5 (ix3 b s e) = sg (x2 (ix3 b s ⟨e.val, by omega⟩)) * (∑ h : Fin 1024, (x0 (ix3 b s h) : EReal) * x4 (ix3 0 h e))
      + sg (x2 (ix3 b s ⟨2048 + e.val, by omega⟩)) * (∑ h : Fin 1024, (x1 (ix3 b s h) : EReal) * x5 (ix3 0 h e)) := by
  rw [← v9_apply x2 b s e, ← v19_apply x2 b s e, ← v12_apply x0 x4 b s e, ← v22_apply x1 x5 b s e]
  unfold val_main_v24 val_main_v13 val_main_v23
  rfl
theorem v30_apply (b : Fin 2) (s : Fin 8192) (d : Fin 2048) :
    val_main_v30 (F := Ideal) x0 x1 x2 x3 x4 x5 x6 x7 (ix3 b s d)
      = (x3 (ix3 b s d) : EReal) + x7 (ix2 b d) * ∑ e : Fin 2048, (val_main_v24 (F := Ideal) x0 x1 x2 x4 x5 (ix3 b s e) : EReal) * x6 (ix3 0 e d) := by
  unfold val_main_v30 val_main_v29 val_main_v28 val_main_v27 val_main_v26 val_main_v25
  generalize val_main_v24 (F := Ideal) x0 x1 x2 x4 x5 = A
  pointwise
theorem v53_apply (r : Fin 16384) (d : Fin 2048) :
    val_main_v53 (F := Ideal) x0 x1 x2 x3 x4 x5 x6 x7 (ix2 r d) = val_main_v30 (F := Ideal) x0 x1 x2 x3 x4 x5 x6 x7 (ix3 (Cert.MixOutIdeal.Val.bt r) (Cert.MixOutIdeal.Val.ps r) d) := by
  unfold val_main_v53
  generalize val_main_v30 (F := Ideal) x0 x1 x2 x3 x4 x5 x6 x7 = A
  pointwise
theorem v55_apply (r : Fin 16384) (d : Fin 2048) :
    val_main_v55 (F := Ideal) x0 x1 x2 x3 x4 x5 x6 x7 x8 x9 x10 (ix2 r d)
      = nrm (fun k => val_main_v30 (F := Ideal) x0 x1 x2 x3 x4 x5 x6 x7 (ix3 (Cert.MixOutIdeal.Val.bt r) (Cert.MixOutIdeal.Val.ps r) k)) (x8 (ix2 0 d)) (x9 (ix2 (Cert.MixOutIdeal.Val.bt r) d)) (x10 (ix2 (Cert.MixOutIdeal.Val.bt r) d)) d := by
  unfold nrm val_main_v55 val_main_v54 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_3 val_main_cst_4 val_main_cst_5 val_main_cst_6
  generalize val_main_v30 (F := Ideal) x0 x1 x2 x3 x4 x5 x6 x7 = A
  pointwise

end

end Cert.MixOutRefIdeal.Val

end
-- ==== Proof.MixOut.Claim.lean ====
/-
  The value claim of the mixing and its projection: the two runs.
-/
module

public import proofs.«01_k».proof.Defs
public import proofs.«01_k».proof.Proof.MixOut.Val
public import proofs.«01_k».proof.Proof.Gen.MixOutRefIdeal.Run

@[expose] public section

set_option maxRecDepth 16384

noncomputable section

namespace Cert.Proof.MixOut

open Idealize.ShloMosaic Idealize.SL.Sem Idealize.ShloMosaic.Tactic
open Cert.MixOutIdeal.Val

section
variable (m : (ℓ : Loc Cert.MixOutIdeal.nD Cert.MixOutIdeal.τ Cert.MixOutIdeal.sig) → Buf (Elt Ideal) ℓ) (c : Dev Cert.MixOutIdeal.nD)

theorem row_eq (r : Fin 16384) (d : Fin 2048) :
    Cert.MixOutRefIdeal.Read.val_main_v30 (F := Ideal) (A0 m c) (A1 m c) (A2 m c) (A3 m c) (A4 m c) (A5 m c) (A6 m c) (A7 m c) (ix3 (bt r) (ps r) d) = xrow m c r d := by
  rw [Cert.MixOutRefIdeal.Val.v30_apply]
  unfold xrow
  refine congrArg (fun x : EReal => (A3 m c _ : EReal) + (A7 m c _ : EReal) * x) (Finset.sum_congr rfl fun e _ => congrArg (fun x : EReal => x * (A6 m c _ : EReal)) ?_)
  exact Cert.MixOutRefIdeal.Val.v24_apply (A0 m c) (A1 m c) (A2 m c) (A4 m c) (A5 m c) (bt r) (ps r) e

theorem res12_eq :
    Cert.MixOutRefIdeal.Read.val_main_v53 (F := Ideal) (A0 m c) (A1 m c) (A2 m c) (A3 m c) (A4 m c) (A5 m c) (A6 m c) (A7 m c) = G12 m c := by
  funext y
  obtain ⟨r, d, rfl⟩ := ix2_surj 16384 2048 y
  rw [Cert.MixOutRefIdeal.Val.v53_apply, row_eq]
  rfl

theorem res13_eq :
    Cert.MixOutRefIdeal.Read.val_main_v55 (F := Ideal) (A0 m c) (A1 m c) (A2 m c) (A3 m c) (A4 m c) (A5 m c) (A6 m c) (A7 m c) (A8 m c) (A9 m c) (A10 m c) = G13 m c := by
  funext y
  obtain ⟨r, d, rfl⟩ := ix2_surj 16384 2048 y
  rw [Cert.MixOutRefIdeal.Val.v55_apply]
  show _ = nrow m c r d
  unfold nrow
  exact congrArg (fun x => nrm x _ _ _ d) (funext fun k => row_eq m c r k)
end

theorem algebraic : Cert.algebraic_MixOutIdeal_MixOutRefIdeal := by
  intro m g m' g' hpre hagree
  refine ⟨fun c => G12 m c, fun c => G13 m c, ?_, ?_⟩
  · exact (θ_run Cert.MixOutIdeal.defs _ _).mono (fun r h c => ⟨(h c).1.trans (final12 m c), (h c).2.1.trans (final13 m c), (h c).2.2⟩) (Cert.MixOutIdeal.Value.run_blocks (F := Ideal) m g)
  · refine (θ_run Cert.MixOutRefIdeal.defs _ _).mono (fun _ h c => ⟨(h c).1.trans ?_, (h c).2.1.trans ?_, (h c).2.2⟩) (Cert.MixOutRefIdeal.Value.run (F := Ideal) m' g')
    · rw [Cert.MixOutRefIdeal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1]
      exact res12_eq m c
    · rw [Cert.MixOutRefIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      exact res13_eq m c

end Cert.Proof.MixOut

end
-- ==== Proof.InProjT.Val.lean ====
/-
  The transposed projections: the kernel's array and the reference at an index.
-/
module

public import proofs.«01_k».proof.Proof.Gen.InProjTIdeal.Value
public import proofs.«01_k».proof.Proof.Gen.InProjTRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjTIdeal.Val

open Cert.InProjTIdeal Cert.InProjTIdeal.Gen Cert.InProjTIdeal.Value
open Idealize.ShloMosaic Idealize.ShloMosaic.TcCoe Idealize.ShloMosaic.Tactic

/-- The block of weights tile `q` of the result is of. -/
def tl (q : ℕ) : ℕ := q + (if 1 ≤ q then 1 else 0) + (if 3 ≤ q then 1 else 0)
/-- The scale of tile `q` of the result. -/
def sc (q : ℕ) : EReal := if q = 2 then FloatOps.ofBits (F := Ideal) FTy.f32 0x3E0293EE#32 else if q = 0 then FloatOps.ofBits (F := Ideal) FTy.f32 0x3DB504F3#32 else FloatOps.ofBits (F := Ideal) FTy.f32 0x3F800000#32

theorem pay1_apply (x : Vec Ideal S1024x2048 .f32) (j : Fin 1024) (k : Fin 2048) : k0_pay1 (F := Ideal) x (ix2 j k) = x (ix2 j k) := by
  unfold k0_pay1
  pointwise

/-- The scale the body picks from the tile's number. -/
def scW (q : Fin 5) : Ideal FTy.f32 :=
  let arg0 : BitVec 32 := BitVec.ofNat 32 q.val
  Scalar.select (Scalar.cmpi .eq arg0 2#32) (Scalar.ofBits (F := Ideal) .f32 0x3E0293EE#32) (Scalar.select (Scalar.cmpi .eq arg0 0#32) (Scalar.ofBits (F := Ideal) .f32 0x3DB504F3#32) (Scalar.ofBits (F := Ideal) .f32 0x3F800000#32))
theorem scW_eq (q : Fin 5) : scW q = sc q.val := by
  match q with
  | ⟨0, _⟩ => rfl
  | ⟨1, _⟩ => rfl
  | ⟨2, _⟩ => rfl
  | ⟨3, _⟩ => rfl
  | ⟨4, _⟩ => rfl

theorem pay2_apply (i : grid0.Coords) (w x : Vec Ideal S1024x2048 .bf16) (j l : Fin 1024) :
    k0_pay2 (F := Ideal) i w x (ix2 j l) = (∑ k : Fin 2048, (w (ix2 j k) : EReal) * x (ix2 l k)) * sc (i 0).val := by
  rw [← scW_eq (i 0)]
  have h : k0_pay2 (F := Ideal) i w x = truncf .bf16 (mulf (matmul dot_S1024x2048_S1024x2048_S1024x1024_1_1_0_0_n_n none (w : FVec Ideal S1024x2048 .bf16) (shapeCast S1024x2048 x shapeCasts_S1024x2048_S1024x2048 : FVec Ideal S1024x2048 .bf16) (constant S1024x1024 .f32 0x00000000#32) : FVec Ideal S1024x1024 .f32) (broadcast S1024x1024 (scW (i 0)) : FVec Ideal S1024x1024 .f32) : FVec Ideal S1024x1024 .f32) bitsLt_bf16_f32 := rfl
  rw [h]
  generalize scW (i 0) = s
  pointwise

variable (m : (ℓ : Loc nD τ sig) → Buf (Elt Ideal) ℓ)

/-- The arguments. -/
abbrev A0 (c : Dev nD) : FVec Ideal S2x8192x2048 .bf16 := m ((c.tc : Thread nD τ).loc main_arg0)
abbrev A1 (c : Dev nD) : FVec Ideal S1x2048x11344 .f32 := m ((c.tc : Thread nD τ).loc main_arg1)

theorem Vh_apply (c : Dev nD) (r : Fin 16384) (k : Fin 2048) :
    V m c main_v0 (ix2 r k) = A0 m c (ix3 ⟨r.val / 8192, by omega⟩ ⟨r.val % 8192, by omega⟩ k) := by
  entry_read
  pointwise
theorem Vw_apply (c : Dev nD) (l : Fin 11344) (k : Fin 2048) :
    V m c main_v2 (ix2 l k) = A1 m c (ix3 0 k l) := by
  entry_read
  pointwise

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![tl (t.val / 16), 0] :=
  (by decide +kernel : ∀ t : Fin grid0.N, win0_1.index t = ![tl (t.val / 16), 0])
theorem tl_le : ∀ q : Fin 5, 1024 * tl q.val + 1024 ≤ 11344 := by decide +kernel
theorem co : ∀ t : Fin cfg0.N, (grid0.coords t 0).val = t.val / 16 :=
  (by decide +kernel : ∀ t : Fin grid0.N, (grid0.coords t 0).val = t.val / 16)
theorem hN (t : Fin cfg0.N) : t.val < 80 := lt_of_lt_of_eq t.isLt N_0
theorem tl_lt (n : ℕ) (h : n < cfg0.N) (j : ℕ) (hj : j < 1024) : 1024 * tl (n / 16) + j < 11344 := by
  have := tl_le ⟨n / 16, by have := hN ⟨n, h⟩; dsimp only at this; omega⟩
  dsimp only at this
  omega

/-- A row of the rows laid out one after another. -/
def hrow (c : Dev nD) (r : ℕ) (hr : r < 16384) (k : Fin 2048) : EReal := A0 m c (ix3 ⟨r / 8192, by omega⟩ ⟨r % 8192, by omega⟩ k)
/-- A column of the weights the call takes. -/
def wcol (c : Dev nD) (l : ℕ) (hl : l < 11344) (k : Fin 2048) : EReal := A1 m c (ix3 0 k ⟨l, hl⟩)
theorem hrow_congr (c : Dev nD) (r r' : ℕ) (hr : r < 16384) (hr' : r' < 16384) (e : r = r') (k : Fin 2048) : hrow m c r hr k = hrow m c r' hr' k := by
  subst e; rfl
theorem wcol_congr (c : Dev nD) (r r' : ℕ) (hr : r < 11344) (hr' : r' < 11344) (e : r = r') (k : Fin 2048) : wcol m c r hr k = wcol m c r' hr' k := by
  subst e; rfl

abbrev B0 (c : Dev nD) (t : Fin cfg0.N) : FVec Ideal S1024x2048 .bf16 := iblk m c 0 t
abbrev B1 (c : Dev nD) (t : Fin cfg0.N) : FVec Ideal S1024x2048 .f32 := X0_1 m c t

theorem blk0 (c : Dev nD) (t : Fin cfg0.N) (j : Fin 1024) (k : Fin 2048) :
    B0 m c t (ix2 j k) = hrow m c (1024 * (t.val % 16) + j) (by omega) k := by
  refine Eq.trans ?_ (Vh_apply m c ⟨1024 * (t.val % 16) + j, by omega⟩ k)
  show iblk m c 0 t (ix2 j k) = _
  blk_simp [iblk]
  refine congrArg (V m c main_v0) ?_
  blk_ext [e0 t]
theorem blk1 (c : Dev nD) (t : Fin cfg0.N) (j : Fin 1024) (k : Fin 2048) :
    B1 m c t (ix2 j k) = wcol m c (1024 * tl (t.val / 16) + j) (tl_lt t.val t.isLt j j.isLt) k := by
  refine Eq.trans ?_ (Vw_apply m c ⟨1024 * tl (t.val / 16) + j, tl_lt t.val t.isLt j j.isLt⟩ k)
  show X0_1 m c t (ix2 j k) = _
  unfold X0_1 Pipeline.Window.fill
  rw [dif_pos (moved0_1 t _)]
  blk_simp [iblk]
  refine congrArg (V m c main_v2) ?_
  blk_ext [e1 t]

section
variable (c : Dev nD) (t : Fin cfg0.N)

theorem scrA (h0 : t.val % 16 = 0) : (outsAt0 m c t.val t.isLt).2 = k0_pay1 (F := Ideal) (B1 m c t) := by
  rw [outsAt0_A m c t h0]
  frame_out
theorem scrB (h0 : ¬ t.val % 16 = 0) : (outsAt0 m c t.val t.isLt).2 = (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = X
  unfold sout0_B_0
  rfl
theorem out_eq :
    (outsAt0 m c t.val t.isLt).1 = k0_pay2 (F := Ideal) (grid0.coords t) (outsAt0 m c t.val t.isLt).2 (B0 m c t) := by
  by_cases h0 : t.val % 16 = 0
  · rw [scrA m c t h0, outsAt0_A m c t h0]
    frame_out
  · rw [scrB m c t h0, outsAt0_B m c t h0]
    dsimp only
    generalize (outsAt0 m c (t.val - 1) (Nat.lt_of_le_of_lt (Nat.sub_le _ _) t.isLt)).2 = X
    frame_out
    rw [read_unread_whole]
end

/-- What the kept weights hold. -/
theorem scr (c : Dev nD) (k : Fin 2048) (j : Fin 1024) : ∀ (n : ℕ) (h : n < cfg0.N),
    (outsAt0 m c n h).2 (ix2 j k) = wcol m c (1024 * tl (n / 16) + j) (tl_lt n h j j.isLt) k := by
  intro n
  induction n using Nat.strong_induction_on with
  | _ n ih =>
    intro h
    by_cases h0 : n % 16 = 0
    · exact (congrFun (scrA m c ⟨n, h⟩ h0) _).trans ((pay1_apply _ j k).trans (blk1 m c ⟨n, h⟩ j k))
    · have i := ih (n - 1) (by omega) (by omega)
      exact (congrFun (scrB m c ⟨n, h⟩ h0) _).trans (i.trans (wcol_congr m c _ _ _ _ (by rw [show (n - 1) / 16 = n / 16 by omega]) k))

/-- What the kernel leaves in its array. -/
theorem G2_apply (c : Dev nD) (r : Fin 16384) (p : Fin 5120) (hp : 1024 * tl (p.val / 1024) + p.val % 1024 < 11344) :
    G2 m c (ix2 p r) = (∑ k : Fin 2048, hrow m c r.val r.isLt k * wcol m c (1024 * tl (p.val / 1024) + p.val % 1024) hp k : EReal) * sc (p.val / 1024) := by
  have hr := r.isLt
  have hf := p.isLt
  have ht : r.val / 1024 + 16 * (p.val / 1024) < cfg0.N := lt_of_lt_of_eq (by omega) N_0.symm
  have hG : G2 m c (ix2 p r) = (outsAt0 m c (r.val / 1024 + 16 * (p.val / 1024)) ht).1 (ix2 ⟨p.val % 1024, by omega⟩ ⟨r.val % 1024, by omega⟩) := by
    have hp : pt2Of (ix2 p r) = r.val / 1024 + 16 * (p.val / 1024) := by
      show 16 * (p.val / 1024 - 0) + 1 * (r.val / 1024 - 0) = _
      omega
    have hl : loc2Of (ix2 p r) = ix2 ⟨p.val % 1024, by omega⟩ ⟨r.val % 1024, by omega⟩ := by
      funext a; match a with | ⟨0, _⟩ => rfl | ⟨1, _⟩ => rfl
    unfold G2
    rw [dif_pos (lt_of_eq_of_lt hp ht), outsAt0_sweep, hl, fold0_congr m c _ _ _ (by omega) hp]
  rw [hG]
  generalize hT : (⟨r.val / 1024 + 16 * (p.val / 1024), ht⟩ : Fin cfg0.N) = t
  have hv : t.val = r.val / 1024 + 16 * (p.val / 1024) := by rw [← hT]
  have hm : t.val % 16 = r.val / 1024 := by omega
  have hd : t.val / 16 = p.val / 1024 := by omega
  have hQ : (outsAt0 m c (r.val / 1024 + 16 * (p.val / 1024)) ht) = outsAt0 m c t.val t.isLt := by rw [← hT]
  rw [hQ, out_eq, pay2_apply, co t, hd]
  refine congrArg (fun x : EReal => x * sc (p.val / 1024)) (Finset.sum_congr rfl fun k _ => (mul_comm _ _).trans (congrArg₂ (fun x y : EReal => x * y) ((blk0 m c t _ k).trans (hrow_congr m c _ _ _ _ (by rw [hm]; dsimp only; omega) k)) ((scr m c k _ t.val t.isLt).trans (wcol_congr m c _ _ _ _ (by rw [hd]) k))))

end Cert.InProjTIdeal.Val

namespace Cert.InProjTRefIdeal.Val

open Cert.InProjTRefIdeal Cert.InProjTRefIdeal.Gen Cert.InProjTRefIdeal.Read
open Idealize.ShloMosaic Idealize.ShloMosaic.TcCoe Idealize.ShloMosaic.Tactic

section
variable (x0 : FVec Ideal S2x8192x2048 .bf16) (x1 : FVec Ideal S1x2048x11344 .f32)

theorem v3_apply (r : Fin 16384) (l : Fin 11344) :
    val_main_v3 (F := Ideal) x0 x1 (ix2 r l) = ∑ k : Fin 2048, (x0 (ix3 ⟨r.val / 8192, by omega⟩ ⟨r.val % 8192, by omega⟩ k) : EReal) * x1 (ix3 0 k l) := by
  unfold val_main_v3 val_main_v2 val_main_v1 val_main_v0
  pointwise

theorem ofBits_one : FloatOps.ofBits (F := Ideal) FTy.f32 0x3F800000#32 = (1 : EReal) := by
  have h : (constant (F := Ideal) S16384x1024 .f32 0x3F800000#32 : FVec Ideal S16384x1024 .f32) (ix2 0 0) = (1 : EReal) := by pointwise
  exact h

theorem v15_apply (r : Fin 16384) (p : Fin 5120) :
    val_main_v15 (F := Ideal) x0 x1 (ix2 p r) = (val_main_v3 (F := Ideal) x0 x1 (ix2 r ⟨1024 * Cert.InProjTIdeal.Val.tl (p.val / 1024) + p.val % 1024, by unfold Cert.InProjTIdeal.Val.tl; split <;> split <;> omega⟩) : EReal) * Cert.InProjTIdeal.Val.sc (p.val / 1024) := by
  unfold val_main_v15 val_main_v14 val_main_v13 val_main_v12 val_main_v11 val_main_cst_0 val_main_v10 val_main_v9 val_main_cst val_main_v8 val_main_v7 val_main_v6 val_main_v5 val_main_v4
  generalize val_main_v3 (F := Ideal) x0 x1 = A
  pointwise
  have hp := p.isLt
  have scaled : ∀ (q n l : ℕ) (hl : l < 11344) (hl' : 1024 * Cert.InProjTIdeal.Val.tl (p.val / 1024) + p.val % 1024 < 11344) (w : EReal), p.val / 1024 = q → Cert.InProjTIdeal.Val.tl q = n → Cert.InProjTIdeal.Val.sc q = w → l = 1024 * n + p.val % 1024 →
      (A (ix2 r ⟨l, hl⟩) : EReal) * w = (A (ix2 r ⟨1024 * Cert.InProjTIdeal.Val.tl (p.val / 1024) + p.val % 1024, hl'⟩) : EReal) * Cert.InProjTIdeal.Val.sc (p.val / 1024) := by
    intro q n l hl hl' w hq hn hw e
    subst hq
    rw [hw]
    refine congrArg (fun z => (A (ix2 r z) : EReal) * w) (Fin.ext ?_)
    dsimp only
    rw [hn, e]
  by_cases h0 : p.val < 1024
  · rw [dif_pos h0]
    exact scaled 0 0 _ _ _ _ (by omega) rfl rfl (by omega)
  rw [dif_neg h0]
  by_cases h1 : p.val - 1024 < 1024
  · rw [dif_pos h1]
    exact (mul_one _).symm.trans (scaled 1 2 _ _ _ _ (by omega) rfl (by unfold Cert.InProjTIdeal.Val.sc; rw [if_neg (by decide), if_neg (by decide)]; exact ofBits_one) (by omega))
  rw [dif_neg h1]
  by_cases h2 : p.val - 1024 - 1024 < 1024
  · rw [dif_pos h2]
    exact scaled 2 3 _ _ _ _ (by omega) rfl rfl (by omega)
  rw [dif_neg h2]
  by_cases h3 : p.val - 1024 - 1024 - 1024 < 1024
  · rw [dif_pos h3]
    exact (mul_one _).symm.trans (scaled 3 5 _ _ _ _ (by omega) rfl (by unfold Cert.InProjTIdeal.Val.sc; rw [if_neg (by decide), if_neg (by decide)]; exact ofBits_one) (by omega))
  rw [dif_neg h3]
  exact (mul_one _).symm.trans (scaled 4 6 _ _ _ _ (by omega) rfl (by unfold Cert.InProjTIdeal.Val.sc; rw [if_neg (by decide), if_neg (by decide)]; exact ofBits_one) (by omega))

end

end Cert.InProjTRefIdeal.Val

end
-- ==== Proof.InProjT.Claim.lean ====
/-
  The value claim of one projection: the two runs.
-/
module

public import proofs.«01_k».proof.Defs
public import proofs.«01_k».proof.Proof.InProjT.Val
public import proofs.«01_k».proof.Proof.Gen.InProjTRefIdeal.Run

@[expose] public section

set_option maxRecDepth 16384

noncomputable section

namespace Cert.Proof.InProjT

open Idealize.ShloMosaic Idealize.SL.Sem Idealize.ShloMosaic.Tactic
open Cert.InProjTIdeal.Val

theorem res_eq (m : (ℓ : Loc Cert.InProjTIdeal.nD Cert.InProjTIdeal.τ Cert.InProjTIdeal.sig) → Buf (Elt Ideal) ℓ) (c : Dev Cert.InProjTIdeal.nD) :
    Cert.InProjTRefIdeal.Read.val_main_v15 (F := Ideal) (A0 m c) (A1 m c) = Cert.InProjTIdeal.Value.G2 m c := by
  funext y
  obtain ⟨r, p, rfl⟩ : ∃ (r : Fin 16384) (p : Fin 5120), y = ix2 p r := ⟨y 1, y 0, by funext a; match a with | ⟨0, _⟩ => rfl | ⟨1, _⟩ => rfl⟩
  rw [Cert.InProjTRefIdeal.Val.v15_apply, G2_apply m c r p (by unfold tl; split <;> split <;> omega), Cert.InProjTRefIdeal.Val.v3_apply]
  rfl

theorem algebraic : Cert.algebraic_InProjTIdeal_InProjTRefIdeal := by
  intro m g m' g' hpre hagree
  refine ⟨fun c => Cert.InProjTIdeal.Value.G2 m c, ?_, ?_⟩
  · exact Cert.InProjTIdeal.Value.run m g
  · refine (θ_run Cert.InProjTRefIdeal.defs _ _).mono (fun _ h c => ⟨(h c).1.trans ?_, (h c).2⟩) (Cert.InProjTRefIdeal.Value.run (F := Ideal) m' g')
    rw [Cert.InProjTRefIdeal.Read.val_main_v15_eq, (hagree c).1, (hagree c).2]
    exact res_eq m c

end Cert.Proof.InProjT

end
-- ==== Proof.InProj.Val.lean ====
/-
  The two key projections: the kernel's array and the reference at an index.
-/
module

public import proofs.«01_k».proof.Proof.Gen.InProjIdeal.Value
public import proofs.«01_k».proof.Proof.Gen.InProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjIdeal.Val

open Cert.InProjIdeal Cert.InProjIdeal.Gen Cert.InProjIdeal.Value
open Idealize.ShloMosaic Idealize.ShloMosaic.TcCoe Idealize.ShloMosaic.Tactic

/-- The block of weights tile `q` of the result is of. -/
def tl (q : ℕ) : ℕ := 1 + 3 * q

theorem pay1_apply (x : Vec Ideal S1024x2048 .f32) (k : Fin 2048) (j : Fin 1024) : k0_pay1 (F := Ideal) x (ix2 k j) = x (ix2 j k) := by
  unfold k0_pay1
  pointwise
theorem pay2_apply (x : Vec Ideal S1024x2048 .bf16) (w : Vec Ideal S2048x1024 .bf16) (i j : Fin 1024) :
    k0_pay2 (F := Ideal) x w (ix2 i j) = ∑ k : Fin 2048, (x (ix2 i k) : EReal) * w (ix2 k j) := by
  unfold k0_pay2
  pointwise

variable (m : (ℓ : Loc nD τ sig) → Buf (Elt Ideal) ℓ)

/-- The arguments. -/
abbrev A0 (c : Dev nD) : FVec Ideal S2x8192x2048 .bf16 := m ((c.tc : Thread nD τ).loc main_arg0)
abbrev A1 (c : Dev nD) : FVec Ideal S1x2048x11344 .f32 := m ((c.tc : Thread nD τ).loc main_arg1)

theorem Vh_apply (c : Dev nD) (r : Fin 16384) (k : Fin 2048) :
    V m c main_v0 (ix2 r k) = A0 m c (ix3 ⟨r.val / 8192, by omega⟩ ⟨r.val % 8192, by omega⟩ k) := by
  entry_read
  pointwise
theorem Vw_apply (c : Dev nD) (l : Fin 11344) (k : Fin 2048) :
    V m c main_v2 (ix2 l k) = A1 m c (ix3 0 k l) := by
  entry_read
  pointwise

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![tl (t.val / 16), 0] :=
  (by decide +kernel : ∀ t : Fin grid0.N, win0_1.index t = ![tl (t.val / 16), 0])
theorem tl_le : ∀ q : Fin 2, 1024 * tl q.val + 1024 ≤ 11344 := by decide +kernel

theorem hN (t : Fin cfg0.N) : t.val < 32 := lt_of_lt_of_eq t.isLt N_0
theorem tl_lt (n : ℕ) (h : n < cfg0.N) (j : ℕ) (hj : j < 1024) : 1024 * tl (n / 16) + j < 11344 := by
  have := tl_le ⟨n / 16, by have := hN ⟨n, h⟩; dsimp only at this; omega⟩
  dsimp only at this
  omega

/-- A row of the rows laid out one after another. -/
def hrow (c : Dev nD) (r : ℕ) (hr : r < 16384) (k : Fin 2048) : EReal := A0 m c (ix3 ⟨r / 8192, by omega⟩ ⟨r % 8192, by omega⟩ k)
/-- A column of the weights the call takes. -/
def wcol (c : Dev nD) (l : ℕ) (hl : l < 11344) (k : Fin 2048) : EReal := A1 m c (ix3 0 k ⟨l, hl⟩)
theorem hrow_congr (c : Dev nD) (r r' : ℕ) (hr : r < 16384) (hr' : r' < 16384) (e : r = r') (k : Fin 2048) : hrow m c r hr k = hrow m c r' hr' k := by
  subst e; rfl
theorem wcol_congr (c : Dev nD) (r r' : ℕ) (hr : r < 11344) (hr' : r' < 11344) (e : r = r') (k : Fin 2048) : wcol m c r hr k = wcol m c r' hr' k := by
  subst e; rfl

abbrev B0 (c : Dev nD) (t : Fin cfg0.N) : FVec Ideal S1024x2048 .bf16 := iblk m c 0 t
abbrev B1 (c : Dev nD) (t : Fin cfg0.N) : FVec Ideal S1024x2048 .f32 := X0_1 m c t

theorem blk0 (c : Dev nD) (t : Fin cfg0.N) (j : Fin 1024) (k : Fin 2048) :
    B0 m c t (ix2 j k) = hrow m c (1024 * (t.val % 16) + j) (by omega) k := by
  refine Eq.trans ?_ (Vh_apply m c ⟨1024 * (t.val % 16) + j, by omega⟩ k)
  show iblk m c 0 t (ix2 j k) = _
  blk_simp [iblk]
  refine congrArg (V m c main_v0) ?_
  blk_ext [e0 t]
theorem blk1 (c : Dev nD) (t : Fin cfg0.N) (j : Fin 1024) (k : Fin 2048) :
    B1 m c t (ix2 j k) = wcol m c (1024 * tl (t.val / 16) + j) (tl_lt t.val t.isLt j j.isLt) k := by
  refine Eq.trans ?_ (Vw_apply m c ⟨1024 * tl (t.val / 16) + j, tl_lt t.val t.isLt j j.isLt⟩ k)
  show X0_1 m c t (ix2 j k) = _
  unfold X0_1 Pipeline.Window.fill
  rw [dif_pos (moved0_1 t _)]
  blk_simp [iblk]
  refine congrArg (V m c main_v2) ?_
  blk_ext [e1 t]

section
variable (c : Dev nD) (t : Fin cfg0.N)

theorem scrA (h0 : t.val % 16 = 0) : (outsAt0 m c t.val t.isLt).2 = k0_pay1 (F := Ideal) (B1 m c t) := by
  rw [outsAt0_A m c t h0]
  frame_out
theorem scrB (h0 : ¬ t.val % 16 = 0) : (outsAt0 m c t.val t.isLt).2 = (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = X
  unfold sout0_B_0
  rfl
theorem out_eq :
    (outsAt0 m c t.val t.isLt).1 = k0_pay2 (F := Ideal) (B0 m c t) (outsAt0 m c t.val t.isLt).2 := by
  by_cases h0 : t.val % 16 = 0
  · rw [scrA m c t h0, outsAt0_A m c t h0]
    frame_out
  · rw [scrB m c t h0, outsAt0_B m c t h0]
    dsimp only
    generalize (outsAt0 m c (t.val - 1) (Nat.lt_of_le_of_lt (Nat.sub_le _ _) t.isLt)).2 = X
    frame_out
    rw [read_unread_whole]
end

/-- What the kept weights hold. -/
theorem scr (c : Dev nD) (k : Fin 2048) (j : Fin 1024) : ∀ (n : ℕ) (h : n < cfg0.N),
    (outsAt0 m c n h).2 (ix2 k j) = wcol m c (1024 * tl (n / 16) + j) (tl_lt n h j j.isLt) k := by
  intro n
  induction n using Nat.strong_induction_on with
  | _ n ih =>
    intro h
    by_cases h0 : n % 16 = 0
    · exact (congrFun (scrA m c ⟨n, h⟩ h0) _).trans ((pay1_apply _ k j).trans (blk1 m c ⟨n, h⟩ j k))
    · have i := ih (n - 1) (by omega) (by omega)
      exact (congrFun (scrB m c ⟨n, h⟩ h0) _).trans (i.trans (wcol_congr m c _ _ _ _ (by rw [show (n - 1) / 16 = n / 16 by omega]) k))

/-- What the kernel leaves in its array. -/
theorem G2_apply (c : Dev nD) (r : Fin 16384) (p : Fin 2048) (hp : 1024 * tl (p.val / 1024) + p.val % 1024 < 11344) :
    G2 m c (ix2 r p) = (∑ k : Fin 2048, hrow m c r.val r.isLt k * wcol m c (1024 * tl (p.val / 1024) + p.val % 1024) hp k : EReal) := by
  have hr := r.isLt
  have hf := p.isLt
  have ht : r.val / 1024 + 16 * (p.val / 1024) < cfg0.N := lt_of_lt_of_eq (by omega) N_0.symm
  have hG : G2 m c (ix2 r p) = (outsAt0 m c (r.val / 1024 + 16 * (p.val / 1024)) ht).1 (ix2 ⟨r.val % 1024, by omega⟩ ⟨p.val % 1024, by omega⟩) := by
    have hp : pt2Of (ix2 r p) = r.val / 1024 + 16 * (p.val / 1024) := by
      show 1 * (r.val / 1024 - 0) + 16 * (p.val / 1024 - 0) = _
      omega
    have hl : loc2Of (ix2 r p) = ix2 ⟨r.val % 1024, by omega⟩ ⟨p.val % 1024, by omega⟩ := by
      funext a; match a with | ⟨0, _⟩ => rfl | ⟨1, _⟩ => rfl
    unfold G2
    rw [dif_pos (lt_of_eq_of_lt hp ht), outsAt0_sweep, hl, fold0_congr m c _ _ _ (by omega) hp]
  rw [hG]
  generalize hT : (⟨r.val / 1024 + 16 * (p.val / 1024), ht⟩ : Fin cfg0.N) = t
  have hv : t.val = r.val / 1024 + 16 * (p.val / 1024) := by rw [← hT]
  have hm : t.val % 16 = r.val / 1024 := by omega
  have hd : t.val / 16 = p.val / 1024 := by omega
  have hQ : (outsAt0 m c (r.val / 1024 + 16 * (p.val / 1024)) ht) = outsAt0 m c t.val t.isLt := by rw [← hT]
  rw [hQ, out_eq, pay2_apply]
  refine congrArg (fun x : EReal => x) (Finset.sum_congr rfl fun k _ => congrArg₂ (fun x y : EReal => x * y) ((blk0 m c t _ k).trans (hrow_congr m c _ _ _ _ (by rw [hm]; dsimp only; omega) k)) ((scr m c k _ t.val t.isLt).trans (wcol_congr m c _ _ _ _ (by rw [hd]) k)))

end Cert.InProjIdeal.Val

namespace Cert.InProjRefIdeal.Val

open Cert.InProjRefIdeal Cert.InProjRefIdeal.Gen Cert.InProjRefIdeal.Read
open Idealize.ShloMosaic Idealize.ShloMosaic.TcCoe Idealize.ShloMosaic.Tactic

section
variable (x0 : FVec Ideal S2x8192x2048 .bf16) (x1 : FVec Ideal S1x2048x11344 .f32)

theorem v3_apply (r : Fin 16384) (l : Fin 11344) :
    val_main_v3 (F := Ideal) x0 x1 (ix2 r l) = ∑ k : Fin 2048, (x0 (ix3 ⟨r.val / 8192, by omega⟩ ⟨r.val % 8192, by omega⟩ k) : EReal) * x1 (ix3 0 k l) := by
  unfold val_main_v3 val_main_v2 val_main_v1 val_main_v0
  pointwise

theorem v7_apply (r : Fin 16384) (p : Fin 2048) :
    val_main_v7 (F := Ideal) x0 x1 (ix2 r p) = val_main_v3 (F := Ideal) x0 x1 (ix2 r ⟨1024 * Cert.InProjIdeal.Val.tl (p.val / 1024) + p.val % 1024, by unfold Cert.InProjIdeal.Val.tl; omega⟩) := by
  unfold val_main_v7 val_main_v6 val_main_v5 val_main_v4
  generalize val_main_v3 (F := Ideal) x0 x1 = A
  unfold Cert.InProjIdeal.Val.tl
  pointwise
  have hp := p.isLt
  by_cases h : p.val < 1024
  · rw [dif_pos h]
    exact congrArg (fun q => A (ix2 r q)) (Fin.ext (by dsimp only; omega))
  · rw [dif_neg h]
    exact congrArg (fun q => A (ix2 r q)) (Fin.ext (by dsimp only; omega))

end

end Cert.InProjRefIdeal.Val

end
-- ==== Proof.InProj.Claim.lean ====
/-
  The value claim of one projection: the two runs.
-/
module

public import proofs.«01_k».proof.Defs
public import proofs.«01_k».proof.Proof.InProj.Val
public import proofs.«01_k».proof.Proof.Gen.InProjRefIdeal.Run

@[expose] public section

set_option maxRecDepth 16384

noncomputable section

namespace Cert.Proof.InProj

open Idealize.ShloMosaic Idealize.SL.Sem Idealize.ShloMosaic.Tactic
open Cert.InProjIdeal.Val

theorem res_eq (m : (ℓ : Loc Cert.InProjIdeal.nD Cert.InProjIdeal.τ Cert.InProjIdeal.sig) → Buf (Elt Ideal) ℓ) (c : Dev Cert.InProjIdeal.nD) :
    Cert.InProjRefIdeal.Read.val_main_v7 (F := Ideal) (A0 m c) (A1 m c) = Cert.InProjIdeal.Value.G2 m c := by
  funext y
  obtain ⟨r, p, rfl⟩ : ∃ (r : Fin 16384) (p : Fin 2048), y = ix2 r p := ⟨y 0, y 1, by funext a; match a with | ⟨0, _⟩ => rfl | ⟨1, _⟩ => rfl⟩
  rw [Cert.InProjRefIdeal.Val.v7_apply, G2_apply m c r p (by unfold tl; omega), Cert.InProjRefIdeal.Val.v3_apply]
  rfl

theorem algebraic : Cert.algebraic_InProjIdeal_InProjRefIdeal := by
  intro m g m' g' hpre hagree
  refine ⟨fun c => Cert.InProjIdeal.Value.G2 m c, ?_, ?_⟩
  · exact Cert.InProjIdeal.Value.run m g
  · refine (θ_run Cert.InProjRefIdeal.defs _ _).mono (fun _ h c => ⟨(h c).1.trans ?_, (h c).2⟩) (Cert.InProjRefIdeal.Value.run (F := Ideal) m' g')
    rw [Cert.InProjRefIdeal.Read.val_main_v7_eq, (hagree c).1, (hagree c).2]
    exact res_eq m c

end Cert.Proof.InProj

end
-- ==== Proof.InProjGates.Val.lean ====
/-
  The gates' projection: the kernel's array and the reference at an index.
-/
module

public import proofs.«01_k».proof.Proof.Gen.InProjGatesIdeal.Value
public import proofs.«01_k».proof.Proof.Gen.InProjGatesRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjGatesIdeal.Val

open Cert.InProjGatesIdeal Cert.InProjGatesIdeal.Gen Cert.InProjGatesIdeal.Value
open Idealize.ShloMosaic Idealize.ShloMosaic.TcCoe Idealize.ShloMosaic.Tactic

/-- The block of weights tile `q` of the result is of. -/
def tl (q : ℕ) : ℕ := q

theorem pay1_apply (x : Vec Ideal S1024x2048 .f32) (k : Fin 2048) (j : Fin 1024) : k0_pay1 (F := Ideal) x (ix2 k j) = x (ix2 j k) := by
  unfold k0_pay1
  pointwise
theorem pay2_apply (x : Vec Ideal S1024x2048 .bf16) (w : Vec Ideal S2048x1024 .bf16) (i j : Fin 1024) :
    k0_pay2 (F := Ideal) x w (ix2 i j) = ∑ k : Fin 2048, (x (ix2 i k) : EReal) * w (ix2 k j) := by
  unfold k0_pay2
  pointwise

variable (m : (ℓ : Loc nD τ sig) → Buf (Elt Ideal) ℓ)

/-- The arguments. -/
abbrev A0 (c : Dev nD) : FVec Ideal S2x8192x2048 .bf16 := m ((c.tc : Thread nD τ).loc main_arg0)
abbrev A1 (c : Dev nD) : FVec Ideal S1x2048x11344 .f32 := m ((c.tc : Thread nD τ).loc main_arg1)

theorem Vh_apply (c : Dev nD) (r : Fin 16384) (k : Fin 2048) :
    V m c main_v2 (ix2 r k) = A0 m c (ix3 ⟨r.val / 8192, by omega⟩ ⟨r.val % 8192, by omega⟩ k) := by
  entry_read
  pointwise
theorem Vw_apply (c : Dev nD) (l : Fin 4096) (k : Fin 2048) :
    V m c main_v3 (ix2 l k) = A1 m c (ix3 0 k ⟨7248 + l.val, by omega⟩) := by
  entry_read
  pointwise

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![tl (t.val / 16), 0] :=
  (by decide +kernel : ∀ t : Fin grid0.N, win0_1.index t = ![tl (t.val / 16), 0])
theorem tl_le : ∀ q : Fin 4, 1024 * tl q.val + 1024 ≤ 4096 := by decide +kernel

theorem hN (t : Fin cfg0.N) : t.val < 64 := lt_of_lt_of_eq t.isLt N_0
theorem tl_lt (n : ℕ) (h : n < cfg0.N) (j : ℕ) (hj : j < 1024) : 1024 * tl (n / 16) + j < 4096 := by
  have := tl_le ⟨n / 16, by have := hN ⟨n, h⟩; dsimp only at this; omega⟩
  dsimp only at this
  omega

/-- A row of the rows laid out one after another. -/
def hrow (c : Dev nD) (r : ℕ) (hr : r < 16384) (k : Fin 2048) : EReal := A0 m c (ix3 ⟨r / 8192, by omega⟩ ⟨r % 8192, by omega⟩ k)
/-- A column of the weights the call takes. -/
def wcol (c : Dev nD) (l : ℕ) (hl : l < 4096) (k : Fin 2048) : EReal := A1 m c (ix3 0 k ⟨7248 + l, by omega⟩)
theorem hrow_congr (c : Dev nD) (r r' : ℕ) (hr : r < 16384) (hr' : r' < 16384) (e : r = r') (k : Fin 2048) : hrow m c r hr k = hrow m c r' hr' k := by
  subst e; rfl
theorem wcol_congr (c : Dev nD) (r r' : ℕ) (hr : r < 4096) (hr' : r' < 4096) (e : r = r') (k : Fin 2048) : wcol m c r hr k = wcol m c r' hr' k := by
  subst e; rfl

abbrev B0 (c : Dev nD) (t : Fin cfg0.N) : FVec Ideal S1024x2048 .bf16 := iblk m c 0 t
abbrev B1 (c : Dev nD) (t : Fin cfg0.N) : FVec Ideal S1024x2048 .f32 := iblk m c 1 t

theorem blk0 (c : Dev nD) (t : Fin cfg0.N) (j : Fin 1024) (k : Fin 2048) :
    B0 m c t (ix2 j k) = hrow m c (1024 * (t.val % 16) + j) (by omega) k := by
  refine Eq.trans ?_ (Vh_apply m c ⟨1024 * (t.val % 16) + j, by omega⟩ k)
  show iblk m c 0 t (ix2 j k) = _
  blk_simp [iblk]
  refine congrArg (V m c main_v2) ?_
  blk_ext [e0 t]
theorem blk1 (c : Dev nD) (t : Fin cfg0.N) (j : Fin 1024) (k : Fin 2048) :
    B1 m c t (ix2 j k) = wcol m c (1024 * tl (t.val / 16) + j) (tl_lt t.val t.isLt j j.isLt) k := by
  refine Eq.trans ?_ (Vw_apply m c ⟨1024 * tl (t.val / 16) + j, tl_lt t.val t.isLt j j.isLt⟩ k)
  show iblk m c 1 t (ix2 j k) = _
  blk_simp [iblk]
  refine congrArg (V m c main_v3) ?_
  blk_ext [e1 t]

section
variable (c : Dev nD) (t : Fin cfg0.N)

theorem scrA (h0 : t.val % 16 = 0) : (outsAt0 m c t.val t.isLt).2 = k0_pay1 (F := Ideal) (B1 m c t) := by
  rw [outsAt0_A m c t h0]
  frame_out
theorem scrB (h0 : ¬ t.val % 16 = 0) : (outsAt0 m c t.val t.isLt).2 = (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = X
  unfold sout0_B_0
  rfl
theorem out_eq :
    (outsAt0 m c t.val t.isLt).1 = k0_pay2 (F := Ideal) (B0 m c t) (outsAt0 m c t.val t.isLt).2 := by
  by_cases h0 : t.val % 16 = 0
  · rw [scrA m c t h0, outsAt0_A m c t h0]
    frame_out
  · rw [scrB m c t h0, outsAt0_B m c t h0]
    dsimp only
    generalize (outsAt0 m c (t.val - 1) (Nat.lt_of_le_of_lt (Nat.sub_le _ _) t.isLt)).2 = X
    frame_out
    rw [read_unread_whole]
end

/-- What the kept weights hold. -/
theorem scr (c : Dev nD) (k : Fin 2048) (j : Fin 1024) : ∀ (n : ℕ) (h : n < cfg0.N),
    (outsAt0 m c n h).2 (ix2 k j) = wcol m c (1024 * tl (n / 16) + j) (tl_lt n h j j.isLt) k := by
  intro n
  induction n using Nat.strong_induction_on with
  | _ n ih =>
    intro h
    by_cases h0 : n % 16 = 0
    · exact (congrFun (scrA m c ⟨n, h⟩ h0) _).trans ((pay1_apply _ k j).trans (blk1 m c ⟨n, h⟩ j k))
    · have i := ih (n - 1) (by omega) (by omega)
      exact (congrFun (scrB m c ⟨n, h⟩ h0) _).trans (i.trans (wcol_congr m c _ _ _ _ (by rw [show (n - 1) / 16 = n / 16 by omega]) k))

/-- What the kernel leaves in its array. -/
theorem G2_apply (c : Dev nD) (r : Fin 16384) (p : Fin 4096) (hp : 1024 * tl (p.val / 1024) + p.val % 1024 < 4096) :
    G2 m c (ix2 r p) = (∑ k : Fin 2048, hrow m c r.val r.isLt k * wcol m c (1024 * tl (p.val / 1024) + p.val % 1024) hp k : EReal) := by
  have hr := r.isLt
  have hf := p.isLt
  have ht : r.val / 1024 + 16 * (p.val / 1024) < cfg0.N := lt_of_lt_of_eq (by omega) N_0.symm
  have hG : G2 m c (ix2 r p) = (outsAt0 m c (r.val / 1024 + 16 * (p.val / 1024)) ht).1 (ix2 ⟨r.val % 1024, by omega⟩ ⟨p.val % 1024, by omega⟩) := by
    have hp : pt2Of (ix2 r p) = r.val / 1024 + 16 * (p.val / 1024) := by
      show 1 * (r.val / 1024 - 0) + 16 * (p.val / 1024 - 0) = _
      omega
    have hl : loc2Of (ix2 r p) = ix2 ⟨r.val % 1024, by omega⟩ ⟨p.val % 1024, by omega⟩ := by
      funext a; match a with | ⟨0, _⟩ => rfl | ⟨1, _⟩ => rfl
    unfold G2
    rw [dif_pos (lt_of_eq_of_lt hp ht), outsAt0_sweep, hl, fold0_congr m c _ _ _ (by omega) hp]
  rw [hG]
  generalize hT : (⟨r.val / 1024 + 16 * (p.val / 1024), ht⟩ : Fin cfg0.N) = t
  have hv : t.val = r.val / 1024 + 16 * (p.val / 1024) := by rw [← hT]
  have hm : t.val % 16 = r.val / 1024 := by omega
  have hd : t.val / 16 = p.val / 1024 := by omega
  have hQ : (outsAt0 m c (r.val / 1024 + 16 * (p.val / 1024)) ht) = outsAt0 m c t.val t.isLt := by rw [← hT]
  rw [hQ, out_eq, pay2_apply]
  refine congrArg (fun x : EReal => x) (Finset.sum_congr rfl fun k _ => congrArg₂ (fun x y : EReal => x * y) ((blk0 m c t _ k).trans (hrow_congr m c _ _ _ _ (by rw [hm]; dsimp only; omega) k)) ((scr m c k _ t.val t.isLt).trans (wcol_congr m c _ _ _ _ (by rw [hd]) k)))

end Cert.InProjGatesIdeal.Val

namespace Cert.InProjGatesRefIdeal.Val

open Cert.InProjGatesRefIdeal Cert.InProjGatesRefIdeal.Gen Cert.InProjGatesRefIdeal.Read
open Idealize.ShloMosaic Idealize.ShloMosaic.TcCoe Idealize.ShloMosaic.Tactic

section
variable (x0 : FVec Ideal S2x8192x2048 .bf16) (x1 : FVec Ideal S1x2048x11344 .f32)

theorem v3_apply (r : Fin 16384) (l : Fin 11344) :
    val_main_v3 (F := Ideal) x0 x1 (ix2 r l) = ∑ k : Fin 2048, (x0 (ix3 ⟨r.val / 8192, by omega⟩ ⟨r.val % 8192, by omega⟩ k) : EReal) * x1 (ix3 0 k l) := by
  unfold val_main_v3 val_main_v2 val_main_v1 val_main_v0
  pointwise

theorem v5_apply (r : Fin 16384) (p : Fin 4096) :
    val_main_v5 (F := Ideal) x0 x1 (ix2 r p) = val_main_v3 (F := Ideal) x0 x1 (ix2 r ⟨7248 + (1024 * Cert.InProjGatesIdeal.Val.tl (p.val / 1024) + p.val % 1024), by unfold Cert.InProjGatesIdeal.Val.tl; omega⟩) := by
  unfold val_main_v5 val_main_v4
  generalize val_main_v3 (F := Ideal) x0 x1 = A
  pointwise
  exact congrArg (fun q => A (ix2 r q)) (Fin.ext (by unfold Cert.InProjGatesIdeal.Val.tl; dsimp only; omega))

end

end Cert.InProjGatesRefIdeal.Val

end
-- ==== Proof.InProjGates.Claim.lean ====
/-
  The value claim of one projection: the two runs.
-/
module

public import proofs.«01_k».proof.Defs
public import proofs.«01_k».proof.Proof.InProjGates.Val
public import proofs.«01_k».proof.Proof.Gen.InProjGatesRefIdeal.Run

@[expose] public section

set_option maxRecDepth 16384

noncomputable section

namespace Cert.Proof.InProjGates

open Idealize.ShloMosaic Idealize.SL.Sem Idealize.ShloMosaic.Tactic
open Cert.InProjGatesIdeal.Val

theorem res_eq (m : (ℓ : Loc Cert.InProjGatesIdeal.nD Cert.InProjGatesIdeal.τ Cert.InProjGatesIdeal.sig) → Buf (Elt Ideal) ℓ) (c : Dev Cert.InProjGatesIdeal.nD) :
    Cert.InProjGatesRefIdeal.Read.val_main_v5 (F := Ideal) (A0 m c) (A1 m c) = Cert.InProjGatesIdeal.Value.G2 m c := by
  funext y
  obtain ⟨r, p, rfl⟩ : ∃ (r : Fin 16384) (p : Fin 4096), y = ix2 r p := ⟨y 0, y 1, by funext a; match a with | ⟨0, _⟩ => rfl | ⟨1, _⟩ => rfl⟩
  rw [Cert.InProjGatesRefIdeal.Val.v5_apply, G2_apply m c r p (by unfold tl; omega), Cert.InProjGatesRefIdeal.Val.v3_apply]
  rfl

theorem algebraic : Cert.algebraic_InProjGatesIdeal_InProjGatesRefIdeal := by
  intro m g m' g' hpre hagree
  refine ⟨fun c => Cert.InProjGatesIdeal.Value.G2 m c, ?_, ?_⟩
  · exact Cert.InProjGatesIdeal.Value.run m g
  · refine (θ_run Cert.InProjGatesRefIdeal.defs _ _).mono (fun _ h c => ⟨(h c).1.trans ?_, (h c).2⟩) (Cert.InProjGatesRefIdeal.Value.run (F := Ideal) m' g')
    rw [Cert.InProjGatesRefIdeal.Read.val_main_v5_eq, (hagree c).1, (hagree c).2]
    exact res_eq m c

end Cert.Proof.InProjGates

end
-- ==== Proof.NormMod.Val.lean ====
/-
  The first normalization: the kernel's payload, its blocks and the reference at an index.
-/
module

public import proofs.«01_k».proof.Proof.Gen.NormModIdeal.Value
public import proofs.«01_k».proof.Proof.Gen.NormModRefIdeal.Read
public import Idealize.ShloMosaic.Lib.Pointwise
public import Idealize.ShloMosaic.Lib.Pipeline.ValueKit

@[expose] public section

set_option maxRecDepth 16384

noncomputable section

namespace Cert.NormModIdeal.Val

open Cert.NormModIdeal Cert.NormModIdeal.Gen Cert.NormModIdeal.Value
open Idealize.ShloMosaic Idealize.ShloMosaic.TcCoe Idealize.ShloMosaic.Tactic

/-- The normalization of a row, scaled and shifted. -/
def nrm (x : Fin 2048 → EReal) (g sc sh : EReal) (d : Fin 2048) : EReal :=
  x d * FloatOps.rsqrt (F := Ideal) (φ := .f32) (Ideal.div (∑ k : Fin 2048, x k * x k) (FloatOps.ofBits (F := Ideal) FTy.f32 0x45000000#32) + FloatOps.ofBits (F := Ideal) FTy.f32 0x358637BD#32) * g * (FloatOps.ofBits (F := Ideal) FTy.f32 0x3F800000#32 + sc) + sh

theorem pay1_apply (x : Vec Ideal S1024x2048 .f32) (v : Vec Ideal S1x2048 .f32) (sc sh : Vec Ideal S1x1x2048 .f32) (i : Fin 1024) (d : Fin 2048) :
    k0_pay1 (F := Ideal) x v sc sh (ix2 i d) = nrm (fun k => x (ix2 i k)) (v (ix2 0 d)) (sc (ix3 0 0 d)) (sh (ix3 0 0 d)) d := by
  unfold k0_pay1 nrm
  pointwise

variable (m : (ℓ : Loc nD τ sig) → Buf (Elt Ideal) ℓ)

/-- The arguments. -/
abbrev A0 (c : Dev nD) : FVec Ideal S2x8192x2048 .f32 := m ((c.tc : Thread nD τ).loc main_arg0)
abbrev A1 (c : Dev nD) : FVec Ideal S1x2048 .f32 := m ((c.tc : Thread nD τ).loc main_arg1)
abbrev A2 (c : Dev nD) : FVec Ideal S2x2048 .f32 := m ((c.tc : Thread nD τ).loc main_arg2)
abbrev A3 (c : Dev nD) : FVec Ideal S2x2048 .f32 := m ((c.tc : Thread nD τ).loc main_arg3)

/-- The batch and the position of a row. -/
abbrev bt (r : Fin 16384) : Fin 2 := ⟨r.val / 8192, by omega⟩
abbrev ps (r : Fin 16384) : Fin 8192 := ⟨r.val % 8192, by omega⟩

theorem V0_apply (c : Dev nD) (r : Fin 16384) (d : Fin 2048) : V m c main_v0 (ix2 r d) = A0 m c (ix3 (bt r) (ps r) d) := by
  entry_read
  pointwise
theorem V2_apply (c : Dev nD) (d : Fin 2048) : V m c main_v2 (ix2 0 d) = A1 m c (ix2 0 d) := by
  entry_read
  pointwise
theorem V3_apply (c : Dev nD) (b : Fin 2) (d : Fin 2048) : V m c main_v3 (ix3 b 0 d) = A2 m c (ix2 b d) := by
  entry_read
  pointwise
theorem V4_apply (c : Dev nD) (b : Fin 2) (d : Fin 2048) : V m c main_v4 (ix3 b 0 d) = A3 m c (ix2 b d) := by
  entry_read
  pointwise

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val / 8, 0, 0] :=
  (by decide +kernel : ∀ t : Fin grid0.N, win0_2.index t = ![t.val / 8, 0, 0])
theorem e3 : ∀ t : Fin cfg0.N, win0_3.index t = ![t.val / 8, 0, 0] :=
  (by decide +kernel : ∀ t : Fin grid0.N, win0_3.index t = ![t.val / 8, 0, 0])
theorem e4 : ∀ t : Fin cfg0.N, win0_4.index t = ![t.val, 0] :=
  (by decide +kernel : ∀ t : Fin grid0.N, win0_4.index t = ![t.val, 0])

theorem hN (t : Fin cfg0.N) : t.val < 16 := lt_of_lt_of_eq t.isLt N_0

/-- The row of the arrays row `i` of block `t` is. -/
def rw (t : Fin cfg0.N) (i : Fin 1024) : Fin 16384 := ⟨1024 * t.val + i.val, by have := hN t; omega⟩

abbrev B0 (c : Dev nD) (t : Fin cfg0.N) : FVec Ideal S1024x2048 .f32 := iblk m c 0 t
abbrev B1 (c : Dev nD) (t : Fin cfg0.N) : FVec Ideal S1x2048 .f32 := iblk m c 1 t
abbrev B2 (c : Dev nD) (t : Fin cfg0.N) : FVec Ideal S1x1x2048 .f32 := iblk m c 2 t
abbrev B3 (c : Dev nD) (t : Fin cfg0.N) : FVec Ideal S1x1x2048 .f32 := iblk m c 3 t

theorem bt_rw (t : Fin cfg0.N) (i : Fin 1024) : bt (rw t i) = ⟨t.val / 8, by have := hN t; omega⟩ :=
  Fin.ext (by unfold bt rw; dsimp only; omega)
theorem blk0 (c : Dev nD) (t : Fin cfg0.N) (i : Fin 1024) (d : Fin 2048) : B0 m c t (ix2 i d) = A0 m c (ix3 (bt (rw t i)) (ps (rw t i)) d) := by
  refine Eq.trans ?_ (V0_apply m c (rw t i) d)
  show iblk m c 0 t (ix2 i d) = _
  blk_simp [iblk]
  refine congrArg (V m c main_v0) ?_
  unfold rw
  blk_ext [e0 t]
theorem blk1 (c : Dev nD) (t : Fin cfg0.N) (d : Fin 2048) : B1 m c t (ix2 0 d) = A1 m c (ix2 0 d) := by
  refine Eq.trans ?_ (V2_apply m c d)
  show iblk m c 1 t (ix2 0 d) = _
  blk_simp [iblk]
  refine congrArg (V m c main_v2) ?_
  blk_ext [e1 t]
theorem blk2 (c : Dev nD) (t : Fin cfg0.N) (i : Fin 1024) (d : Fin 2048) : B2 m c t (ix3 0 0 d) = A2 m c (ix2 (bt (rw t i)) d) := by
  rw [bt_rw]
  refine Eq.trans ?_ (V3_apply m c _ d)
  show iblk m c 2 t (ix3 0 0 d) = _
  blk_simp [iblk]
  refine congrArg (V m c main_v3) ?_
  blk_ext [e2 t]
theorem blk3 (c : Dev nD) (t : Fin cfg0.N) (i : Fin 1024) (d : Fin 2048) : B3 m c t (ix3 0 0 d) = A3 m c (ix2 (bt (rw t i)) d) := by
  rw [bt_rw]
  refine Eq.trans ?_ (V4_apply m c _ d)
  show iblk m c 3 t (ix3 0 0 d) = _
  blk_simp [iblk]
  refine congrArg (V m c main_v4) ?_
  blk_ext [e3 t]

/-- A row of the normalization. -/
def nrow (c : Dev nD) (r : Fin 16384) (d : Fin 2048) : EReal :=
  nrm (fun k => A0 m c (ix3 (bt r) (ps r) k)) (A1 m c (ix2 0 d)) (A2 m c (ix2 (bt r) d)) (A3 m c (ix2 (bt r) d)) d

/-- What the kernel leaves in its array. -/
def G4 (c : Dev nD) : FVec Ideal S16384x2048 .bf16 := fun y => nrow m c (y 0) (y 1)

theorem n_eq (c : Dev nD) (t : Fin cfg0.N) (i : Fin 1024) (d : Fin 2048) :
    k0_pay1 (F := Ideal) (B0 m c t) (B1 m c t) (B2 m c t) (B3 m c t) (ix2 i d) = nrow m c (rw t i) d := by
  rw [pay1_apply, blk1, blk2 m c t i d, blk3 m c t i d]
  unfold nrow
  exact congrArg (fun x => nrm x _ _ _ d) (funext fun k => blk0 m c t i k)

theorem ix2_surj (n0 n1 : ℕ) (y : (⟨2, ![n0, n1]⟩ : Shape).Idx) : ∃ (i : Fin n0) (d : Fin n1), y = ix2 i d :=
  ⟨y 0, y 1, by funext a; match a with | ⟨0, _⟩ => rfl | ⟨1, _⟩ => rfl⟩

theorem emb4 (t : Fin cfg0.N) (i : Fin 1024) (d : Fin 2048) :
    ((View.whole main_v5).slice (win0_4.rect t)).emb (ix2 i d) = ix2 (rw t i) d := by
  unfold rw
  blk_ext [e4 t]

theorem final4 (c : Dev nD) : (dats m 0 c).arrAt 4 cfg0.N = G4 m c := by
  refine (dats m 0 c).arrAt_eq_of_covers 4 _ (by decide +kernel) fun t hf y => ?_
  blk_simp
  rw [after0_4]
  frame_out
  obtain ⟨i, d, rfl⟩ := ix2_surj 1024 2048 y
  exact (n_eq m c t i d).trans (congrArg (G4 m c) (emb4 t i d)).symm

end Cert.NormModIdeal.Val

namespace Cert.NormModRefIdeal.Val

open Cert.NormModRefIdeal Cert.NormModRefIdeal.Gen Cert.NormModRefIdeal.Read
open Idealize.ShloMosaic Idealize.ShloMosaic.TcCoe Idealize.ShloMosaic.Tactic
open Cert.NormModIdeal.Val (nrm)

section
variable (x0 : FVec Ideal S2x8192x2048 .f32) (x1 : FVec Ideal S1x2048 .f32) (x2 x3 : FVec Ideal S2x2048 .f32)

theorem v23_apply (r : Fin 16384) (d : Fin 2048) :
    val_main_v23 (F := Ideal) x0 x1 x2 x3 (ix2 r d)
      = nrm (fun k => x0 (ix3 (Cert.NormModIdeal.Val.bt r) (Cert.NormModIdeal.Val.ps r) k)) (x1 (ix2 0 d)) (x2 (ix2 (Cert.NormModIdeal.Val.bt r) d)) (x3 (ix2 (Cert.NormModIdeal.Val.bt r) d)) d := by
  unfold nrm val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

end

end Cert.NormModRefIdeal.Val

end
-- ==== Proof.NormMod.Claim.lean ====
/-
  The value claim of the first normalization: the two runs.
-/
module

public import proofs.«01_k».proof.Defs
public import proofs.«01_k».proof.Proof.NormMod.Val
public import proofs.«01_k».proof.Proof.Gen.NormModRefIdeal.Run

@[expose] public section

set_option maxRecDepth 16384

noncomputable section

namespace Cert.Proof.NormMod

open Idealize.ShloMosaic Idealize.SL.Sem Idealize.ShloMosaic.Tactic
open Cert.NormModIdeal.Val

theorem res_eq (m : (ℓ : Loc Cert.NormModIdeal.nD Cert.NormModIdeal.τ Cert.NormModIdeal.sig) → Buf (Elt Ideal) ℓ) (c : Dev Cert.NormModIdeal.nD) :
    Cert.NormModRefIdeal.Read.val_main_v23 (F := Ideal) (A0 m c) (A1 m c) (A2 m c) (A3 m c) = G4 m c := by
  funext y
  obtain ⟨r, d, rfl⟩ := ix2_surj 16384 2048 y
  exact Cert.NormModRefIdeal.Val.v23_apply (A0 m c) (A1 m c) (A2 m c) (A3 m c) r d

theorem algebraic : Cert.algebraic_NormModIdeal_NormModRefIdeal := by
  intro m g m' g' hpre hagree
  refine ⟨fun c => G4 m c, ?_, ?_⟩
  · exact (θ_run Cert.NormModIdeal.defs _ _).mono (fun r h c => ⟨(h c).1.trans (final4 m c), (h c).2⟩) (Cert.NormModIdeal.Value.run_blocks (F := Ideal) m g)
  · refine (θ_run Cert.NormModRefIdeal.defs _ _).mono (fun _ h c => ⟨(h c).1.trans ?_, (h c).2⟩) (Cert.NormModRefIdeal.Value.run (F := Ideal) m' g')
    rw [Cert.NormModRefIdeal.Read.val_main_v23_eq, (hagree c).1, (hagree c).2.1, (hagree c).2.2.1, (hagree c).2.2.2]
    exact res_eq m c

end Cert.Proof.NormMod

end
-- ==== Proof.InProjIdx.Val.lean ====
/-
  The projection of the indexer's keys and weights: the kernel's array and the reference at an index.
-/
module

public import proofs.«01_k».proof.Proof.Gen.InProjIdxIdeal.Value
public import proofs.«01_k».proof.Proof.Gen.InProjIdxRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjIdxIdeal.Val

open Cert.InProjIdxIdeal Cert.InProjIdxIdeal.Gen Cert.InProjIdxIdeal.Value
open Idealize.ShloMosaic Idealize.ShloMosaic.TcCoe Idealize.ShloMosaic.Tactic

theorem pay1_apply (x : Vec Ideal S256x2048 .f32) (k : Fin 2048) (j : Fin 256) : k0_pay1 (F := Ideal) x (ix2 k j) = x (ix2 j k) := by
  unfold k0_pay1
  pointwise
theorem pay2_apply (x : Vec Ideal S1024x2048 .bf16) (w : Vec Ideal S2048x256 .bf16) (i : Fin 1024) (j : Fin 256) :
    k0_pay2 (F := Ideal) x w (ix2 i j) = ∑ k : Fin 2048, (x (ix2 i k) : EReal) * w (ix2 k j) := by
  unfold k0_pay2
  pointwise

variable (m : (ℓ : Loc nD τ sig) → Buf (Elt Ideal) ℓ)

/-- The arguments. -/
abbrev A0 (c : Dev nD) : FVec Ideal S2x8192x2048 .bf16 := m ((c.tc : Thread nD τ).loc main_arg0)
abbrev A1 (c : Dev nD) : FVec Ideal S1x2048x11344 .f32 := m ((c.tc : Thread nD τ).loc main_arg1)

/-- The weights of column `p` of the result: the keys' columns twice, the indexer's weights, then zeros. -/
def wc (w : Fin 2048 → Fin 11344 → EReal) (p : Fin 256) (k : Fin 2048) : EReal :=
  if h : p.val < 64 then w k ⟨7168 + p.val, by omega⟩
  else if h : p.val - 64 < 64 then w k ⟨7168 + (p.val - 64), by omega⟩
  else if h : p.val - 64 - 64 < 16 then w k ⟨7232 + (p.val - 64 - 64), by omega⟩
  else 0

theorem Vh_apply (c : Dev nD) (r : Fin 16384) (k : Fin 2048) :
    V m c main_v6 (ix2 r k) = A0 m c (ix3 ⟨r.val / 8192, by omega⟩ ⟨r.val % 8192, by omega⟩ k) := by
  entry_read
  pointwise
theorem V2_apply (c : Dev nD) (p : Fin 64) (k : Fin 2048) : V m c main_v2 (ix2 p k) = A1 m c (ix3 0 k ⟨7168 + p.val, by omega⟩) := by
  entry_read
  pointwise
theorem V3_apply (c : Dev nD) (p : Fin 16) (k : Fin 2048) : V m c main_v3 (ix2 p k) = A1 m c (ix3 0 k ⟨7232 + p.val, by omega⟩) := by
  entry_read
  pointwise
theorem V4_apply (c : Dev nD) (p : Fin 112) (k : Fin 2048) : V m c main_v4 (ix2 p k) = (0 : EReal) := by
  entry_read
  pointwise
/-- The weights the call takes are those pieces joined. -/
theorem V5_eq (c : Dev nD) : (V m c main_v5 : FVec Ideal S256x2048 .f32) = concatenate S256x2048 0 [⟨S64x2048, (V m c main_v2 : FVec Ideal S64x2048 .f32)⟩, ⟨S64x2048, (V m c main_v2 : FVec Ideal S64x2048 .f32)⟩, ⟨S16x2048, (V m c main_v3 : FVec Ideal S16x2048 .f32)⟩, ⟨S112x2048, (V m c main_v4 : FVec Ideal S112x2048 .f32)⟩] concatenates_S64x2048_S64x2048_S16x2048_S112x2048_S256x2048_d0 := by
  have h5 : ∀ σ : Valuation τ sig (Elt Ideal), StableHlo.after ((hostOps0 (F := Ideal)).drop 6) σ main_v5 = concatenate S256x2048 0 [⟨S64x2048, (σ main_v2 : FVec Ideal S64x2048 .f32)⟩, ⟨S64x2048, (σ main_v2 : FVec Ideal S64x2048 .f32)⟩, ⟨S16x2048, (σ main_v3 : FVec Ideal S16x2048 .f32)⟩, ⟨S112x2048, (σ main_v4 : FVec Ideal S112x2048 .f32)⟩] concatenates_S64x2048_S64x2048_S16x2048_S112x2048_S256x2048_d0 := fun σ => by
    simp only [hostOps0, List.drop_succ_cons, List.drop_zero, StableHlo.after_cons, StableHlo.after_nil]
    rw [StableHlo.reshape_result_ne]; rotate_left; decide
    exact StableHlo.nary_result ..
  have hb : ∀ (σ : Valuation τ sig (Elt Ideal)) (b : Ref sig .tc), b ≠ main_v6 → b ≠ main_v5 → StableHlo.after ((hostOps0 (F := Ideal)).drop 6) σ b = σ b := fun σ b n6 n5 => by
    simp only [hostOps0, List.drop_succ_cons, List.drop_zero, StableHlo.after_cons, StableHlo.after_nil]
    rw [StableHlo.reshape_result_ne]; rotate_left; exact n6
    exact StableHlo.nary_result_ne _ _ _ _ _ _ n5
  have hV : ∀ b : Ref sig .tc, V m c b = StableHlo.after ((hostOps0 (F := Ideal)).drop 6) (StableHlo.after ((hostOps0 (F := Ideal)).take 6) (fun b => m (c, b))) b := fun b => rfl
  rw [hV main_v5, hV main_v2, hV main_v3, hV main_v4]
  generalize StableHlo.after ((hostOps0 (F := Ideal)).take 6) (fun b => m (c, b)) = σ
  rw [h5 σ, hb σ main_v2 (by decide) (by decide), hb σ main_v3 (by decide) (by decide), hb σ main_v4 (by decide) (by decide)]
theorem Vw_apply (c : Dev nD) (p : Fin 256) (k : Fin 2048) :
    V m c main_v5 (ix2 p k) = wc (fun k l => A1 m c (ix3 0 k l)) p k := by
  refine (congrFun (V5_eq m c) (ix2 p k)).trans ?_
  have h2 := fun p => V2_apply m c p k
  have h3 := fun p => V3_apply m c p k
  have h4 := fun p => V4_apply m c p k
  generalize (V m c main_v2 : FVec Ideal S64x2048 .f32) = X at *
  generalize (V m c main_v3 : FVec Ideal S16x2048 .f32) = Y at *
  generalize (V m c main_v4 : FVec Ideal S112x2048 .f32) = Z at *
  unfold wc
  pointwise
  by_cases h : p.val < 64
  · simp only [dif_pos h]
    exact h2 ⟨p.val, h⟩
  · simp only [dif_neg h]
    by_cases h1 : p.val - 64 < 64
    · simp only [dif_pos h1]
      exact h2 ⟨p.val - 64, h1⟩
    · simp only [dif_neg h1]
      by_cases h6 : p.val - 64 - 64 < 16
      · simp only [dif_pos h6]
        exact h3 ⟨p.val - 64 - 64, h6⟩
      · simp only [dif_neg h6]
        exact h4 ⟨p.val - 64 - 64 - 16, by omega⟩

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])

theorem hN (t : Fin cfg0.N) : t.val < 16 := lt_of_lt_of_eq t.isLt N_0

/-- A row of the rows laid out one after another. -/
def hrow (c : Dev nD) (r : ℕ) (hr : r < 16384) (k : Fin 2048) : EReal := A0 m c (ix3 ⟨r / 8192, by omega⟩ ⟨r % 8192, by omega⟩ k)
/-- A column of the weights the call takes. -/
def wcol (c : Dev nD) (p : Fin 256) (k : Fin 2048) : EReal := wc (fun k l => A1 m c (ix3 0 k l)) p k
theorem hrow_congr (c : Dev nD) (r r' : ℕ) (hr : r < 16384) (hr' : r' < 16384) (e : r = r') (k : Fin 2048) : hrow m c r hr k = hrow m c r' hr' k := by
  subst e; rfl

abbrev B0 (c : Dev nD) (t : Fin cfg0.N) : FVec Ideal S1024x2048 .bf16 := iblk m c 0 t
abbrev B1 (c : Dev nD) (t : Fin cfg0.N) : FVec Ideal S256x2048 .f32 := iblk m c 1 t

theorem blk0 (c : Dev nD) (t : Fin cfg0.N) (j : Fin 1024) (k : Fin 2048) :
    B0 m c t (ix2 j k) = hrow m c (1024 * t.val + j) (by have := hN t; omega) k := by
  refine Eq.trans ?_ (Vh_apply m c ⟨1024 * t.val + j, by have := hN t; omega⟩ k)
  show iblk m c 0 t (ix2 j k) = _
  blk_simp [iblk]
  refine congrArg (V m c main_v6) ?_
  blk_ext [e0 t]
theorem blk1 (c : Dev nD) (t : Fin cfg0.N) (j : Fin 256) (k : Fin 2048) :
    B1 m c t (ix2 j k) = wcol m c j k := by
  refine Eq.trans ?_ (Vw_apply m c j k)
  show iblk m c 1 t (ix2 j k) = _
  blk_simp [iblk]
  refine congrArg (V m c main_v5) ?_
  blk_ext [e1 t]

section
variable (c : Dev nD) (t : Fin cfg0.N)

theorem scrA (h0 : t.val % 16 = 0) : (outsAt0 m c t.val t.isLt).2 = k0_pay1 (F := Ideal) (B1 m c t) := by
  rw [outsAt0_A m c t h0]
  frame_out
theorem scrB (h0 : ¬ t.val % 16 = 0) : (outsAt0 m c t.val t.isLt).2 = (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = X
  unfold sout0_B_0
  rfl
theorem out_eq :
    (outsAt0 m c t.val t.isLt).1 = k0_pay2 (F := Ideal) (B0 m c t) (outsAt0 m c t.val t.isLt).2 := by
  by_cases h0 : t.val % 16 = 0
  · rw [scrA m c t h0, outsAt0_A m c t h0]
    frame_out
  · rw [scrB m c t h0, outsAt0_B m c t h0]
    dsimp only
    generalize (outsAt0 m c (t.val - 1) (Nat.lt_of_le_of_lt (Nat.sub_le _ _) t.isLt)).2 = X
    frame_out
    rw [read_unread_whole]
end

/-- What the kept weights hold. -/
theorem scr (c : Dev nD) (k : Fin 2048) (j : Fin 256) : ∀ (n : ℕ) (h : n < cfg0.N),
    (outsAt0 m c n h).2 (ix2 k j) = wcol m c j k := by
  intro n
  induction n using Nat.strong_induction_on with
  | _ n ih =>
    intro h
    by_cases h0 : n % 16 = 0
    · exact (congrFun (scrA m c ⟨n, h⟩ h0) _).trans ((pay1_apply _ k j).trans (blk1 m c ⟨n, h⟩ j k))
    · exact (congrFun (scrB m c ⟨n, h⟩ h0) _).trans (ih (n - 1) (by omega) (by omega))

/-- What the kernel leaves in its array. -/
theorem G2_apply (c : Dev nD) (r : Fin 16384) (p : Fin 256) :
    G2 m c (ix2 r p) = (∑ k : Fin 2048, hrow m c r.val r.isLt k * wcol m c p k : EReal) := by
  have hr := r.isLt
  have ht : r.val / 1024 < cfg0.N := lt_of_lt_of_eq (by omega) N_0.symm
  have hG : G2 m c (ix2 r p) = (outsAt0 m c (r.val / 1024) ht).1 (ix2 ⟨r.val % 1024, by omega⟩ p) := by
    have hp : pt2Of (ix2 r p) = r.val / 1024 := by
      show 1 * (r.val / 1024 - 0) + 1 * (p.val / 256 - 0) = _
      omega
    have hl : loc2Of (ix2 r p) = ix2 ⟨r.val % 1024, by omega⟩ p := by
      funext a; match a with | ⟨0, _⟩ => rfl | ⟨1, _⟩ => exact Fin.ext (Nat.mod_eq_of_lt p.isLt)
    unfold G2
    rw [dif_pos (lt_of_eq_of_lt hp ht), outsAt0_sweep, hl, fold0_congr m c _ _ _ (by omega) hp]
  rw [hG]
  generalize hT : (⟨r.val / 1024, ht⟩ : Fin cfg0.N) = t
  have hv : t.val = r.val / 1024 := by rw [← hT]
  have hQ : (outsAt0 m c (r.val / 1024) ht) = outsAt0 m c t.val t.isLt := by rw [← hT]
  rw [hQ, out_eq, pay2_apply]
  refine congrArg (fun x : EReal => x) (Finset.sum_congr rfl fun k _ => congrArg₂ (fun x y : EReal => x * y) ((blk0 m c t _ k).trans (hrow_congr m c _ _ _ _ (by rw [hv]; dsimp only; omega) k)) (scr m c k _ t.val t.isLt))

end Cert.InProjIdxIdeal.Val

namespace Cert.InProjIdxRefIdeal.Val

open Cert.InProjIdxRefIdeal Cert.InProjIdxRefIdeal.Gen Cert.InProjIdxRefIdeal.Read
open Idealize.ShloMosaic Idealize.ShloMosaic.TcCoe Idealize.ShloMosaic.Tactic

section
variable (x0 : FVec Ideal S2x8192x2048 .bf16) (x1 : FVec Ideal S1x2048x11344 .f32)

theorem v3_apply (r : Fin 16384) (l : Fin 11344) :
    val_main_v3 (F := Ideal) x0 x1 (ix2 r l) = ∑ k : Fin 2048, (x0 (ix3 ⟨r.val / 8192, by omega⟩ ⟨r.val % 8192, by omega⟩ k) : EReal) * x1 (ix3 0 k l) := by
  unfold val_main_v3 val_main_v2 val_main_v1 val_main_v0
  pointwise

/-- A sum of products with the result's weights: the two key columns, the indexer's weights and zeros. -/
theorem v8_apply (r : Fin 16384) (p : Fin 256) :
    val_main_v8 (F := Ideal) x0 x1 (ix2 r p)
      = ∑ k : Fin 2048, (x0 (ix3 ⟨r.val / 8192, by omega⟩ ⟨r.val % 8192, by omega⟩ k) : EReal) * Cert.InProjIdxIdeal.Val.wc (fun k l => x1 (ix3 0 k l)) p k := by
  unfold val_main_v8 val_main_v7 val_main_v6 val_main_v5 val_main_v4 val_main_cst
  have hA := v3_apply x0 x1 r
  generalize val_main_v3 (F := Ideal) x0 x1 = A at hA
  unfold Cert.InProjIdxIdeal.Val.wc
  pointwise
  by_cases h : p.val < 64
  · simp only [dif_pos h]
    exact hA _
  · simp only [dif_neg h]
    by_cases h1 : p.val - 64 < 64
    · simp only [dif_pos h1]
      exact hA _
    · simp only [dif_neg h1]
      by_cases h2 : p.val - 64 - 64 < 16
      · simp only [dif_pos h2]
        exact hA _
      · simp only [dif_neg h2, mul_zero, Finset.sum_const_zero]

end

end Cert.InProjIdxRefIdeal.Val

end
-- ==== Proof.InProjIdx.Claim.lean ====
/-
  The value claim of this projection: the two runs.
-/
module

public import proofs.«01_k».proof.Defs
public import proofs.«01_k».proof.Proof.InProjIdx.Val
public import proofs.«01_k».proof.Proof.Gen.InProjIdxRefIdeal.Run

@[expose] public section

set_option maxRecDepth 16384

noncomputable section

namespace Cert.Proof.InProjIdx

open Idealize.ShloMosaic Idealize.SL.Sem Idealize.ShloMosaic.Tactic
open Cert.InProjIdxIdeal.Val

theorem res_eq (m : (ℓ : Loc Cert.InProjIdxIdeal.nD Cert.InProjIdxIdeal.τ Cert.InProjIdxIdeal.sig) → Buf (Elt Ideal) ℓ) (c : Dev Cert.InProjIdxIdeal.nD) :
    Cert.InProjIdxRefIdeal.Read.val_main_v8 (F := Ideal) (A0 m c) (A1 m c) = Cert.InProjIdxIdeal.Value.G2 m c := by
  funext y
  obtain ⟨r, p, rfl⟩ : ∃ (r : Fin 16384) (p : Fin 256), y = ix2 r p := ⟨y 0, y 1, by funext a; match a with | ⟨0, _⟩ => rfl | ⟨1, _⟩ => rfl⟩
  rw [Cert.InProjIdxRefIdeal.Val.v8_apply, G2_apply m c r p]
  rfl

theorem algebraic : Cert.algebraic_InProjIdxIdeal_InProjIdxRefIdeal := by
  intro m g m' g' hpre hagree
  refine ⟨fun c => Cert.InProjIdxIdeal.Value.G2 m c, ?_, ?_⟩
  · exact Cert.InProjIdxIdeal.Value.run m g
  · refine (θ_run Cert.InProjIdxRefIdeal.defs _ _).mono (fun _ h c => ⟨(h c).1.trans ?_, (h c).2⟩) (Cert.InProjIdxRefIdeal.Value.run (F := Ideal) m' g')
    rw [Cert.InProjIdxRefIdeal.Read.val_main_v8_eq, (hagree c).1, (hagree c).2]
    exact res_eq m c

end Cert.Proof.InProjIdx

end
-- ==== Proof.Adaln.Val.lean ====
/-
  The conditioning: the kernel's payloads, its blocks and the reference at an index.
-/
module

public import proofs.«01_k».proof.Proof.Gen.AdalnIdeal.Value
public import proofs.«01_k».proof.Proof.Gen.AdalnRefIdeal.Read
public import Idealize.ShloMosaic.Lib.Pointwise
public import Idealize.ShloMosaic.Lib.Pipeline.ValueKit

@[expose] public section

set_option maxRecDepth 16384

noncomputable section

namespace Cert.AdalnIdeal.Val

open Cert.AdalnIdeal Cert.AdalnIdeal.Gen Cert.AdalnIdeal.Value
open Idealize.ShloMosaic Idealize.ShloMosaic.TcCoe Idealize.ShloMosaic.Tactic

/-- The product of a number and its logistic. -/
def slu (g : EReal) : EReal :=
  g * Ideal.div (FloatOps.ofBits (F := Ideal) FTy.f32 0x3F800000#32) (FloatOps.ofBits (F := Ideal) FTy.f32 0x3F800000#32 + Ideal.exp (-g))

theorem pay1_apply (x : Vec Ideal S2048x2 .f32) (k : Fin 2048) (b : Fin 2) : k0_pay1 (F := Ideal) x (ix2 k b) = slu (x (ix2 k b)) := by
  unfold k0_pay1 slu
  pointwise
  rw [zero_sub]
theorem pay3_apply (x : Vec Ideal S2048x2 .f32) (w : Vec Ideal S2048x1024 .f32) (v : Vec Ideal S1x1024 .f32) (d : Fin 1024) :
    k0_pay3 (F := Ideal) x w v (ix2 0 d) = (∑ k : Fin 2048, slu (x (ix2 k 0)) * w (ix2 k d)) + v (ix2 0 d) := by
  simp only [← pay1_apply]
  unfold k0_pay3 k0_pay2
  generalize k0_pay1 (F := Ideal) x = X
  pointwise
theorem pay4_apply (x : Vec Ideal S2048x2 .f32) (w : Vec Ideal S2048x1024 .f32) (v : Vec Ideal S1x1024 .f32) (d : Fin 1024) :
    k0_pay4 (F := Ideal) x w v (ix2 0 d) = (∑ k : Fin 2048, slu (x (ix2 k 1)) * w (ix2 k d)) + v (ix2 0 d) := by
  simp only [← pay1_apply]
  unfold k0_pay4 k0_pay2
  generalize k0_pay1 (F := Ideal) x = X
  pointwise

variable (m : (ℓ : Loc nD τ sig) → Buf (Elt Ideal) ℓ)

/-- The arguments. -/
abbrev A0 (c : Dev nD) : FVec Ideal S2x2048 .f32 := m ((c.tc : Thread nD τ).loc main_arg0)
abbrev A1 (c : Dev nD) : FVec Ideal S1x2048x12288 .f32 := m ((c.tc : Thread nD τ).loc main_arg1)
abbrev A2 (c : Dev nD) : FVec Ideal S1x12288 .f32 := m ((c.tc : Thread nD τ).loc main_arg2)

theorem V2_apply (c : Dev nD) (k : Fin 2048) (b : Fin 2) : V m c main_v2 (ix2 k b) = A0 m c (ix2 b k) := by
  entry_read
  pointwise
theorem V0_apply (c : Dev nD) (k : Fin 2048) (n : Fin 12288) : V m c main_v0 (ix2 k n) = A1 m c (ix3 0 k n) := by
  entry_read
  pointwise
theorem V3_apply (c : Dev nD) (n : Fin 12288) : V m c main_v3 (ix2 0 n) = A2 m c (ix2 0 n) := by
  entry_read
  pointwise

theorem e0 : ∀ t : Fin cfg0.N, win0_0.index t = ![0, 0] :=
  (by decide +kernel : ∀ t : Fin grid0.N, win0_0.index t = ![0, 0])
theorem e1 : ∀ t : Fin cfg0.N, win0_1.index t = ![0, t.val] :=
  (by decide +kernel : ∀ t : Fin grid0.N, win0_1.index t = ![0, t.val])
theorem e2 : ∀ t : Fin cfg0.N, win0_2.index t = ![0, t.val] :=
  (by decide +kernel : ∀ t : Fin grid0.N, win0_2.index t = ![0, t.val])
theorem e3 : ∀ t : Fin cfg0.N, win0_3.index t = ![0, t.val] :=
  (by decide +kernel : ∀ t : Fin grid0.N, win0_3.index t = ![0, t.val])

theorem hN (t : Fin cfg0.N) : t.val < 12 := lt_of_lt_of_eq t.isLt N_0

/-- The column of the arrays column `d` of block `t` is. -/
def cl (t : Fin cfg0.N) (d : Fin 1024) : Fin 12288 := ⟨1024 * t.val + d.val, by have := hN t; omega⟩

abbrev B0 (c : Dev nD) (t : Fin cfg0.N) : FVec Ideal S2048x2 .f32 := iblk m c 0 t
abbrev B1 (c : Dev nD) (t : Fin cfg0.N) : FVec Ideal S2048x1024 .f32 := iblk m c 1 t
abbrev B2 (c : Dev nD) (t : Fin cfg0.N) : FVec Ideal S1x1024 .f32 := iblk m c 2 t

theorem blk0 (c : Dev nD) (t : Fin cfg0.N) (k : Fin 2048) (b : Fin 2) : B0 m c t (ix2 k b) = A0 m c (ix2 b k) := by
  refine Eq.trans ?_ (V2_apply m c k b)
  show iblk m c 0 t (ix2 k b) = _
  blk_simp [iblk]
  refine congrArg (V m c main_v2) ?_
  blk_ext [e0 t]
theorem blk1 (c : Dev nD) (t : Fin cfg0.N) (k : Fin 2048) (d : Fin 1024) : B1 m c t (ix2 k d) = A1 m c (ix3 0 k (cl t d)) := by
  refine Eq.trans ?_ (V0_apply m c k (cl t d))
  show iblk m c 1 t (ix2 k d) = _
  blk_simp [iblk]
  refine congrArg (V m c main_v0) ?_
  unfold cl
  blk_ext [e1 t]
theorem blk2 (c : Dev nD) (t : Fin cfg0.N) (d : Fin 1024) : B2 m c t (ix2 0 d) = A2 m c (ix2 0 (cl t d)) := by
  refine Eq.trans ?_ (V3_apply m c (cl t d))
  show iblk m c 2 t (ix2 0 d) = _
  blk_simp [iblk]
  refine congrArg (V m c main_v3) ?_
  unfold cl
  blk_ext [e2 t]

/-- An element of the conditioning. -/
def arow (c : Dev nD) (b : Fin 2) (n : Fin 12288) : EReal :=
  (∑ k : Fin 2048, slu (A0 m c (ix2 b k)) * A1 m c (ix3 0 k n)) + A2 m c (ix2 0 n)

/-- What the kernel leaves in its array. -/
def G3 (c : Dev nD) : FVec Ideal S2x12288 .f32 := fun y => arow m c (y 0) (y 1)

theorem p3_eq (c : Dev nD) (t : Fin cfg0.N) (d : Fin 1024) :
    k0_pay3 (F := Ideal) (B0 m c t) (B1 m c t) (B2 m c t) (ix2 0 d) = arow m c 0 (cl t d) := by
  rw [pay3_apply, blk2]
  unfold arow
  refine congrArg (fun x : EReal => x + (A2 m c _ : EReal)) (Finset.sum_congr rfl fun k _ => ?_)
  rw [blk0, blk1]
theorem p4_eq (c : Dev nD) (t : Fin cfg0.N) (d : Fin 1024) :
    k0_pay4 (F := Ideal) (B0 m c t) (B1 m c t) (B2 m c t) (ix2 0 d) = arow m c 1 (cl t d) := by
  rw [pay4_apply, blk2]
  unfold arow
  refine congrArg (fun x : EReal => x + (A2 m c _ : EReal)) (Finset.sum_congr rfl fun k _ => ?_)
  rw [blk0, blk1]

theorem ix2_surj (n0 n1 : ℕ) (y : (⟨2, ![n0, n1]⟩ : Shape).Idx) : ∃ (i : Fin n0) (d : Fin n1), y = ix2 i d :=
  ⟨y 0, y 1, by funext a; match a with | ⟨0, _⟩ => rfl | ⟨1, _⟩ => rfl⟩

theorem emb3 (t : Fin cfg0.N) (b : Fin 2) (d : Fin 1024) :
    ((View.whole main_v4).slice (win0_3.rect t)).emb (ix2 b d) = ix2 b (cl t d) := by
  unfold cl
  blk_ext [e3 t]

theorem final3 (c : Dev nD) : (dats m 0 c).arrAt 3 cfg0.N = G3 m c := by
  refine (dats m 0 c).arrAt_eq_of_covers 3 _ (by decide +kernel) fun t hf y => ?_
  blk_simp
  rw [after0_3]
  frame_out
  refine View.canon_apply_of_pieces (Val := Elt Ideal) (fun y => G3 m c (((View.whole main_v4).slice (win0_3.rect t)).emb y)) _ (fun p hp x => ?_) y (cover0_3 _ _ y)
  simp only [List.mem_cons, List.mem_nil_iff, or_false] at hp
  rcases hp with rfl | rfl
  · obtain ⟨i, d, rfl⟩ := ix2_surj 1 1024 x
    obtain rfl := Subsingleton.elim i 0
    have e : r0_4.emb (ix2 (0 : Fin 1) d) = ix2 (1 : Fin 2) d := by
      blk_ext []
    exact (p4_eq m c t d).trans (congrArg (G3 m c) ((congrArg _ e).trans (emb3 t 1 d))).symm
  · obtain ⟨i, d, rfl⟩ := ix2_surj 1 1024 x
    obtain rfl := Subsingleton.elim i 0
    have e : r0_3.emb (ix2 (0 : Fin 1) d) = ix2 (0 : Fin 2) d := by
      blk_ext []
    exact (p3_eq m c t d).trans (congrArg (G3 m c) ((congrArg _ e).trans (emb3 t 0 d))).symm

end Cert.AdalnIdeal.Val

namespace Cert.AdalnRefIdeal.Val

open Cert.AdalnRefIdeal Cert.AdalnRefIdeal.Gen Cert.AdalnRefIdeal.Read
open Idealize.ShloMosaic Idealize.ShloMosaic.TcCoe Idealize.ShloMosaic.Tactic
open Cert.AdalnIdeal.Val (slu)

section
variable (x0 : FVec Ideal S2x2048 .f32) (x1 : FVec Ideal S1x2048x12288 .f32) (x2 : FVec Ideal S1x12288 .f32)

theorem v0_apply (b : Fin 2) (k : Fin 2048) : val_main_v0 (F := Ideal) x0 (ix2 b k) = slu (x0 (ix2 b k)) := by
  unfold slu val_main_v0 val_main_call0_v5 val_main_call0_v4 val_main_call0_v3 val_main_call0_v2 val_main_call0_v1 val_main_call0_v0 val_main_call0_cst val_main_call0_cst_0
  pointwise
theorem v6_apply (b : Fin 2) (n : Fin 12288) :
    val_main_v6 (F := Ideal) x0 x1 x2 (ix2 b n) = (∑ k : Fin 2048, slu (x0 (ix2 b k)) * x1 (ix3 0 k n)) + x2 (ix2 0 n) := by
  simp only [← v0_apply]
  unfold val_main_v6 val_main_v5 val_main_v4 val_main_v3 val_main_v2 val_main_v1
  generalize val_main_v0 (F := Ideal) x0 = A
  pointwise

end

end Cert.AdalnRefIdeal.Val

end
-- ==== Proof.Adaln.Claim.lean ====
/-
  The value claim of the conditioning: the two runs.
-/
module

public import proofs.«01_k».proof.Defs
public import proofs.«01_k».proof.Proof.Adaln.Val
public import proofs.«01_k».proof.Proof.Gen.AdalnRefIdeal.Run

@[expose] public section

set_option maxRecDepth 16384

noncomputable section

namespace Cert.Proof.Adaln

open Idealize.ShloMosaic Idealize.SL.Sem Idealize.ShloMosaic.Tactic
open Cert.AdalnIdeal.Val

theorem res_eq (m : (ℓ : Loc Cert.AdalnIdeal.nD Cert.AdalnIdeal.τ Cert.AdalnIdeal.sig) → Buf (Elt Ideal) ℓ) (c : Dev Cert.AdalnIdeal.nD) :
    Cert.AdalnRefIdeal.Read.val_main_v6 (F := Ideal) (A0 m c) (A1 m c) (A2 m c) = G3 m c := by
  funext y
  obtain ⟨b, n, rfl⟩ := ix2_surj 2 12288 y
  exact Cert.AdalnRefIdeal.Val.v6_apply (A0 m c) (A1 m c) (A2 m c) b n

theorem algebraic : Cert.algebraic_AdalnIdeal_AdalnRefIdeal := by
  intro m g m' g' hpre hagree
  refine ⟨fun c => G3 m c, ?_, ?_⟩
  · exact (θ_run Cert.AdalnIdeal.defs _ _).mono (fun r h c => ⟨(h c).1.trans (final3 m c), (h c).2⟩) (Cert.AdalnIdeal.Value.run_blocks (F := Ideal) m g)
  · refine (θ_run Cert.AdalnRefIdeal.defs _ _).mono (fun _ h c => ⟨(h c).1.trans ?_, (h c).2⟩) (Cert.AdalnRefIdeal.Value.run (F := Ideal) m' g')
    rw [Cert.AdalnRefIdeal.Read.val_main_v6_eq, (hagree c).1, (hagree c).2.1, (hagree c).2.2]
    exact res_eq m c

end Cert.Proof.Adaln

end
-- ==== Proof.lean ====
/-
  The certificate's claims, each from the module that proves it.
-/
module

public import proofs.«01_k».proof.Defs
public import proofs.«01_k».proof.Proof.Sb.Run
public import proofs.«01_k».proof.Proof.Sb.Claim
public import proofs.«01_k».proof.Proof.SbBits.Run
public import proofs.«01_k».proof.Proof.Gen.Kernel
public import proofs.«01_k».proof.Proof.Gen.KernelIdeal
public import proofs.«01_k».proof.Proof.Gen.ReferenceIdeal.Run
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnAct.Frame
public import proofs.«01_k».proof.Proof.Gen.FfnActIdeal.Frame
public import proofs.«01_k».proof.Proof.Gen.FfnActIdeal.Value
public import proofs.«01_k».proof.Proof.Gen.MixOut.Frame
public import proofs.«01_k».proof.Proof.Gen.MixOutIdeal.Frame
public import proofs.«01_k».proof.Proof.Gen.MixOutIdeal.Value
public import proofs.«01_k».proof.Proof.Gen.InProjT.Frame
public import proofs.«01_k».proof.Proof.Gen.InProjTIdeal.Frame
public import proofs.«01_k».proof.Proof.Gen.InProjTIdeal.Value
public import proofs.«01_k».proof.Proof.Gen.InProj.Frame
public import proofs.«01_k».proof.Proof.Gen.InProjIdeal.Frame
public import proofs.«01_k».proof.Proof.Gen.InProjIdeal.Value
public import proofs.«01_k».proof.Proof.Gen.InProjGates.Frame
public import proofs.«01_k».proof.Proof.Gen.InProjGatesIdeal.Frame
public import proofs.«01_k».proof.Proof.Gen.InProjGatesIdeal.Value
public import proofs.«01_k».proof.Proof.Gen.FfnOutRefIdeal.Run
public import proofs.«01_k».proof.Proof.Gen.FfnOutRefIdeal.Read
public import proofs.«01_k».proof.Proof.Gen.FfnActRefIdeal.Run
public import proofs.«01_k».proof.Proof.Gen.FfnActRefIdeal.Read
public import proofs.«01_k».proof.Proof.Gen.MixOutRefIdeal.Run
public import proofs.«01_k».proof.Proof.Gen.MixOutRefIdeal.Read
public import proofs.«01_k».proof.Proof.Gen.InProjTRefIdeal.Run
public import proofs.«01_k».proof.Proof.Gen.InProjTRefIdeal.Read
public import proofs.«01_k».proof.Proof.Gen.InProjRefIdeal.Run
public import proofs.«01_k».proof.Proof.Gen.InProjRefIdeal.Read
public import proofs.«01_k».proof.Proof.Gen.InProjGatesRefIdeal.Run
public import proofs.«01_k».proof.Proof.Gen.InProjGatesRefIdeal.Read
public import proofs.«01_k».proof.Proof.Gen.NormMod.Frame
public import proofs.«01_k».proof.Proof.Gen.NormModIdeal.Frame
public import proofs.«01_k».proof.Proof.Gen.NormModIdeal.Value
public import proofs.«01_k».proof.Proof.Gen.NormModRefIdeal.Run
public import proofs.«01_k».proof.Proof.Gen.NormModRefIdeal.Read
public import proofs.«01_k».proof.Proof.Gen.InProjIdx.Frame
public import proofs.«01_k».proof.Proof.Gen.InProjIdxIdeal.Frame
public import proofs.«01_k».proof.Proof.Gen.InProjIdxIdeal.Value
public import proofs.«01_k».proof.Proof.Gen.InProjIdxRefIdeal.Run
public import proofs.«01_k».proof.Proof.Gen.InProjIdxRefIdeal.Read
public import proofs.«01_k».proof.Proof.Gen.Adaln.Frame
public import proofs.«01_k».proof.Proof.Gen.AdalnIdeal.Frame
public import proofs.«01_k».proof.Proof.Gen.AdalnIdeal.Value
public import proofs.«01_k».proof.Proof.Gen.AdalnRefIdeal.Run
public import proofs.«01_k».proof.Proof.Gen.AdalnRefIdeal.Read
public import proofs.«01_k».proof.Proof.FfnOut.Claim
public import proofs.«01_k».proof.Proof.FfnAct.Claim
public import proofs.«01_k».proof.Proof.MixOut.Claim
public import proofs.«01_k».proof.Proof.InProjT.Claim
public import proofs.«01_k».proof.Proof.InProj.Claim
public import proofs.«01_k».proof.Proof.InProjGates.Claim
public import proofs.«01_k».proof.Proof.NormMod.Claim
public import proofs.«01_k».proof.Proof.InProjIdx.Claim
public import proofs.«01_k».proof.Proof.Adaln.Claim
public import Idealize.ShloMosaic.Lib.Quiescent

@[expose] public section

noncomputable section

namespace Cert.Proof

open Idealize.ShloMosaic Idealize.SL.Sem

theorem frame_p : Cert.quiescent_Kernel := fun m ρ _ => Cert.Kernel.Sb.frame m ρ
theorem frame_pi : Cert.quiescent_KernelIdeal := fun m ρ _ => Cert.KernelIdeal.Sb.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant 104 is printed under its name, and the table gives the name the value `⊤`. -/
theorem preserves : Cert.preserves_Kernel_KernelIdeal :=
  IdealRules.named_const.statement Cert.KernelIdeal.κ "dead" .f32 0x42D00000#32 ⊤ rfl

theorem frame_ri_ffnOut : Cert.quiescent_FfnOutRefIdeal := fun m ρ _ =>
  (θ_run Cert.FfnOutRefIdeal.defs _ _).mono (fun r h => ⟨fun c => (h c).2,
      Idealize.ShloMosaic.sem_eq_zero_of_no_sems (by decide) r.2⟩)
    (Cert.FfnOutRefIdeal.Value.run (F := Ideal) m ρ)
theorem frame_ri_ffnAct : Cert.quiescent_FfnActRefIdeal := fun m ρ _ =>
  (θ_run Cert.FfnActRefIdeal.defs _ _).mono (fun r h => ⟨fun c => (h c).2,
      Idealize.ShloMosaic.sem_eq_zero_of_no_sems (by decide) r.2⟩)
    (Cert.FfnActRefIdeal.Value.run (F := Ideal) m ρ)
theorem frame_ri_mixOut : Cert.quiescent_MixOutRefIdeal := fun m ρ _ =>
  (θ_run Cert.MixOutRefIdeal.defs _ _).mono (fun r h => ⟨fun c => (h c).2.2,
      Idealize.ShloMosaic.sem_eq_zero_of_no_sems (by decide) r.2⟩)
    (Cert.MixOutRefIdeal.Value.run (F := Ideal) m ρ)
theorem frame_ri_inProjT : Cert.quiescent_InProjTRefIdeal := fun m ρ _ =>
  (θ_run Cert.InProjTRefIdeal.defs _ _).mono (fun r h => ⟨fun c => (h c).2,
      Idealize.ShloMosaic.sem_eq_zero_of_no_sems (by decide) r.2⟩)
    (Cert.InProjTRefIdeal.Value.run (F := Ideal) m ρ)
theorem frame_ri_inProj : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)
theorem frame_ri_inProjGates : Cert.quiescent_InProjGatesRefIdeal := fun m ρ _ =>
  (θ_run Cert.InProjGatesRefIdeal.defs _ _).mono (fun r h => ⟨fun c => (h c).2,
      Idealize.ShloMosaic.sem_eq_zero_of_no_sems (by decide) r.2⟩)
    (Cert.InProjGatesRefIdeal.Value.run (F := Ideal) m ρ)
theorem frame_ri_normMod : Cert.quiescent_NormModRefIdeal := fun m ρ _ =>
  (θ_run Cert.NormModRefIdeal.defs _ _).mono (fun r h => ⟨fun c => (h c).2,
      Idealize.ShloMosaic.sem_eq_zero_of_no_sems (by decide) r.2⟩)
    (Cert.NormModRefIdeal.Value.run (F := Ideal) m ρ)
theorem frame_ri_inProjIdx : Cert.quiescent_InProjIdxRefIdeal := fun m ρ _ =>
  (θ_run Cert.InProjIdxRefIdeal.defs _ _).mono (fun r h => ⟨fun c => (h c).2,
      Idealize.ShloMosaic.sem_eq_zero_of_no_sems (by decide) r.2⟩)
    (Cert.InProjIdxRefIdeal.Value.run (F := Ideal) m ρ)
theorem frame_ri_adaln : Cert.quiescent_AdalnRefIdeal := fun m ρ _ =>
  (θ_run Cert.AdalnRefIdeal.defs _ _).mono (fun r h => ⟨fun c => (h c).2,
      Idealize.ShloMosaic.sem_eq_zero_of_no_sems (by decide) r.2⟩)
    (Cert.AdalnRefIdeal.Value.run (F := Ideal) m ρ)

theorem claim : Cert.Claim :=
  ⟨Cert.Kernel.Gen.facts, Cert.KernelIdeal.Gen.facts, Cert.ReferenceIdeal.Gen.facts,
    Cert.FfnOut.Gen.facts, Cert.FfnOutIdeal.Gen.facts, Cert.FfnOutRefIdeal.Gen.facts,
    Cert.FfnAct.Gen.facts, Cert.FfnActIdeal.Gen.facts, Cert.FfnActRefIdeal.Gen.facts,
    Cert.MixOut.Gen.facts, Cert.MixOutIdeal.Gen.facts, Cert.MixOutRefIdeal.Gen.facts,
    Cert.InProjT.Gen.facts, Cert.InProjTIdeal.Gen.facts, Cert.InProjTRefIdeal.Gen.facts,
    Cert.InProj.Gen.facts, Cert.InProjIdeal.Gen.facts, Cert.InProjRefIdeal.Gen.facts,
    Cert.InProjGates.Gen.facts, Cert.InProjGatesIdeal.Gen.facts, Cert.InProjGatesRefIdeal.Gen.facts,
    Cert.NormMod.Gen.facts, Cert.NormModIdeal.Gen.facts, Cert.NormModRefIdeal.Gen.facts,
    Cert.InProjIdx.Gen.facts, Cert.InProjIdxIdeal.Gen.facts, Cert.InProjIdxRefIdeal.Gen.facts,
    Cert.Adaln.Gen.facts, Cert.AdalnIdeal.Gen.facts, Cert.AdalnRefIdeal.Gen.facts,
    Cert.Proof.Sb.preFacts,
    frame_p, frame_pi, fun m ρ _ => Cert.KernelIdeal.Sb.frame m ρ, frame_ri, fun m ρ _ => frame_ri m ρ trivial,
    fun m ρ _ => Cert.FfnOut.Gen.frame m ρ, fun m ρ _ => Cert.FfnOutIdeal.Gen.frame m ρ, frame_ri_ffnOut,
    fun m ρ _ => Cert.FfnAct.Gen.frame m ρ, fun m ρ _ => Cert.FfnActIdeal.Gen.frame m ρ, frame_ri_ffnAct,
    fun m ρ _ => Cert.MixOut.Gen.frame m ρ, fun m ρ _ => Cert.MixOutIdeal.Gen.frame m ρ, frame_ri_mixOut,
    fun m ρ _ => Cert.InProjT.Gen.frame m ρ, fun m ρ _ => Cert.InProjTIdeal.Gen.frame m ρ, frame_ri_inProjT,
    fun m ρ _ => Cert.InProj.Gen.frame m ρ, fun m ρ _ => Cert.InProjIdeal.Gen.frame m ρ, frame_ri_inProj,
    fun m ρ _ => Cert.InProjGates.Gen.frame m ρ, fun m ρ _ => Cert.InProjGatesIdeal.Gen.frame m ρ, frame_ri_inProjGates,
    fun m ρ _ => Cert.NormMod.Gen.frame m ρ, fun m ρ _ => Cert.NormModIdeal.Gen.frame m ρ, frame_ri_normMod,
    fun m ρ _ => Cert.InProjIdx.Gen.frame m ρ, fun m ρ _ => Cert.InProjIdxIdeal.Gen.frame m ρ, frame_ri_inProjIdx,
    fun m ρ _ => Cert.Adaln.Gen.frame m ρ, fun m ρ _ => Cert.AdalnIdeal.Gen.frame m ρ, frame_ri_adaln,
    preserves, Cert.Proof.Sb.algebraic,
    trivial, Cert.Proof.FfnOut.algebraic,
    trivial, Cert.Proof.FfnAct.algebraic,
    trivial, Cert.Proof.MixOut.algebraic,
    trivial, Cert.Proof.InProjT.algebraic,
    trivial, Cert.Proof.InProj.algebraic,
    trivial, Cert.Proof.InProjGates.algebraic,
    trivial, Cert.Proof.NormMod.algebraic,
    trivial, Cert.Proof.InProjIdx.algebraic,
    trivial, Cert.Proof.Adaln.algebraic⟩

end Cert.Proof

end
